-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lse [hPre_finite_lse : Cert.Pre_finite_lse.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lse.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lse [hPre_finite_lse : Cert.Pre_finite_lse.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lse.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13)
      ∧ r.2.mem ((c.tc : Thread Cert.ProjRefIdeal.nD Cert.ProjRefIdeal.τ).loc Cert.ProjRefIdeal.main_arg14) = m ((c.tc : Thread Cert.ProjRefIdeal.nD Cert.ProjRefIdeal.τ).loc Cert.ProjRefIdeal.main_arg14))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeIdeal_pre_finite_lse [hMergeIdeal : Cert.MergeIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lse m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_MergeRefIdeal_pre_finite_lse [hMergeRefIdeal : Cert.MergeRefIdeal.Facts] [hPre_finite_lse : Cert.Pre_finite_lse.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lse m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Proj_ProjIdeal : Prop :=
  IdealRules.named_const.Statement Cert.ProjIdeal.κ "tiny" .f32 0x179ABE15#32 ((5316911940649 / 5316911983139663491615228241121378304 : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
      ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)
      ∧ m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13)
      ∧ m' ((c.tc : Thread Cert.ProjRefIdeal.nD Cert.ProjRefIdeal.τ).loc Cert.ProjRefIdeal.main_arg14) = m ((c.tc : Thread Cert.ProjIdeal.nD Cert.ProjIdeal.τ).loc Cert.ProjIdeal.main_arg14)) →
    ∃ (v0 : (c : Dev Cert.ProjIdeal.nD) → Buf (Elt Ideal) ((c.tc : Thread Cert.ProjIdeal.nD Cert.ProjIdeal.τ).loc Cert.ProjIdeal.main_v53_0)) (v1 : (c : Dev Cert.ProjIdeal.nD) → Buf (Elt Ideal) ((c.tc : Thread Cert.ProjIdeal.nD Cert.ProjIdeal.τ).loc Cert.ProjIdeal.main_v53_1)) (v2 : (c : Dev Cert.ProjIdeal.nD) → Buf (Elt Ideal) ((c.tc : Thread Cert.ProjIdeal.nD Cert.ProjIdeal.τ).loc Cert.ProjIdeal.main_v53_2)) (v3 : (c : Dev Cert.ProjIdeal.nD) → Buf (Elt Ideal) ((c.tc : Thread Cert.ProjIdeal.nD Cert.ProjIdeal.τ).loc Cert.ProjIdeal.main_v53_3)) (v4 : (c : Dev Cert.ProjIdeal.nD) → Buf (Elt Ideal) ((c.tc : Thread Cert.ProjIdeal.nD Cert.ProjIdeal.τ).loc Cert.ProjIdeal.main_v53_4)) (v5 : (c : Dev Cert.ProjIdeal.nD) → Buf (Elt Ideal) ((c.tc : Thread Cert.ProjIdeal.nD Cert.ProjIdeal.τ).loc Cert.ProjIdeal.main_v53_5)) (v6 : (c : Dev Cert.ProjIdeal.nD) → Buf (Elt Ideal) ((c.tc : Thread Cert.ProjIdeal.nD Cert.ProjIdeal.τ).loc Cert.ProjIdeal.main_v53_6)) (v7 : (c : Dev Cert.ProjIdeal.nD) → Buf (Elt Ideal) ((c.tc : Thread Cert.ProjIdeal.nD Cert.ProjIdeal.τ).loc Cert.ProjIdeal.main_v53_7)) (v8 : (c : Dev Cert.ProjIdeal.nD) → Buf (Elt Ideal) ((c.tc : Thread Cert.ProjIdeal.nD Cert.ProjIdeal.τ).loc Cert.ProjIdeal.main_v53_8)) (v9 : (c : Dev Cert.ProjIdeal.nD) → Buf (Elt Ideal) ((c.tc : Thread Cert.ProjIdeal.nD Cert.ProjIdeal.τ).loc Cert.ProjIdeal.main_v53_9)) (v10 : (c : Dev Cert.ProjIdeal.nD) → Buf (Elt Ideal) ((c.tc : Thread Cert.ProjIdeal.nD Cert.ProjIdeal.τ).loc Cert.ProjIdeal.main_v53_10)) (v11 : (c : Dev Cert.ProjIdeal.nD) → Buf (Elt Ideal) ((c.tc : Thread Cert.ProjIdeal.nD Cert.ProjIdeal.τ).loc Cert.ProjIdeal.main_v53_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v53_0) = v0 c
          ∧ r.2.mem ((c.tc : Thread Cert.ProjIdeal.nD Cert.ProjIdeal.τ).loc Cert.ProjIdeal.main_v53_1) = v1 c
          ∧ r.2.mem ((c.tc : Thread Cert.ProjIdeal.nD Cert.ProjIdeal.τ).loc Cert.ProjIdeal.main_v53_2) = v2 c
          ∧ r.2.mem ((c.tc : Thread Cert.ProjIdeal.nD Cert.ProjIdeal.τ).loc Cert.ProjIdeal.main_v53_3) = v3 c
          ∧ r.2.mem ((c.tc : Thread Cert.ProjIdeal.nD Cert.ProjIdeal.τ).loc Cert.ProjIdeal.main_v53_4) = v4 c
          ∧ r.2.mem ((c.tc : Thread Cert.ProjIdeal.nD Cert.ProjIdeal.τ).loc Cert.ProjIdeal.main_v53_5) = v5 c
          ∧ r.2.mem ((c.tc : Thread Cert.ProjIdeal.nD Cert.ProjIdeal.τ).loc Cert.ProjIdeal.main_v53_6) = v6 c
          ∧ r.2.mem ((c.tc : Thread Cert.ProjIdeal.nD Cert.ProjIdeal.τ).loc Cert.ProjIdeal.main_v53_7) = v7 c
          ∧ r.2.mem ((c.tc : Thread Cert.ProjIdeal.nD Cert.ProjIdeal.τ).loc Cert.ProjIdeal.main_v53_8) = v8 c
          ∧ r.2.mem ((c.tc : Thread Cert.ProjIdeal.nD Cert.ProjIdeal.τ).loc Cert.ProjIdeal.main_v53_9) = v9 c
          ∧ r.2.mem ((c.tc : Thread Cert.ProjIdeal.nD Cert.ProjIdeal.τ).loc Cert.ProjIdeal.main_v53_10) = v10 c
          ∧ r.2.mem ((c.tc : Thread Cert.ProjIdeal.nD Cert.ProjIdeal.τ).loc Cert.ProjIdeal.main_v53_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v149) = v0 c
          ∧ r.2.mem ((c.tc : Thread Cert.ProjRefIdeal.nD Cert.ProjRefIdeal.τ).loc Cert.ProjRefIdeal.main_v150) = v1 c
          ∧ r.2.mem ((c.tc : Thread Cert.ProjRefIdeal.nD Cert.ProjRefIdeal.τ).loc Cert.ProjRefIdeal.main_v151) = v2 c
          ∧ r.2.mem ((c.tc : Thread Cert.ProjRefIdeal.nD Cert.ProjRefIdeal.τ).loc Cert.ProjRefIdeal.main_v152) = v3 c
          ∧ r.2.mem ((c.tc : Thread Cert.ProjRefIdeal.nD Cert.ProjRefIdeal.τ).loc Cert.ProjRefIdeal.main_v153) = v4 c
          ∧ r.2.mem ((c.tc : Thread Cert.ProjRefIdeal.nD Cert.ProjRefIdeal.τ).loc Cert.ProjRefIdeal.main_v154) = v5 c
          ∧ r.2.mem ((c.tc : Thread Cert.ProjRefIdeal.nD Cert.ProjRefIdeal.τ).loc Cert.ProjRefIdeal.main_v155) = v6 c
          ∧ r.2.mem ((c.tc : Thread Cert.ProjRefIdeal.nD Cert.ProjRefIdeal.τ).loc Cert.ProjRefIdeal.main_v156) = v7 c
          ∧ r.2.mem ((c.tc : Thread Cert.ProjRefIdeal.nD Cert.ProjRefIdeal.τ).loc Cert.ProjRefIdeal.main_v158) = v8 c
          ∧ r.2.mem ((c.tc : Thread Cert.ProjRefIdeal.nD Cert.ProjRefIdeal.τ).loc Cert.ProjRefIdeal.main_v160) = v9 c
          ∧ r.2.mem ((c.tc : Thread Cert.ProjRefIdeal.nD Cert.ProjRefIdeal.τ).loc Cert.ProjRefIdeal.main_v162) = v10 c
          ∧ r.2.mem ((c.tc : Thread Cert.ProjRefIdeal.nD Cert.ProjRefIdeal.τ).loc Cert.ProjRefIdeal.main_v163) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12)
          ∧ r.2.mem ((c.tc : Thread Cert.ProjRefIdeal.nD Cert.ProjRefIdeal.τ).loc Cert.ProjRefIdeal.main_arg13) = m' ((c.tc : Thread Cert.ProjRefIdeal.nD Cert.ProjRefIdeal.τ).loc Cert.ProjRefIdeal.main_arg13)
          ∧ r.2.mem ((c.tc : Thread Cert.ProjRefIdeal.nD Cert.ProjRefIdeal.τ).loc Cert.ProjRefIdeal.main_arg14) = m' ((c.tc : Thread Cert.ProjRefIdeal.nD Cert.ProjRefIdeal.τ).loc Cert.ProjRefIdeal.main_arg14))

def preserves_Attn_AttnIdeal : Prop :=
  IdealRules.named_const.Statement Cert.AttnIdeal.κ "mask" .f32 0xF149F2CA#32 ⊥

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v15_0)) (v1 : (c : Dev Cert.AttnIdeal.nD) → Buf (Elt Ideal) ((c.tc : Thread Cert.AttnIdeal.nD Cert.AttnIdeal.τ).loc Cert.AttnIdeal.main_v15_1)) (v2 : (c : Dev Cert.AttnIdeal.nD) → Buf (Elt Ideal) ((c.tc : Thread Cert.AttnIdeal.nD Cert.AttnIdeal.τ).loc Cert.AttnIdeal.main_v15_2)) (v3 : (c : Dev Cert.AttnIdeal.nD) → Buf (Elt Ideal) ((c.tc : Thread Cert.AttnIdeal.nD Cert.AttnIdeal.τ).loc Cert.AttnIdeal.main_v15_3)) (v4 : (c : Dev Cert.AttnIdeal.nD) → Buf (Elt Ideal) ((c.tc : Thread Cert.AttnIdeal.nD Cert.AttnIdeal.τ).loc Cert.AttnIdeal.main_v15_4)) (v5 : (c : Dev Cert.AttnIdeal.nD) → Buf (Elt Ideal) ((c.tc : Thread Cert.AttnIdeal.nD Cert.AttnIdeal.τ).loc Cert.AttnIdeal.main_v15_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15_0) = v0 c
          ∧ r.2.mem ((c.tc : Thread Cert.AttnIdeal.nD Cert.AttnIdeal.τ).loc Cert.AttnIdeal.main_v15_1) = v1 c
          ∧ r.2.mem ((c.tc : Thread Cert.AttnIdeal.nD Cert.AttnIdeal.τ).loc Cert.AttnIdeal.main_v15_2) = v2 c
          ∧ r.2.mem ((c.tc : Thread Cert.AttnIdeal.nD Cert.AttnIdeal.τ).loc Cert.AttnIdeal.main_v15_3) = v3 c
          ∧ r.2.mem ((c.tc : Thread Cert.AttnIdeal.nD Cert.AttnIdeal.τ).loc Cert.AttnIdeal.main_v15_4) = v4 c
          ∧ r.2.mem ((c.tc : Thread Cert.AttnIdeal.nD Cert.AttnIdeal.τ).loc Cert.AttnIdeal.main_v15_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_v74) = v1 c
          ∧ r.2.mem ((c.tc : Thread Cert.AttnRefIdeal.nD Cert.AttnRefIdeal.τ).loc Cert.AttnRefIdeal.main_v140) = v2 c
          ∧ r.2.mem ((c.tc : Thread Cert.AttnRefIdeal.nD Cert.AttnRefIdeal.τ).loc Cert.AttnRefIdeal.main_v143) = v3 c
          ∧ r.2.mem ((c.tc : Thread Cert.AttnRefIdeal.nD Cert.AttnRefIdeal.τ).loc Cert.AttnRefIdeal.main_v209) = v4 c
          ∧ r.2.mem ((c.tc : Thread Cert.AttnRefIdeal.nD Cert.AttnRefIdeal.τ).loc Cert.AttnRefIdeal.main_v212) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Merge_MergeIdeal : Prop :=
  True

def algebraic_MergeIdeal_MergeRefIdeal_pre_finite_lse [hMergeIdeal : Cert.MergeIdeal.Facts] [hMergeRefIdeal : Cert.MergeRefIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lse m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hPre_finite_qk : Cert.Pre_finite_qk.Facts) (hPre_finite_lse : Cert.Pre_finite_lse.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Merge (hMerge := hMerge)
    ∧ quiescent_MergeIdeal (hMergeIdeal := hMergeIdeal)
    ∧ quiescent_MergeIdeal_pre_finite_lse (hMergeIdeal := hMergeIdeal) (hPre_finite_lse := hPre_finite_lse)
    ∧ quiescent_MergeRefIdeal (hMergeRefIdeal := hMergeRefIdeal)
    ∧ quiescent_MergeRefIdeal_pre_finite_lse (hMergeRefIdeal := hMergeRefIdeal) (hPre_finite_lse := hPre_finite_lse)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Merge_MergeIdeal
    ∧ algebraic_MergeIdeal_MergeRefIdeal_pre_finite_lse (hMergeIdeal := hMergeIdeal) (hMergeRefIdeal := hMergeRefIdeal) (hPre_finite_lse := hPre_finite_lse)
-- ==== Pre_finite_lse.lean ====
abbrev S32768x1024 : Shape := ⟨2, ![32768, 1024]⟩
abbrev S32768x2048 : Shape := ⟨2, ![32768, 2048]⟩
abbrev S32768x256 : Shape := ⟨2, ![32768, 256]⟩
abbrev S1x1024 : Shape := ⟨2, ![1, 1024]⟩
abbrev S1x1024x1024 : Shape := ⟨3, ![1, 1024, 1024]⟩
abbrev S1x768x1024 : Shape := ⟨3, ![1, 768, 1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x1024 .f32) (main_arg1 : FVec F S32768x1024 .f32) (main_arg2 : FVec F S32768x1024 .f32) (main_arg3 : FVec F S32768x1024 .f32) (main_arg4 : FVec F S32768x2048 .f32) (main_arg5 : FVec F S32768x256 .f32) (main_arg6 : FVec F S32768x256 .f32) (main_arg7 : FVec F S32768x256 .f32) (main_arg8 : FVec F S32768x256 .f32) (main_arg9 : FVec F S32768x256 .f32) (main_arg10 : FVec F S32768x256 .f32) (main_arg11 : FVec F S1x1024 .f32) (main_arg12 : FVec F S1x1024 .f32) (main_arg13 : FVec F S1x1024x1024 .f32) (main_arg14 : FVec F S1x768x1024 .f32) (main_arg15 : FVec F S1x1024x1024 .f32) : IVec S_ 1 :=
  let main_v0 : FVec F S32768x256 .f32 := Host.absf main_arg6
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg8
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg10
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  main_v13
-- ==== Pre_finite_qk.lean ====
abbrev S32768x768 : Shape := ⟨2, ![32768, 768]⟩
abbrev S_ : Shape := ⟨0, ![]⟩

class Facts : Prop where
  bitsLt_bf16_f32 : FTy.bits .bf16 < FTy.bits .f32
  bcast_S_S32768x768 : S_.BroadcastsInDim S32768x768 (![] : Fin 0 → Fin S32768x768.rank)
  reducesTo_S32768x768_S_d0_1 : S32768x768.ReducesTo [0, 1] S_
  h_S_ : 0 < S_.numel

variable [Facts]

def fn {F : FTy → Type} [FloatOps F] (main_arg0 : FVec F S32768x768 .bf16) (main_arg1 : FVec F S32768x768 .bf16) (main_arg2 : FVec F S32768x768 .bf16) : IVec S_ 1 :=
  let main_v0 : FVec F S32768x768 .f32 := (extf .f32 · bitsLt_bf16_f32) main_arg0
  let main_v1 : FVec F S32768x768 .f32 := Host.absf main_v0
  let main_cst : FVec F S_ .f32 := constant S_ .f32 0x7F800000#32
  let main_v2 : FVec F S32768x768 .f32 := broadcastInDim S32768x768 ![] bcast_S_S32768x768 main_cst
  let main_v3 : IVec S32768x768 1 := cmpf .olt main_v1 main_v2
  let main_c : IVec S_ 1 := constantI S_ 1 1#1
  let main_v4 : IVec S_ 1 := (fun x v => Host.reduce IntOp.andi x v reducesTo_S32768x768_S_d0_1 h_S_) main_v3 main_c
  let main_v5 : FVec F S32768x768 .f32 := (extf .f32 · bitsLt_bf16_f32) main_arg1
  let main_v6 : FVec F S32768x768 .f32 := Host.absf main_v5
  let main_cst_0 : FVec F S_ .f32 := constant S_ .f32 0x7F800000#32
  let main_v7 : FVec F S32768x768 .f32 := broadcastInDim S32768x768 ![] bcast_S_S32768x768 main_cst_0
  let main_v8 : IVec S32768x768 1 := cmpf .olt main_v6 main_v7
  let main_c_1 : IVec S_ 1 := constantI S_ 1 1#1
  let main_v9 : IVec S_ 1 := (fun x v => Host.reduce IntOp.andi x v reducesTo_S32768x768_S_d0_1 h_S_) main_v8 main_c_1
  let main_v10 : IVec S_ 1 := andi main_v4 main_v9
  main_v10
-- ==== Ffn.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S32768x1024, .f32⟩
  | .hbm, ⟨5, _⟩ => ⟨S1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1024x5632, .f32⟩
  | .hbm, ⟨22, _⟩ => ⟨S2816x1024, .f32⟩
  | .hbm, ⟨23, _⟩ => ⟨S8x4096x5632, .f32⟩
  | .hbm, ⟨24, _⟩ => ⟨S8x4096x2816, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x1024, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x7712 : Shape := ⟨3, ![1, 1024, 7712]⟩
abbrev S1x2048 : Shape := ⟨2, ![1, 2048]⟩
abbrev S1x3360 : Shape := ⟨2, ![1, 3360]⟩
abbrev S1x64x1024 : Shape := ⟨3, ![1, 64, 1024]⟩
abbrev S1x160x1024 : Shape := ⟨3, ![1, 160, 1024]⟩
abbrev S1x16x64 : Shape := ⟨3, ![1, 16, 64]⟩
abbrev S1x64 : Shape := ⟨2, ![1, 64]⟩
abbrev S32768x1024 : Shape := ⟨2, ![32768, 1024]⟩
abbrev S1024 : Shape := ⟨1, ![1024]⟩
abbrev S1024x7712 : Shape := ⟨2, ![1024, 7712]⟩
abbrev S2048 : Shape := ⟨1, ![2048]⟩
abbrev S3360 : Shape := ⟨1, ![3360]⟩
abbrev S64x1024 : Shape := ⟨2, ![64, 1024]⟩
abbrev S160x1024 : Shape := ⟨2, ![160, 1024]⟩
abbrev S16x64 : Shape := ⟨2, ![16, 64]⟩
abbrev S64 : Shape := ⟨1, ![64]⟩
abbrev S1024x3360 : Shape := ⟨2, ![1024, 3360]⟩
abbrev S_ : Shape := ⟨0, ![]⟩
abbrev S1024x96 : Shape := ⟨2, ![1024, 96]⟩
abbrev S1024x4352 : Shape := ⟨2, ![1024, 4352]⟩
abbrev S1024x7808 : Shape := ⟨2, ![1024, 7808]⟩
abbrev S3456 : Shape := ⟨1, ![3456]⟩
abbrev S1x3456 : Shape := ⟨2, ![1, 3456]⟩
abbrev S128x1024 : Shape := ⟨2, ![128, 1024]⟩
abbrev S256x1024 : Shape := ⟨2, ![256, 1024]⟩
abbrev S12x64 : Shape := ⟨2, ![12, 64]⟩
abbrev S768 : Shape := ⟨1, ![768]⟩
abbrev S1x768 : Shape := ⟨2, ![1, 768]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x768 : Shape := ⟨2, ![32768, 768]⟩
abbrev S32768x2048 : Shape := ⟨2, ![32768, 2048]⟩
abbrev S256x768 : Shape := ⟨2, ![256, 768]⟩
abbrev S256x2048 : Shape := ⟨2, ![256, 2048]⟩
abbrev S1024x3456 : Shape := ⟨2, ![1024, 3456]⟩
abbrev S256x3456 : Shape := ⟨2, ![256, 3456]⟩
abbrev S256x128 : Shape := ⟨2, ![256, 128]⟩
abbrev S1024x2304 : Shape := ⟨2, ![1024, 2304]⟩
abbrev S256x2304 : Shape := ⟨2, ![256, 2304]⟩
abbrev S1024x2048 : Shape := ⟨2, ![1024, 2048]⟩

abbrev nBuf : Space → Nat
  | .hbm => 107
  | .vmem => 42
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x7712, .f32⟩
  | .hbm, ⟨3, _⟩ => ⟨S1x2048, .f32⟩
  | .hbm, ⟨4, _⟩ => ⟨S1x3360, .f32⟩
  | .hbm, ⟨5, _⟩ => ⟨S1x1024, .f32⟩
  | .hbm, ⟨6, _⟩ => ⟨S1x64x1024, .f32⟩
  | .hbm, ⟨7, _⟩ => ⟨S1x1024, .f32⟩
  | .hbm, ⟨8, _⟩ => ⟨S1x64x1024, .f32⟩
  | .hbm, ⟨9, _⟩ => ⟨S1x160x1024, .f32⟩
  | .hbm, ⟨10, _⟩ => ⟨S1x1024, .f32⟩
  | .hbm, ⟨11, _⟩ => ⟨S1x1024, .f32⟩
  | .hbm, ⟨12, _⟩ => ⟨S1x16x64, .f32⟩
  | .hbm, ⟨13, _⟩ => ⟨S1x64, .f32⟩
  | .hbm, ⟨14, _⟩ => ⟨S1x64, .f32⟩
  | .hbm, ⟨15, _⟩ => ⟨S32768x1024, .f32⟩
  | .hbm, ⟨16, _⟩ => ⟨S1024, .f32⟩
  | .hbm, ⟨17, _⟩ => ⟨S1024x7712, .f32⟩
  | .hbm, ⟨18, _⟩ => ⟨S2048, .f32⟩
  | .hbm, ⟨19, _⟩ => ⟨S3360, .f32⟩
  | .hbm, ⟨20, _⟩ => ⟨S1024, .f32⟩
  | .hbm, ⟨21, _⟩ => ⟨S64x1024, .f32⟩
  | .hbm, ⟨22, _⟩ => ⟨S1024, .f32⟩
  | .hbm, ⟨23, _⟩ => ⟨S64x1024, .f32⟩
  | .hbm, ⟨24, _⟩ => ⟨S160x1024, .f32⟩
  | .hbm, ⟨25, _⟩ => ⟨S1024, .f32⟩
  | .hbm, ⟨26, _⟩ => ⟨S1024, .f32⟩
  | .hbm, ⟨27, _⟩ => ⟨S16x64, .f32⟩
  | .hbm, ⟨28, _⟩ => ⟨S64, .f32⟩
  | .hbm, ⟨29, _⟩ => ⟨S64, .f32⟩
  | .hbm, ⟨30, _⟩ => ⟨S1024x3360, .f32⟩
  | .hbm, ⟨31, _⟩ => ⟨S_, .f32⟩
  | .hbm, ⟨32, _⟩ => ⟨S1024x96, .f32⟩
  | .hbm, ⟨33, _⟩ => ⟨S1024x4352, .f32⟩
  | .hbm, ⟨34, _⟩ => ⟨S1024x7808, .f32⟩
  | .hbm, ⟨35, _⟩ => ⟨S1024x7808, .bf16⟩
  | .hbm, ⟨36, _⟩ => ⟨S_, .i32⟩
  | .hbm, ⟨37, _⟩ => ⟨S_, .f32⟩
  | .hbm, ⟨38, _⟩ => ⟨S3456, .f32⟩
  | .hbm, ⟨39, _⟩ => ⟨S1x3456, .f32⟩
  | .hbm, ⟨40, _⟩ => ⟨S_, .i32⟩
  | .hbm, ⟨41, _⟩ => ⟨S_, .f32⟩
  | .hbm, ⟨42, _⟩ => ⟨S128x1024, .f32⟩
  | .hbm, ⟨43, _⟩ => ⟨S128x1024, .bf16⟩
  | .hbm, ⟨44, _⟩ => ⟨S_, .i32⟩
  | .hbm, ⟨45, _⟩ => ⟨S_, .f32⟩
  | .hbm, ⟨46, _⟩ => ⟨S128x1024, .f32⟩
  | .hbm, ⟨47, _⟩ => ⟨S128x1024, .bf16⟩
  | .hbm, ⟨48, _⟩ => ⟨S_, .i32⟩
  | .hbm, ⟨49, _⟩ => ⟨S_, .f32⟩
  | .hbm, ⟨50, _⟩ => ⟨S256x1024, .f32⟩
  | .hbm, ⟨51, _⟩ => ⟨S256x1024, .bf16⟩
  | .hbm, ⟨52, _⟩ => ⟨S1x64, .f32⟩
  | .hbm, ⟨53, _⟩ => ⟨S12x64, .f32⟩
  | .hbm, ⟨54, _⟩ => ⟨S768, .f32⟩
  | .hbm, ⟨55, _⟩ => ⟨S_, .f32⟩
  | .hbm, ⟨56, _⟩ => ⟨S768, .f32⟩
  | .hbm, ⟨57, _⟩ => ⟨S768, .f32⟩
  | .hbm, ⟨58, _⟩ => ⟨S1x768, .f32⟩
  | .hbm, ⟨59, _⟩ => ⟨S1x64, .f32⟩
  | .hbm, ⟨60, _⟩ => ⟨S12x64, .f32⟩
  | .hbm, ⟨61, _⟩ => ⟨S768, .f32⟩
  | .hbm, ⟨62, _⟩ => ⟨S1x768, .f32⟩
  | .hbm, ⟨63, _⟩ => ⟨S256, .i32⟩
  | .hbm, ⟨64, _⟩ => ⟨S_, .i32⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S256, .i32⟩
  | .hbm, ⟨73, _⟩ => ⟨S256, .i32⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S256, .i1⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S256x1, .i32⟩
  | .hbm, ⟨83, _⟩ => ⟨S1x256, .i32⟩
  | .hbm, ⟨84, _⟩ => ⟨S256x256, .i32⟩
  | .hbm, ⟨85, _⟩ => ⟨S256x256, .i32⟩
  | .hbm, ⟨86, _⟩ => ⟨S256x256, .i1⟩
  | .hbm, ⟨87, _⟩ => ⟨S256x256, .bf16⟩
  | .hbm, ⟨88, _⟩ => ⟨S1x1024, .f32⟩
  | .hbm, ⟨89, _⟩ => ⟨S1x2048, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S32768x1024, .f32⟩
  | .hbm, ⟨99, _⟩ => ⟨S32768x1024, .f32⟩
  | .hbm, ⟨100, _⟩ => ⟨S32768x1024, .f32⟩
  | .hbm, ⟨101, _⟩ => ⟨S32768x1024, .f32⟩
  | .hbm, ⟨102, _⟩ => ⟨S32768x1024, .f32⟩
  | .hbm, ⟨103, _⟩ => ⟨S32768x768, .bf16⟩
  | .hbm, ⟨104, _⟩ => ⟨S32768x768, .bf16⟩
  | .hbm, ⟨105, _⟩ => ⟨S32768x768, .bf16⟩
  | .hbm, ⟨106, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7808, .bf16⟩
  | .local _ .vmem, ⟨4, _⟩ => ⟨S1x2048, .f32⟩
  | .local _ .vmem, ⟨5, _⟩ => ⟨S1x3456, .f32⟩
  | .local _ .vmem, ⟨6, _⟩ => ⟨S1x1024, .f32⟩
  | .local _ .vmem, ⟨7, _⟩ => ⟨S128x1024, .bf16⟩
  | .local _ .vmem, ⟨8, _⟩ => ⟨S1x1024, .f32⟩
  | .local _ .vmem, ⟨9, _⟩ => ⟨S128x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x768, .f32⟩
  | .local _ .vmem, ⟨15, _⟩ => ⟨S1x768, .f32⟩
  | .local _ .vmem, ⟨16, _⟩ => ⟨S256x256, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x768, .bf16⟩
  | .local _ .vmem, ⟨34, _⟩ => ⟨S256x768, .bf16⟩
  | .local _ .vmem, ⟨35, _⟩ => ⟨S256x768, .bf16⟩
  | .local _ .vmem, ⟨36, _⟩ => ⟨S256x768, .bf16⟩
  | .local _ .vmem, ⟨37, _⟩ => ⟨S256x768, .bf16⟩
  | .local _ .vmem, ⟨38, _⟩ => ⟨S256x768, .bf16⟩
  | .local _ .vmem, ⟨39, _⟩ => ⟨S256x2048, .f32⟩
  | .local _ .vmem, ⟨40, _⟩ => ⟨S256x2048, .f32⟩
  | .local _ .vmem, ⟨41, _⟩ => ⟨S1x3456, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_c_0 : Ref sig .tc := ⟨.hbm, 40, rfl⟩
abbrev main_call1_v0 : Ref sig .tc := ⟨.hbm, 41, rfl⟩
abbrev main_v22 : Ref sig .tc := ⟨.hbm, 42, rfl⟩
abbrev main_v23 : Ref sig .tc := ⟨.hbm, 43, rfl⟩
abbrev main_c_1 : Ref sig .tc := ⟨.hbm, 44, rfl⟩
abbrev main_call2_v0 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_call3_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_c : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_0 : Ref sig .tc := ⟨.hbm, 78, rfl⟩
abbrev main_call4_v12 : Ref sig .tc := ⟨.hbm, 79, rfl⟩
abbrev main_call4_v13 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53_0 : Ref sig .tc := ⟨.hbm, 95, rfl⟩
abbrev main_v53_1 : Ref sig .tc := ⟨.hbm, 96, rfl⟩
abbrev main_v53_2 : Ref sig .tc := ⟨.hbm, 97, rfl⟩
abbrev main_v53_3 : Ref sig .tc := ⟨.hbm, 98, rfl⟩
abbrev main_v53_4 : Ref sig .tc := ⟨.hbm, 99, rfl⟩
abbrev main_v53_5 : Ref sig .tc := ⟨.hbm, 100, rfl⟩
abbrev main_v53_6 : Ref sig .tc := ⟨.hbm, 101, rfl⟩
abbrev main_v53_7 : Ref sig .tc := ⟨.hbm, 102, rfl⟩
abbrev main_v53_8 : Ref sig .tc := ⟨.hbm, 103, rfl⟩
abbrev main_v53_9 : Ref sig .tc := ⟨.hbm, 104, rfl⟩
abbrev main_v53_10 : Ref sig .tc := ⟨.hbm, 105, rfl⟩
abbrev main_v53_11 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7808 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x768 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x768 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x768 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x2048 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ProjIdeal.lean ====
variable {F : FTy → Type} [FloatOps F] [Named F]
def κ : String → Option EReal := fun
  | "tiny" => some ((5316911940649 / 5316911983139663491615228241121378304 : ℝ) : EReal)
  | _ => none
-- ==== ProjRefIdeal.lean ====
abbrev S8x4096x1024 : Shape := ⟨3, ![8, 4096, 1024]⟩
abbrev S1x1024 : Shape := ⟨2, ![1, 1024]⟩
abbrev S1x1024x7712 : Shape := ⟨3, ![1, 1024, 7712]⟩
abbrev S1x2048 : Shape := ⟨2, ![1, 2048]⟩
abbrev S1x3360 : Shape := ⟨2, ![1, 3360]⟩
abbrev S1x64x1024 : Shape := ⟨3, ![1, 64, 1024]⟩
abbrev S1x160x1024 : Shape := ⟨3, ![1, 160, 1024]⟩
abbrev S1x16x64 : Shape := ⟨3, ![1, 16, 64]⟩
abbrev S1x64 : Shape := ⟨2, ![1, 64]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x7712 : Shape := ⟨2, ![1024, 7712]⟩
abbrev S8x4096x7712 : Shape := ⟨3, ![8, 4096, 7712]⟩
abbrev S8x4096x3360 : Shape := ⟨3, ![8, 4096, 3360]⟩
abbrev S8x4096x768 : Shape := ⟨3, ![8, 4096, 768]⟩
abbrev S8x4096x2048 : Shape := ⟨3, ![8, 4096, 2048]⟩
abbrev S3360 : Shape := ⟨1, ![3360]⟩
abbrev S8x1x3360 : Shape := ⟨3, ![8, 1, 3360]⟩
abbrev S8x4095x3360 : Shape := ⟨3, ![8, 4095, 3360]⟩
abbrev S1x1x3360 : Shape := ⟨3, ![1, 1, 3360]⟩
abbrev S8x4096x64 : Shape := ⟨3, ![8, 4096, 64]⟩
abbrev S8x4096x160 : Shape := ⟨3, ![8, 4096, 160]⟩
abbrev S64x1024 : Shape := ⟨2, ![64, 1024]⟩
abbrev S160x1024 : Shape := ⟨2, ![160, 1024]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S16x64 : Shape := ⟨2, ![16, 64]⟩
abbrev S1x1x16x64 : Shape := ⟨4, ![1, 1, 16, 64]⟩
abbrev S8x4096x12x64 : Shape := ⟨4, ![8, 4096, 12, 64]⟩
abbrev S64 : Shape := ⟨1, ![64]⟩
abbrev S8x4096x12 : Shape := ⟨3, ![8, 4096, 12]⟩
abbrev S8x4096x12x1 : Shape := ⟨4, ![8, 4096, 12, 1]⟩
abbrev S1x1x1x64 : Shape := ⟨4, ![1, 1, 1, 64]⟩
abbrev S2048 : Shape := ⟨1, ![2048]⟩
abbrev S1x1x2048 : Shape := ⟨3, ![1, 1, 2048]⟩
abbrev S32768x1024 : Shape := ⟨2, ![32768, 1024]⟩
abbrev S32768x768 : Shape := ⟨2, ![32768, 768]⟩
abbrev S32768x2048 : Shape := ⟨2, ![32768, 2048]⟩

abbrev nBuf : Space → Nat
  | .hbm => 215
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x7712, .f32⟩
  | 3 => ⟨S1x2048, .f32⟩
  | 4 => ⟨S1x3360, .f32⟩
  | 5 => ⟨S1x1024, .f32⟩
  | 6 => ⟨S1x64x1024, .f32⟩
  | 7 => ⟨S1x1024, .f32⟩
  | 8 => ⟨S1x64x1024, .f32⟩
  | 9 => ⟨S1x160x1024, .f32⟩
  | 10 => ⟨S1x1024, .f32⟩
  | 11 => ⟨S1x1024, .f32⟩
  | 12 => ⟨S1x16x64, .f32⟩
  | 13 => ⟨S1x64, .f32⟩
  | 14 => ⟨S1x64, .f32⟩
  | 15 => ⟨S1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S1024x7712, .f32⟩
  | 33 => ⟨S8x4096x7712, .f32⟩
  | 34 => ⟨S8x4096x3360, .f32⟩
  | 35 => ⟨S8x4096x768, .f32⟩
  | 36 => ⟨S8x4096x768, .f32⟩
  | 37 => ⟨S8x4096x768, .f32⟩
  | 38 => ⟨S8x4096x2048, .f32⟩
  | 39 => ⟨S3360, .f32⟩
  | 40 => ⟨S_, .f32⟩
  | 41 => ⟨S8x1x3360, .f32⟩
  | 42 => ⟨S8x4095x3360, .f32⟩
  | 43 => ⟨S8x4096x3360, .f32⟩
  | 44 => ⟨S8x4096x3360, .f32⟩
  | 45 => ⟨S1x1x3360, .f32⟩
  | 46 => ⟨S8x4096x3360, .f32⟩
  | 47 => ⟨S8x4096x3360, .f32⟩
  | 48 => ⟨S8x4096x3360, .f32⟩
  | 49 => ⟨S8x4096x1024, .f32⟩
  | 50 => ⟨S8x4096x1024, .f32⟩
  | 51 => ⟨S8x4096x1024, .f32⟩
  | 52 => ⟨S8x4096x64, .f32⟩
  | 53 => ⟨S8x4096x64, .f32⟩
  | 54 => ⟨S8x4096x160, .f32⟩
  | 55 => ⟨S1024, .f32⟩
  | 56 => ⟨S8x4096x64, .f32⟩
  | 57 => ⟨S64x1024, .f32⟩
  | 58 => ⟨S8x4096x1024, .f32⟩
  | 59 => ⟨S1x1x1024, .f32⟩
  | 60 => ⟨S8x4096x1024, .f32⟩
  | 61 => ⟨S8x4096x1024, .f32⟩
  | 62 => ⟨S8x4096x1024, .f32⟩
  | 63 => ⟨S_, .f32⟩
  | 64 => ⟨S8x4096x1024, .f32⟩
  | 65 => ⟨S8x4096x1024, .f32⟩
  | 66 => ⟨S8x4096x1024, .f32⟩
  | 67 => ⟨S8x4096x1024, .f32⟩
  | 68 => ⟨S8x4096x1024, .i1⟩
  | 69 => ⟨S8x4096x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S8x4096x1024, .f32⟩
  | 77 => ⟨S8x4096x1024, .f32⟩
  | 78 => ⟨S_, .f32⟩
  | 79 => ⟨S8x4096x1024, .f32⟩
  | 80 => ⟨S8x4096x1024, .f32⟩
  | 81 => ⟨S8x4096x1024, .f32⟩
  | 82 => ⟨S8x4096x1024, .f32⟩
  | 83 => ⟨S1024, .f32⟩
  | 84 => ⟨S64x1024, .f32⟩
  | 85 => ⟨S8x4096x1024, .f32⟩
  | 86 => ⟨S1x1x1024, .f32⟩
  | 87 => ⟨S8x4096x1024, .f32⟩
  | 88 => ⟨S8x4096x1024, .f32⟩
  | 89 => ⟨S8x4096x1024, .f32⟩
  | 90 => ⟨S8x4096x1024, .f32⟩
  | 91 => ⟨S_, .f32⟩
  | 92 => ⟨S8x4096x1024, .f32⟩
  | 93 => ⟨S8x4096x1024, .f32⟩
  | 94 => ⟨S_, .f32⟩
  | 95 => ⟨S8x4096x1024, .f32⟩
  | 96 => ⟨S8x4096x1024, .f32⟩
  | 97 => ⟨S8x4096x160, .f32⟩
  | 98 => ⟨S8x4096x160, .f32⟩
  | 99 => ⟨S_, .f32⟩
  | 100 => ⟨S8x4096x160, .f32⟩
  | 101 => ⟨S8x4096x160, .f32⟩
  | 102 => ⟨S_, .f32⟩
  | 103 => ⟨S8x4096x160, .f32⟩
  | 104 => ⟨S8x4096x160, .f32⟩
  | 105 => ⟨S160x1024, .f32⟩
  | 106 => ⟨S8x4096x1024, .f32⟩
  | 107 => ⟨S1024, .f32⟩
  | 108 => ⟨S1x1x1024, .f32⟩
  | 109 => ⟨S8x4096x1024, .f32⟩
  | 110 => ⟨S8x4096x1024, .f32⟩
  | 111 => ⟨S8x4096x16x64, .f32⟩
  | 112 => ⟨S8x4096x16x64, .f32⟩
  | 113 => ⟨S_, .f32⟩
  | 114 => ⟨S8x4096x16, .f32⟩
  | 115 => ⟨S8x4096x16x1, .f32⟩
  | 116 => ⟨S8x4096x16x1, .f32⟩
  | 117 => ⟨S_, .f32⟩
  | 118 => ⟨S8x4096x16x1, .f32⟩
  | 119 => ⟨S8x4096x16x1, .f32⟩
  | 120 => ⟨S8x4096x16x64, .f32⟩
  | 121 => ⟨S8x4096x16x64, .f32⟩
  | 122 => ⟨S_, .f32⟩
  | 123 => ⟨S8x4096x1024, .f32⟩
  | 124 => ⟨S8x4096x1024, .f32⟩
  | 125 => ⟨S1024, .f32⟩
  | 126 => ⟨S1x1x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S_, .f32⟩
  | 2 => ⟨S8x4096x1024, .f32⟩
  | 3 => ⟨S8x4096x1024, .f32⟩
  | 4 => ⟨S8x4096x1024, .f32⟩
  | 5 => ⟨S8x4096x16x64, .f32⟩
  | 6 => ⟨S8x4096x16x64, .f32⟩
  | 7 => ⟨S8x4096x16x64, .f32⟩
  | 8 => ⟨S8x4096x16x64, .f32⟩
  | 9 => ⟨S8x4096x16x64, .f32⟩
  | 10 => ⟨S8x4096x16x64, .f32⟩
  | 11 => ⟨S16x64, .f32⟩
  | 12 => ⟨S1x1x16x64, .f32⟩
  | 13 => ⟨S8x4096x16x64, .f32⟩
  | 14 => ⟨S8x4096x16x64, .f32⟩
  | 15 => ⟨S_, .f32⟩
  | 16 => ⟨S8x4096x16, .f32⟩
  | 17 => ⟨S8x4096x16x1, .f32⟩
  | 18 => ⟨S8x4096x16x64, .f32⟩
  | 19 => ⟨S8x4096x16x64, .f32⟩
  | 20 => ⟨S8x4096x12x64, .f32⟩
  | 21 => ⟨S64, .f32⟩
  | 22 => ⟨S8x4096x12x64, .f32⟩
  | 23 => ⟨S_, .f32⟩
  | 24 => ⟨S8x4096x12, .f32⟩
  | 25 => ⟨S8x4096x12x1, .f32⟩
  | 26 => ⟨S_, .f32⟩
  | 27 => ⟨S8x4096x12x1, .f32⟩
  | 28 => ⟨S8x4096x12x1, .f32⟩
  | 29 => ⟨S_, .f32⟩
  | 30 => ⟨S8x4096x12x1, .f32⟩
  | 31 => ⟨S8x4096x12x1, .f32⟩
  | 32 => ⟨S8x4096x12x1, .f32⟩
  | 33 => ⟨S8x4096x12x64, .f32⟩
  | 34 => ⟨S8x4096x12x64, .f32⟩
  | 35 => ⟨S1x1x1x64, .f32⟩
  | 36 => ⟨S8x4096x12x64, .f32⟩
  | 37 => ⟨S8x4096x12x64, .f32⟩
  | 38 => ⟨S_, .f32⟩
  | 39 => ⟨S8x4096x12x64, .f32⟩
  | 40 => ⟨S8x4096x12x64, .f32⟩
  | 41 => ⟨S8x4096x12x64, .f32⟩
  | 42 => ⟨S64, .f32⟩
  | 43 => ⟨S8x4096x12x64, .f32⟩
  | 44 => ⟨S_, .f32⟩
  | 45 => ⟨S8x4096x12, .f32⟩
  | 46 => ⟨S8x4096x12x1, .f32⟩
  | 47 => ⟨S_, .f32⟩
  | 48 => ⟨S8x4096x12x1, .f32⟩
  | 49 => ⟨S8x4096x12x1, .f32⟩
  | 50 => ⟨S_, .f32⟩
  | 51 => ⟨S8x4096x12x1, .f32⟩
  | 52 => ⟨S8x4096x12x1, .f32⟩
  | 53 => ⟨S8x4096x12x1, .f32⟩
  | 54 => ⟨S8x4096x12x64, .f32⟩
  | 55 => ⟨S8x4096x12x64, .f32⟩
  | 56 => ⟨S1x1x1x64, .f32⟩
  | 57 => ⟨S8x4096x12x64, .f32⟩
  | 58 => ⟨S8x4096x12x64, .f32⟩
  | 59 => ⟨S8x4096x12x64, .f32⟩
  | 60 => ⟨S2048, .f32⟩
  | 61 => ⟨S1x1x2048, .f32⟩
  | 62 => ⟨S8x4096x2048, .f32⟩
  | 63 => ⟨S8x4096x2048, .f32⟩
  | 64 => ⟨S8x4096x2048, .f32⟩
  | 65 => ⟨S8x4096x2048, .f32⟩
  | 66 => ⟨S_, .f32⟩
  | 67 => ⟨S8x4096x2048, .f32⟩
  | 68 => ⟨S8x4096x2048, .f32⟩
  | 69 => ⟨S_, .f32⟩
  | 70 => ⟨S8x4096x2048, .f32⟩
  | 71 => ⟨S8x4096x2048, .f32⟩
  | 72 => ⟨S32768x1024, .f32⟩
  | 73 => ⟨S32768x1024, .f32⟩
  | 74 => ⟨S32768x1024, .f32⟩
  | 75 => ⟨S32768x1024, .f32⟩
  | 76 => ⟨S32768x1024, .f32⟩
  | 77 => ⟨S32768x1024, .f32⟩
  | 78 => ⟨S32768x1024, .f32⟩
  | 79 => ⟨S32768x1024, .f32⟩
  | 80 => ⟨S32768x768, .f32⟩
  | 81 => ⟨S32768x768, .bf16⟩
  | 82 => ⟨S32768x768, .f32⟩
  | 83 => ⟨S32768x768, .bf16⟩
  | 84 => ⟨S32768x768, .f32⟩
  | 85 => ⟨S32768x768, .bf16⟩
  | 86 => ⟨S32768x2048, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_v44 : Ref sig .tc := ⟨.hbm, 76, rfl⟩
abbrev main_v45 : Ref sig .tc := ⟨.hbm, 77, rfl⟩
abbrev main_cst_3 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_4 : Ref sig .tc := ⟨.hbm, 91, rfl⟩
abbrev main_v58 : Ref sig .tc := ⟨.hbm, 92, rfl⟩
abbrev main_v59 : Ref sig .tc := ⟨.hbm, 93, rfl⟩
abbrev main_cst_5 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_6 : Ref sig .tc := ⟨.hbm, 99, rfl⟩
abbrev main_v64 : Ref sig .tc := ⟨.hbm, 100, rfl⟩
abbrev main_v65 : Ref sig .tc := ⟨.hbm, 101, rfl⟩
abbrev main_cst_7 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_8 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_9 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_10 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_11 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_12 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_13 : Ref sig .tc := ⟨.hbm, 151, rfl⟩
abbrev main_v109 : Ref sig .tc := ⟨.hbm, 152, rfl⟩
abbrev main_v110 : Ref sig .tc := ⟨.hbm, 153, rfl⟩
abbrev main_cst_14 : Ref sig .tc := ⟨.hbm, 154, rfl⟩
abbrev main_v111 : Ref sig .tc := ⟨.hbm, 155, rfl⟩
abbrev main_v112 : Ref sig .tc := ⟨.hbm, 156, rfl⟩
abbrev main_cst_15 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_16 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_17 : Ref sig .tc := ⟨.hbm, 172, rfl⟩
abbrev main_v126 : Ref sig .tc := ⟨.hbm, 173, rfl⟩
abbrev main_v127 : Ref sig .tc := ⟨.hbm, 174, rfl⟩
abbrev main_cst_18 : Ref sig .tc := ⟨.hbm, 175, rfl⟩
abbrev main_v128 : Ref sig .tc := ⟨.hbm, 176, rfl⟩
abbrev main_v129 : Ref sig .tc := ⟨.hbm, 177, rfl⟩
abbrev main_cst_19 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_20 : Ref sig .tc := ⟨.hbm, 194, rfl⟩
abbrev main_v145 : Ref sig .tc := ⟨.hbm, 195, rfl⟩
abbrev main_v146 : Ref sig .tc := ⟨.hbm, 196, rfl⟩
abbrev main_cst_21 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩

abbrev nD : Nat := 1
abbrev τ : Topo := Topo.v7x

variable {F : FTy → Type} [FloatOps F]
-- ==== Attn.lean ====
abbrev S32768x768 : Shape := ⟨2, ![32768, 768]⟩
abbrev S8x4096x768 : Shape := ⟨3, ![8, 4096, 768]⟩
abbrev S8x1024x3072 : Shape := ⟨3, ![8, 1024, 3072]⟩
abbrev S8x256x12288 : Shape := ⟨3, ![8, 256, 12288]⟩
abbrev S8x4096x256 : Shape := ⟨3, ![8, 4096, 256]⟩
abbrev S8x1024x1024 : Shape := ⟨3, ![8, 1024, 1024]⟩
abbrev S8x256x4096 : Shape := ⟨3, ![8, 256, 4096]⟩
abbrev S1x128x256 : Shape := ⟨3, ![1, 128, 256]⟩
abbrev S512x256 : Shape := ⟨2, ![512, 256]⟩
abbrev S128x256 : Shape := ⟨2, ![128, 256]⟩
abbrev S256x256 : Shape := ⟨2, ![256, 256]⟩
abbrev S512 : Shape := ⟨1, ![512]⟩
abbrev S512x1 : Shape := ⟨2, ![512, 1]⟩
abbrev S128x1 : Shape := ⟨2, ![128, 1]⟩

abbrev nBuf : Space → Nat
  | .hbm => 24
  | .vmem => 42
  | .smem => 0
  | _ => 0

abbrev bufTy : (tb : Table) → Fin (tcTables nBuf tb) → BufTy
  | .hbm, ⟨0, _⟩ => ⟨S32768x768, .bf16⟩
  | .hbm, ⟨1, _⟩ => ⟨S32768x768, .bf16⟩
  | .hbm, ⟨2, _⟩ => ⟨S32768x768, .bf16⟩
  | .hbm, ⟨3, _⟩ => ⟨S8x4096x768, .bf16⟩
  | .hbm, ⟨4, _⟩ => ⟨S8x4096x768, .bf16⟩
  | .hbm, ⟨5, _⟩ => ⟨S8x4096x768, .bf16⟩
  | .hbm, ⟨6, _⟩ => ⟨S8x4096x768, .bf16⟩
  | .hbm, ⟨7, _⟩ => ⟨S8x4096x768, .bf16⟩
  | .hbm, ⟨8, _⟩ => ⟨S8x1024x3072, .bf16⟩
  | .hbm, ⟨9, _⟩ => ⟨S8x1024x3072, .bf16⟩
  | .hbm, ⟨10, _⟩ => ⟨S8x1024x3072, .bf16⟩
  | .hbm, ⟨11, _⟩ => ⟨S8x1024x3072, .bf16⟩
  | .hbm, ⟨12, _⟩ => ⟨S8x1024x3072, .bf16⟩
  | .hbm, ⟨13, _⟩ => ⟨S8x256x12288, .bf16⟩
  | .hbm, ⟨14, _⟩ => ⟨S8x256x12288, .bf16⟩
  | .hbm, ⟨15, _⟩ => ⟨S8x256x12288, .bf16⟩
  | .hbm, ⟨16, _⟩ => ⟨S8x256x12288, .bf16⟩
  | .hbm, ⟨17, _⟩ => ⟨S8x256x12288, .bf16⟩
  | .hbm, ⟨18, _⟩ => ⟨S8x4096x256, .f32⟩
  | .hbm, ⟨19, _⟩ => ⟨S8x4096x256, .f32⟩
  | .hbm, ⟨20, _⟩ => ⟨S8x1024x1024, .f32⟩
  | .hbm, ⟨21, _⟩ => ⟨S8x1024x1024, .f32⟩
  | .hbm, ⟨22, _⟩ => ⟨S8x256x4096, .f32⟩
  | .hbm, ⟨23, _⟩ => ⟨S8x256x4096, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S1x128x256, .bf16⟩
  | .local _ .vmem, ⟨24, _⟩ => ⟨S1x128x256, .bf16⟩
  | .local _ .vmem, ⟨25, _⟩ => ⟨S1x128x256, .bf16⟩
  | .local _ .vmem, ⟨26, _⟩ => ⟨S1x128x256, .bf16⟩
  | .local _ .vmem, ⟨27, _⟩ => ⟨S1x128x256, .bf16⟩
  | .local _ .vmem, ⟨28, _⟩ => ⟨S1x128x256, .bf16⟩
  | .local _ .vmem, ⟨29, _⟩ => ⟨S1x128x256, .bf16⟩
  | .local _ .vmem, ⟨30, _⟩ => ⟨S1x128x256, .f32⟩
  | .local _ .vmem, ⟨31, _⟩ => ⟨S1x128x256, .f32⟩
  | .local _ .vmem, ⟨32, _⟩ => ⟨S1x128x256, .f32⟩
  | .local _ .vmem, ⟨33, _⟩ => ⟨S1x128x256, .f32⟩
  | .local _ .vmem, ⟨34, _⟩ => ⟨S1x128x256, .f32⟩
  | .local _ .vmem, ⟨35, _⟩ => ⟨S1x128x256, .f32⟩
  | .local _ .vmem, ⟨36, _⟩ => ⟨S1x128x256, .f32⟩
  | .local _ .vmem, ⟨37, _⟩ => ⟨S1x128x256, .f32⟩
  | .local _ .vmem, ⟨38, _⟩ => ⟨S1x128x256, .f32⟩
  | .local _ .vmem, ⟨39, _⟩ => ⟨S1x128x256, .f32⟩
  | .local _ .vmem, ⟨40, _⟩ => ⟨S1x128x256, .f32⟩
  | .local _ .vmem, ⟨41, _⟩ => ⟨S1x128x256, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev main_v15_3 : Ref sig .tc := ⟨.hbm, 21, rfl⟩
abbrev main_v15_4 : Ref sig .tc := ⟨.hbm, 22, rfl⟩
abbrev main_v15_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg1 c32_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg1 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c0_i32_10 : BitVec 32 := 0#32
  let v28 : BitVec 32 := Scalar.addi v27 c0_i32_10
  let c0_i32_11 : BitVec 32 := 0#32
  ![arg0.toNat, v9.toNat, v28.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.subi v9 c1_i32_3
  let c0_i32_4 : BitVec 32 := 0#32
  let v11 : BitVec 32 := Scalar.maxsi v10 c0_i32_4
  let c32_i32_5 : BitVec 32 := 32#32
  let v12 : BitVec 32 := Scalar.divsi arg1 c32_i32_5
  let c0_i32_6 : BitVec 32 := 0#32
  let v13 : BitVec 1 := Scalar.cmpi .sgt arg1 c0_i32_6
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c0_i32_8 : BitVec 32 := 0#32
  let v18 : BitVec 1 := Scalar.cmpi .sgt c32_i32_5 c0_i32_8
  let v19 : BitVec 32 := Scalar.extui v18
  let c0_i32_9 : BitVec 32 := 0#32
  let v20 : BitVec 1 := Scalar.cmpi .slt c32_i32_5 c0_i32_9
  let v21 : BitVec 32 := Scalar.extui v20
  let v22 : BitVec 32 := Scalar.subi v19 v21
  let v23 : BitVec 1 := Scalar.cmpi .ne v17 v22
  let v24 : BitVec 32 := Scalar.remsi arg1 c32_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c3_i32 : BitVec 32 := 3#32
  let v29 : BitVec 32 := Scalar.muli v28 c3_i32
  let c0_i32_12 : BitVec 32 := 0#32
  let v30 : BitVec 32 := Scalar.addi v29 c0_i32_12
  let c0_i32_13 : BitVec 32 := 0#32
  ![arg0.toNat, v11.toNat, v30.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg1 c32_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg1 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c0_i32_10 : BitVec 32 := 0#32
  let v28 : BitVec 32 := Scalar.addi v27 c0_i32_10
  let c0_i32_11 : BitVec 32 := 0#32
  ![arg0.toNat, v9.toNat, v28.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.subi v9 c1_i32_3
  let c0_i32_4 : BitVec 32 := 0#32
  let v11 : BitVec 32 := Scalar.maxsi v10 c0_i32_4
  let c32_i32_5 : BitVec 32 := 32#32
  let v12 : BitVec 32 := Scalar.divsi arg1 c32_i32_5
  let c0_i32_6 : BitVec 32 := 0#32
  let v13 : BitVec 1 := Scalar.cmpi .sgt arg1 c0_i32_6
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c0_i32_8 : BitVec 32 := 0#32
  let v18 : BitVec 1 := Scalar.cmpi .sgt c32_i32_5 c0_i32_8
  let v19 : BitVec 32 := Scalar.extui v18
  let c0_i32_9 : BitVec 32 := 0#32
  let v20 : BitVec 1 := Scalar.cmpi .slt c32_i32_5 c0_i32_9
  let v21 : BitVec 32 := Scalar.extui v20
  let v22 : BitVec 32 := Scalar.subi v19 v21
  let v23 : BitVec 1 := Scalar.cmpi .ne v17 v22
  let v24 : BitVec 32 := Scalar.remsi arg1 c32_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c3_i32 : BitVec 32 := 3#32
  let v29 : BitVec 32 := Scalar.muli v28 c3_i32
  let c0_i32_12 : BitVec 32 := 0#32
  let v30 : BitVec 32 := Scalar.addi v29 c0_i32_12
  let c0_i32_13 : BitVec 32 := 0#32
  ![arg0.toNat, v11.toNat, v30.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg1 c32_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg1 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c0_i32_10 : BitVec 32 := 0#32
  let v28 : BitVec 32 := Scalar.addi v27 c0_i32_10
  let c0_i32_11 : BitVec 32 := 0#32
  ![arg0.toNat, v9.toNat, v28.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c1_i32_10 : BitVec 32 := 1#32
  let v28 : BitVec 32 := Scalar.addi v27 c1_i32_10
  let c0_i32_11 : BitVec 32 := 0#32
  ![arg0.toNat, v9.toNat, v28.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.subi v9 c1_i32_3
  let c0_i32_4 : BitVec 32 := 0#32
  let v11 : BitVec 32 := Scalar.maxsi v10 c0_i32_4
  let c8_i32_5 : BitVec 32 := 8#32
  let v12 : BitVec 32 := Scalar.divsi arg1 c8_i32_5
  let c0_i32_6 : BitVec 32 := 0#32
  let v13 : BitVec 1 := Scalar.cmpi .sgt arg1 c0_i32_6
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi arg1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c3_i32 : BitVec 32 := 3#32
  let v29 : BitVec 32 := Scalar.muli v28 c3_i32
  let c1_i32_12 : BitVec 32 := 1#32
  let v30 : BitVec 32 := Scalar.addi v29 c1_i32_12
  let c0_i32_13 : BitVec 32 := 0#32
  ![arg0.toNat, v11.toNat, v30.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c1_i32_10 : BitVec 32 := 1#32
  let v28 : BitVec 32 := Scalar.addi v27 c1_i32_10
  let c0_i32_11 : BitVec 32 := 0#32
  ![arg0.toNat, v9.toNat, v28.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.subi v9 c1_i32_3
  let c0_i32_4 : BitVec 32 := 0#32
  let v11 : BitVec 32 := Scalar.maxsi v10 c0_i32_4
  let c8_i32_5 : BitVec 32 := 8#32
  let v12 : BitVec 32 := Scalar.divsi arg1 c8_i32_5
  let c0_i32_6 : BitVec 32 := 0#32
  let v13 : BitVec 1 := Scalar.cmpi .sgt arg1 c0_i32_6
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi arg1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c3_i32 : BitVec 32 := 3#32
  let v29 : BitVec 32 := Scalar.muli v28 c3_i32
  let c1_i32_12 : BitVec 32 := 1#32
  let v30 : BitVec 32 := Scalar.addi v29 c1_i32_12
  let c0_i32_13 : BitVec 32 := 0#32
  ![arg0.toNat, v11.toNat, v30.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c1_i32_10 : BitVec 32 := 1#32
  let v28 : BitVec 32 := Scalar.addi v27 c1_i32_10
  let c0_i32_11 : BitVec 32 := 0#32
  ![arg0.toNat, v9.toNat, v28.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c2_i32_10 : BitVec 32 := 2#32
  let v28 : BitVec 32 := Scalar.addi v27 c2_i32_10
  let c0_i32_11 : BitVec 32 := 0#32
  ![arg0.toNat, v9.toNat, v28.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.subi v9 c1_i32_3
  let c0_i32_4 : BitVec 32 := 0#32
  let v11 : BitVec 32 := Scalar.maxsi v10 c0_i32_4
  let c2_i32_5 : BitVec 32 := 2#32
  let v12 : BitVec 32 := Scalar.divsi arg1 c2_i32_5
  let c0_i32_6 : BitVec 32 := 0#32
  let v13 : BitVec 1 := Scalar.cmpi .sgt arg1 c0_i32_6
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi arg1 c2_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c3_i32 : BitVec 32 := 3#32
  let v29 : BitVec 32 := Scalar.muli v28 c3_i32
  let c2_i32_12 : BitVec 32 := 2#32
  let v30 : BitVec 32 := Scalar.addi v29 c2_i32_12
  let c0_i32_13 : BitVec 32 := 0#32
  ![arg0.toNat, v11.toNat, v30.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c2_i32_10 : BitVec 32 := 2#32
  let v28 : BitVec 32 := Scalar.addi v27 c2_i32_10
  let c0_i32_11 : BitVec 32 := 0#32
  ![arg0.toNat, v9.toNat, v28.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.subi v9 c1_i32_3
  let c0_i32_4 : BitVec 32 := 0#32
  let v11 : BitVec 32 := Scalar.maxsi v10 c0_i32_4
  let c2_i32_5 : BitVec 32 := 2#32
  let v12 : BitVec 32 := Scalar.divsi arg1 c2_i32_5
  let c0_i32_6 : BitVec 32 := 0#32
  let v13 : BitVec 1 := Scalar.cmpi .sgt arg1 c0_i32_6
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi arg1 c2_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c3_i32 : BitVec 32 := 3#32
  let v29 : BitVec 32 := Scalar.muli v28 c3_i32
  let c2_i32_12 : BitVec 32 := 2#32
  let v30 : BitVec 32 := Scalar.addi v29 c2_i32_12
  let c0_i32_13 : BitVec 32 := 0#32
  ![arg0.toNat, v11.toNat, v30.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c3_i32 : BitVec 32 := 3#32
  let v27 : BitVec 32 := Scalar.muli v26 c3_i32
  let c2_i32_10 : BitVec 32 := 2#32
  let v28 : BitVec 32 := Scalar.addi v27 c2_i32_10
  let c0_i32_11 : BitVec 32 := 0#32
  ![arg0.toNat, v9.toNat, v28.toNat]

def cc0_transform_15 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg1 c32_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg1 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_16 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg1 c32_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg1 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_19 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

def cc0_transform_20 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![arg0.toNat, v9.toNat, v26.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x128x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S32768x768 : Shape := ⟨2, ![32768, 768]⟩
abbrev S8x4096x12x64 : Shape := ⟨4, ![8, 4096, 12, 64]⟩
abbrev S8x4096x4x64 : Shape := ⟨4, ![8, 4096, 4, 64]⟩
abbrev S8x4096x1x4x64 : Shape := ⟨5, ![8, 4096, 1, 4, 64]⟩
abbrev S8x1x4096x4x64 : Shape := ⟨5, ![8, 1, 4096, 4, 64]⟩
abbrev S8x1x32x128x4x64 : Shape := ⟨6, ![8, 1, 32, 128, 4, 64]⟩
abbrev S_ : Shape := ⟨0, ![]⟩
abbrev S8x1x1x128x4x64 : Shape := ⟨6, ![8, 1, 1, 128, 4, 64]⟩
abbrev S8x1x31x128x4x64 : Shape := ⟨6, ![8, 1, 31, 128, 4, 64]⟩
abbrev S8x1x32x256x4x64 : Shape := ⟨6, ![8, 1, 32, 256, 4, 64]⟩
abbrev S8x1x32x4x128x256 : Shape := ⟨6, ![8, 1, 32, 4, 128, 256]⟩
abbrev S32x128x256 : Shape := ⟨3, ![32, 128, 256]⟩
abbrev S1x1x32x1x128x256 : Shape := ⟨6, ![1, 1, 32, 1, 128, 256]⟩
abbrev S8x1x32x4x128 : Shape := ⟨5, ![8, 1, 32, 4, 128]⟩
abbrev S8x1x32x4x128x1 : Shape := ⟨6, ![8, 1, 32, 4, 128, 1]⟩
abbrev S8x1x32x4x64x128 : Shape := ⟨6, ![8, 1, 32, 4, 64, 128]⟩
abbrev S8x1x32x128x4 : Shape := ⟨5, ![8, 1, 32, 128, 4]⟩
abbrev S8x1x4096x4 : Shape := ⟨4, ![8, 1, 4096, 4]⟩
abbrev S8x4096x1x4 : Shape := ⟨4, ![8, 4096, 1, 4]⟩
abbrev S8x4096x4 : Shape := ⟨3, ![8, 4096, 4]⟩
abbrev S8x4096x256 : Shape := ⟨3, ![8, 4096, 256]⟩
abbrev S8x4096x4x1 : Shape := ⟨4, ![8, 4096, 4, 1]⟩
abbrev S8x1024x4x4x64 : Shape := ⟨5, ![8, 1024, 4, 4, 64]⟩
abbrev S8x4x1024x4x64 : Shape := ⟨5, ![8, 4, 1024, 4, 64]⟩
abbrev S8x4x8x128x4x64 : Shape := ⟨6, ![8, 4, 8, 128, 4, 64]⟩
abbrev S8x4x1x128x4x64 : Shape := ⟨6, ![8, 4, 1, 128, 4, 64]⟩
abbrev S8x4x7x128x4x64 : Shape := ⟨6, ![8, 4, 7, 128, 4, 64]⟩
abbrev S8x4x8x256x4x64 : Shape := ⟨6, ![8, 4, 8, 256, 4, 64]⟩
abbrev S8x4x8x4x128x256 : Shape := ⟨6, ![8, 4, 8, 4, 128, 256]⟩
abbrev S8x128x256 : Shape := ⟨3, ![8, 128, 256]⟩
abbrev S1x1x8x1x128x256 : Shape := ⟨6, ![1, 1, 8, 1, 128, 256]⟩
abbrev S8x4x8x4x128 : Shape := ⟨5, ![8, 4, 8, 4, 128]⟩
abbrev S8x4x8x4x128x1 : Shape := ⟨6, ![8, 4, 8, 4, 128, 1]⟩
abbrev S8x4x8x4x64x128 : Shape := ⟨6, ![8, 4, 8, 4, 64, 128]⟩
abbrev S8x4x8x128x4 : Shape := ⟨5, ![8, 4, 8, 128, 4]⟩
abbrev S8x4x1024x4 : Shape := ⟨4, ![8, 4, 1024, 4]⟩
abbrev S8x1024x4x4 : Shape := ⟨4, ![8, 1024, 4, 4]⟩
abbrev S8x1024x1024 : Shape := ⟨3, ![8, 1024, 1024]⟩
abbrev S8x256x16x4x64 : Shape := ⟨5, ![8, 256, 16, 4, 64]⟩
abbrev S8x16x256x4x64 : Shape := ⟨5, ![8, 16, 256, 4, 64]⟩
abbrev S8x16x2x128x4x64 : Shape := ⟨6, ![8, 16, 2, 128, 4, 64]⟩
abbrev S8x16x1x128x4x64 : Shape := ⟨6, ![8, 16, 1, 128, 4, 64]⟩
abbrev S8x16x2x256x4x64 : Shape := ⟨6, ![8, 16, 2, 256, 4, 64]⟩
abbrev S8x16x2x4x128x256 : Shape := ⟨6, ![8, 16, 2, 4, 128, 256]⟩
abbrev S2x128x256 : Shape := ⟨3, ![2, 128, 256]⟩
abbrev S1x1x2x1x128x256 : Shape := ⟨6, ![1, 1, 2, 1, 128, 256]⟩
abbrev S8x16x2x4x128 : Shape := ⟨5, ![8, 16, 2, 4, 128]⟩
abbrev S8x16x2x4x128x1 : Shape := ⟨6, ![8, 16, 2, 4, 128, 1]⟩
abbrev S8x16x2x4x64x128 : Shape := ⟨6, ![8, 16, 2, 4, 64, 128]⟩
abbrev S8x16x2x128x4 : Shape := ⟨5, ![8, 16, 2, 128, 4]⟩
abbrev S8x16x256x4 : Shape := ⟨4, ![8, 16, 256, 4]⟩
abbrev S8x256x16x4 : Shape := ⟨4, ![8, 256, 16, 4]⟩
abbrev S8x256x4096 : Shape := ⟨3, ![8, 256, 4096]⟩

abbrev nBuf : Space → Nat
  | .hbm => 249
  | .vmem => 0
  | .smem => 0
  | _ => 0

abbrev hbmTy0_0 (i : Nat) : BufTy := match i % 128 with
  | 0 => ⟨S32768x768, .bf16⟩
  | 1 => ⟨S32768x768, .bf16⟩
  | 2 => ⟨S32768x768, .bf16⟩
  | 3 => ⟨S32768x768, .f32⟩
  | 4 => ⟨S8x4096x12x64, .f32⟩
  | 5 => ⟨S32768x768, .f32⟩
  | 6 => ⟨S8x4096x12x64, .f32⟩
  | 7 => ⟨S32768x768, .f32⟩
  | 8 => ⟨S8x4096x12x64, .f32⟩
  | 9 => ⟨S8x4096x4x64, .f32⟩
  | 10 => ⟨S8x4096x4x64, .f32⟩
  | 11 => ⟨S8x4096x4x64, .f32⟩
  | 12 => ⟨S8x4096x1x4x64, .f32⟩
  | 13 => ⟨S8x1x4096x4x64, .f32⟩
  | 14 => ⟨S8x1x32x128x4x64, .f32⟩
  | 15 => ⟨S8x4096x1x4x64, .f32⟩
  | 16 => ⟨S8x1x4096x4x64, .f32⟩
  | 17 => ⟨S8x1x32x128x4x64, .f32⟩
  | 18 => ⟨S_, .f32⟩
  | 19 => ⟨S8x1x1x128x4x64, .f32⟩
  | 20 => ⟨S8x1x31x128x4x64, .f32⟩
  | 21 => ⟨S8x1x32x128x4x64, .f32⟩
  | 22 => ⟨S8x1x32x256x4x64, .f32⟩
  | 23 => ⟨S8x4096x1x4x64, .f32⟩
  | 24 => ⟨S8x1x4096x4x64, .f32⟩
  | 25 => ⟨S8x1x32x128x4x64, .f32⟩
  | 26 => ⟨S_, .f32⟩
  | 27 => ⟨S8x1x1x128x4x64, .f32⟩
  | 28 => ⟨S8x1x31x128x4x64, .f32⟩
  | 29 => ⟨S8x1x32x128x4x64, .f32⟩
  | 30 => ⟨S8x1x32x256x4x64, .f32⟩
  | 31 => ⟨S8x1x32x4x128x256, .f32⟩
  | 32 => ⟨S32x128x256, .i32⟩
  | 33 => ⟨S32x128x256, .i32⟩
  | 34 => ⟨S32x128x256, .i32⟩
  | 35 => ⟨S_, .i32⟩
  | 36 => ⟨S32x128x256, .i32⟩
  | 37 => ⟨S32x128x256, .i32⟩
  | 38 => ⟨S32x128x256, .i32⟩
  | 39 => ⟨S_, .i32⟩
  | 40 => ⟨S32x128x256, .i32⟩
  | 41 => ⟨S32x128x256, .i1⟩
  | 42 => ⟨S_, .i32⟩
  | 43 => ⟨S32x128x256, .i32⟩
  | 44 => ⟨S32x128x256, .i1⟩
  | 45 => ⟨S32x128x256, .i1⟩
  | 46 => ⟨S_, .i32⟩
  | 47 => ⟨S32x128x256, .i32⟩
  | 48 => ⟨S32x128x256, .i32⟩
  | 49 => ⟨S32x128x256, .i32⟩
  | 50 => ⟨S_, .i32⟩
  | 51 => ⟨S32x128x256, .i32⟩
  | 52 => ⟨S32x128x256, .i32⟩
  | 53 => ⟨S_, .i32⟩
  | 54 => ⟨S32x128x256, .i32⟩
  | 55 => ⟨S32x128x256, .i1⟩
  | 56 => ⟨S32x128x256, .i1⟩
  | 57 => ⟨S1x1x32x1x128x256, .i1⟩
  | 58 => ⟨S8x1x32x4x128x256, .i1⟩
  | 59 => ⟨S_, .f32⟩
  | 60 => ⟨S8x1x32x4x128x256, .f32⟩
  | 61 => ⟨S8x1x32x4x128x256, .f32⟩
  | 62 => ⟨S_, .f32⟩
  | 63 => ⟨S8x1x32x4x128, .f32⟩
  | 64 => ⟨S8x1x32x4x128x1, .f32⟩
  | 65 => ⟨S8x1x32x4x128x256, .f32⟩
  | 66 => ⟨S8x1x32x4x128x256, .f32⟩
  | 67 => ⟨S8x1x32x4x128x256, .f32⟩
  | 68 => ⟨S_, .f32⟩
  | 69 => ⟨S8x1x32x4x128, .f32⟩
  | 70 => ⟨S8x1x32x4x128x1, .f32⟩
  | 71 => ⟨S8x1x32x4x128x256, .f32⟩
  | 72 => ⟨S8x1x32x4x128x256, .f32⟩
  | 73 => ⟨S8x1x32x4x64x128, .f32⟩
  | 74 => ⟨S8x1x32x128x4x64, .f32⟩
  | 75 => ⟨S8x1x32x4x128x1, .f32⟩
  | 76 => ⟨S8x1x32x4x128x1, .f32⟩
  | 77 => ⟨S8x1x32x4x128, .f32⟩
  | 78 => ⟨S8x1x32x128x4, .f32⟩
  | 79 => ⟨S8x1x4096x4x64, .f32⟩
  | 80 => ⟨S8x4096x1x4x64, .f32⟩
  | 81 => ⟨S8x4096x4x64, .f32⟩
  | 82 => ⟨S8x1x4096x4, .f32⟩
  | 83 => ⟨S8x4096x1x4, .f32⟩
  | 84 => ⟨S8x4096x4, .f32⟩
  | 85 => ⟨S8x4096x256, .f32⟩
  | 86 => ⟨S8x4096x4x1, .f32⟩
  | 87 => ⟨S8x4096x4x64, .f32⟩
  | 88 => ⟨S8x4096x256, .f32⟩
  | 89 => ⟨S8x4096x4x64, .f32⟩
  | 90 => ⟨S8x4096x4x64, .f32⟩
  | 91 => ⟨S8x4096x4x64, .f32⟩
  | 92 => ⟨S8x1024x4x4x64, .f32⟩
  | 93 => ⟨S8x4x1024x4x64, .f32⟩
  | 94 => ⟨S8x4x8x128x4x64, .f32⟩
  | 95 => ⟨S8x1024x4x4x64, .f32⟩
  | 96 => ⟨S8x4x1024x4x64, .f32⟩
  | 97 => ⟨S8x4x8x128x4x64, .f32⟩
  | 98 => ⟨S_, .f32⟩
  | 99 => ⟨S8x4x1x128x4x64, .f32⟩
  | 100 => ⟨S8x4x7x128x4x64, .f32⟩
  | 101 => ⟨S8x4x8x128x4x64, .f32⟩
  | 102 => ⟨S8x4x8x256x4x64, .f32⟩
  | 103 => ⟨S8x1024x4x4x64, .f32⟩
  | 104 => ⟨S8x4x1024x4x64, .f32⟩
  | 105 => ⟨S8x4x8x128x4x64, .f32⟩
  | 106 => ⟨S_, .f32⟩
  | 107 => ⟨S8x4x1x128x4x64, .f32⟩
  | 108 => ⟨S8x4x7x128x4x64, .f32⟩
  | 109 => ⟨S8x4x8x128x4x64, .f32⟩
  | 110 => ⟨S8x4x8x256x4x64, .f32⟩
  | 111 => ⟨S8x4x8x4x128x256, .f32⟩
  | 112 => ⟨S8x128x256, .i32⟩
  | 113 => ⟨S8x128x256, .i32⟩
  | 114 => ⟨S8x128x256, .i32⟩
  | 115 => ⟨S_, .i32⟩
  | 116 => ⟨S8x128x256, .i32⟩
  | 117 => ⟨S8x128x256, .i32⟩
  | 118 => ⟨S8x128x256, .i32⟩
  | 119 => ⟨S_, .i32⟩
  | 120 => ⟨S8x128x256, .i32⟩
  | 121 => ⟨S8x128x256, .i1⟩
  | 122 => ⟨S_, .i32⟩
  | 123 => ⟨S8x128x256, .i32⟩
  | 124 => ⟨S8x128x256, .i1⟩
  | 125 => ⟨S8x128x256, .i1⟩
  | 126 => ⟨S_, .i32⟩
  | 127 => ⟨S8x128x256, .i32⟩
  | _ => ⟨S32768x768, .bf16⟩

abbrev hbmTy0_1 (i : Nat) : BufTy := match i % 128 with
  | 0 => ⟨S8x128x256, .i32⟩
  | 1 => ⟨S8x128x256, .i32⟩
  | 2 => ⟨S_, .i32⟩
  | 3 => ⟨S8x128x256, .i32⟩
  | 4 => ⟨S8x128x256, .i32⟩
  | 5 => ⟨S_, .i32⟩
  | 6 => ⟨S8x128x256, .i32⟩
  | 7 => ⟨S8x128x256, .i1⟩
  | 8 => ⟨S8x128x256, .i1⟩
  | 9 => ⟨S1x1x8x1x128x256, .i1⟩
  | 10 => ⟨S8x4x8x4x128x256, .i1⟩
  | 11 => ⟨S_, .f32⟩
  | 12 => ⟨S8x4x8x4x128x256, .f32⟩
  | 13 => ⟨S8x4x8x4x128x256, .f32⟩
  | 14 => ⟨S_, .f32⟩
  | 15 => ⟨S8x4x8x4x128, .f32⟩
  | 16 => ⟨S8x4x8x4x128x1, .f32⟩
  | 17 => ⟨S8x4x8x4x128x256, .f32⟩
  | 18 => ⟨S8x4x8x4x128x256, .f32⟩
  | 19 => ⟨S8x4x8x4x128x256, .f32⟩
  | 20 => ⟨S_, .f32⟩
  | 21 => ⟨S8x4x8x4x128, .f32⟩
  | 22 => ⟨S8x4x8x4x128x1, .f32⟩
  | 23 => ⟨S8x4x8x4x128x256, .f32⟩
  | 24 => ⟨S8x4x8x4x128x256, .f32⟩
  | 25 => ⟨S8x4x8x4x64x128, .f32⟩
  | 26 => ⟨S8x4x8x128x4x64, .f32⟩
  | 27 => ⟨S8x4x8x4x128x1, .f32⟩
  | 28 => ⟨S8x4x8x4x128x1, .f32⟩
  | 29 => ⟨S8x4x8x4x128, .f32⟩
  | 30 => ⟨S8x4x8x128x4, .f32⟩
  | 31 => ⟨S8x4x1024x4x64, .f32⟩
  | 32 => ⟨S8x1024x4x4x64, .f32⟩
  | 33 => ⟨S8x4096x4x64, .f32⟩
  | 34 => ⟨S8x4x1024x4, .f32⟩
  | 35 => ⟨S8x1024x4x4, .f32⟩
  | 36 => ⟨S8x4096x4, .f32⟩
  | 37 => ⟨S8x1024x1024, .f32⟩
  | 38 => ⟨S8x4096x4x1, .f32⟩
  | 39 => ⟨S8x4096x4x64, .f32⟩
  | 40 => ⟨S8x1024x1024, .f32⟩
  | 41 => ⟨S8x4096x4x64, .f32⟩
  | 42 => ⟨S8x4096x4x64, .f32⟩
  | 43 => ⟨S8x4096x4x64, .f32⟩
  | 44 => ⟨S8x256x16x4x64, .f32⟩
  | 45 => ⟨S8x16x256x4x64, .f32⟩
  | 46 => ⟨S8x16x2x128x4x64, .f32⟩
  | 47 => ⟨S8x256x16x4x64, .f32⟩
  | 48 => ⟨S8x16x256x4x64, .f32⟩
  | 49 => ⟨S8x16x2x128x4x64, .f32⟩
  | 50 => ⟨S_, .f32⟩
  | 51 => ⟨S8x16x1x128x4x64, .f32⟩
  | 52 => ⟨S8x16x1x128x4x64, .f32⟩
  | 53 => ⟨S8x16x2x128x4x64, .f32⟩
  | 54 => ⟨S8x16x2x256x4x64, .f32⟩
  | 55 => ⟨S8x256x16x4x64, .f32⟩
  | 56 => ⟨S8x16x256x4x64, .f32⟩
  | 57 => ⟨S8x16x2x128x4x64, .f32⟩
  | 58 => ⟨S_, .f32⟩
  | 59 => ⟨S8x16x1x128x4x64, .f32⟩
  | 60 => ⟨S8x16x1x128x4x64, .f32⟩
  | 61 => ⟨S8x16x2x128x4x64, .f32⟩
  | 62 => ⟨S8x16x2x256x4x64, .f32⟩
  | 63 => ⟨S8x16x2x4x128x256, .f32⟩
  | 64 => ⟨S2x128x256, .i32⟩
  | 65 => ⟨S2x128x256, .i32⟩
  | 66 => ⟨S2x128x256, .i32⟩
  | 67 => ⟨S_, .i32⟩
  | 68 => ⟨S2x128x256, .i32⟩
  | 69 => ⟨S2x128x256, .i32⟩
  | 70 => ⟨S2x128x256, .i32⟩
  | 71 => ⟨S_, .i32⟩
  | 72 => ⟨S2x128x256, .i32⟩
  | 73 => ⟨S2x128x256, .i1⟩
  | 74 => ⟨S_, .i32⟩
  | 75 => ⟨S2x128x256, .i32⟩
  | 76 => ⟨S2x128x256, .i1⟩
  | 77 => ⟨S2x128x256, .i1⟩
  | 78 => ⟨S_, .i32⟩
  | 79 => ⟨S2x128x256, .i32⟩
  | 80 => ⟨S2x128x256, .i32⟩
  | 81 => ⟨S2x128x256, .i32⟩
  | 82 => ⟨S_, .i32⟩
  | 83 => ⟨S2x128x256, .i32⟩
  | 84 => ⟨S2x128x256, .i32⟩
  | 85 => ⟨S_, .i32⟩
  | 86 => ⟨S2x128x256, .i32⟩
  | 87 => ⟨S2x128x256, .i1⟩
  | 88 => ⟨S2x128x256, .i1⟩
  | 89 => ⟨S1x1x2x1x128x256, .i1⟩
  | 90 => ⟨S8x16x2x4x128x256, .i1⟩
  | 91 => ⟨S_, .f32⟩
  | 92 => ⟨S8x16x2x4x128x256, .f32⟩
  | 93 => ⟨S8x16x2x4x128x256, .f32⟩
  | 94 => ⟨S_, .f32⟩
  | 95 => ⟨S8x16x2x4x128, .f32⟩
  | 96 => ⟨S8x16x2x4x128x1, .f32⟩
  | 97 => ⟨S8x16x2x4x128x256, .f32⟩
  | 98 => ⟨S8x16x2x4x128x256, .f32⟩
  | 99 => ⟨S8x16x2x4x128x256, .f32⟩
  | 100 => ⟨S_, .f32⟩
  | 101 => ⟨S8x16x2x4x128, .f32⟩
  | 102 => ⟨S8x16x2x4x128x1, .f32⟩
  | 103 => ⟨S8x16x2x4x128x256, .f32⟩
  | 104 => ⟨S8x16x2x4x128x256, .f32⟩
  | 105 => ⟨S8x16x2x4x64x128, .f32⟩
  | 106 => ⟨S8x16x2x128x4x64, .f32⟩
  | 107 => ⟨S8x16x2x4x128x1, .f32⟩
  | 108 => ⟨S8x16x2x4x128x1, .f32⟩
  | 109 => ⟨S8x16x2x4x128, .f32⟩
  | 110 => ⟨S8x16x2x128x4, .f32⟩
  | 111 => ⟨S8x16x256x4x64, .f32⟩
  | 112 => ⟨S8x256x16x4x64, .f32⟩
  | 113 => ⟨S8x4096x4x64, .f32⟩
  | 114 => ⟨S8x16x256x4, .f32⟩
  | 115 => ⟨S8x256x16x4, .f32⟩
  | 116 => ⟨S8x4096x4, .f32⟩
  | 117 => ⟨S8x256x4096, .f32⟩
  | 118 => ⟨S8x4096x4x1, .f32⟩
  | 119 => ⟨S8x4096x4x64, .f32⟩
  | 120 => ⟨S8x256x4096, .f32⟩
  | _ => ⟨S32768x768, .bf16⟩

abbrev hbmTy (i : Nat) : BufTy := match i / 128 with
  | 0 => hbmTy0_0 i
  | 1 => hbmTy0_1 i
  | _ => ⟨S32768x768, .bf16⟩

abbrev bufTy : (tb : Table) → Fin (tcTables nBuf tb) → BufTy
  | .hbm, ⟨i, _⟩ => hbmTy i
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_1 : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_9 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_10 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_c_11 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_c_12 : Ref sig .tc := ⟨.hbm, 119, rfl⟩
abbrev main_v102 : Ref sig .tc := ⟨.hbm, 120, rfl⟩
abbrev main_v103 : Ref sig .tc := ⟨.hbm, 121, rfl⟩
abbrev main_c_13 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_c_14 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_c_15 : Ref sig .tc := ⟨.hbm, 130, rfl⟩
abbrev main_v110 : Ref sig .tc := ⟨.hbm, 131, rfl⟩
abbrev main_v111 : Ref sig .tc := ⟨.hbm, 132, rfl⟩
abbrev main_c_16 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_17 : Ref sig .tc := ⟨.hbm, 139, rfl⟩
abbrev main_v117 : Ref sig .tc := ⟨.hbm, 140, rfl⟩
abbrev main_v118 : Ref sig .tc := ⟨.hbm, 141, rfl⟩
abbrev main_cst_18 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_19 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_cst_20 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_cst_21 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_c_22 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_c_23 : Ref sig .tc := ⟨.hbm, 199, rfl⟩
abbrev main_v171 : Ref sig .tc := ⟨.hbm, 200, rfl⟩
abbrev main_v172 : Ref sig .tc := ⟨.hbm, 201, rfl⟩
abbrev main_c_24 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_c_25 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_c_26 : Ref sig .tc := ⟨.hbm, 210, rfl⟩
abbrev main_v179 : Ref sig .tc := ⟨.hbm, 211, rfl⟩
abbrev main_v180 : Ref sig .tc := ⟨.hbm, 212, rfl⟩
abbrev main_c_27 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_cst_28 : Ref sig .tc := ⟨.hbm, 219, rfl⟩
abbrev main_v186 : Ref sig .tc := ⟨.hbm, 220, rfl⟩
abbrev main_v187 : Ref sig .tc := ⟨.hbm, 221, rfl⟩
abbrev main_cst_29 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_cst_30 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩

abbrev nD : Nat := 1
abbrev τ : Topo := Topo.v7x

variable {F : FTy → Type} [FloatOps F]
-- ==== Merge.lean ====
abbrev S32768x1024 : Shape := ⟨2, ![32768, 1024]⟩
abbrev S32768x2048 : Shape := ⟨2, ![32768, 2048]⟩
abbrev S32768x256 : Shape := ⟨2, ![32768, 256]⟩
abbrev S1x1024 : Shape := ⟨2, ![1, 1024]⟩
abbrev S1x1024x1024 : Shape := ⟨3, ![1, 1024, 1024]⟩
abbrev S1x768x1024 : Shape := ⟨3, ![1, 768, 1024]⟩
abbrev S1024 : Shape := ⟨1, ![1024]⟩
abbrev S1024x1024 : Shape := ⟨2, ![1024, 1024]⟩
abbrev S768x1024 : Shape := ⟨2, ![768, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S256x1024 : Shape := ⟨2, ![256, 1024]⟩
abbrev S256x2048 : Shape := ⟨2, ![256, 2048]⟩

abbrev nBuf : Space → Nat
  | .hbm => 52
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x2048, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S1x1024, .f32⟩
  | .hbm, ⟨12, _⟩ => ⟨S1x1024, .f32⟩
  | .hbm, ⟨13, _⟩ => ⟨S1x1024x1024, .f32⟩
  | .hbm, ⟨14, _⟩ => ⟨S1x768x1024, .f32⟩
  | .hbm, ⟨15, _⟩ => ⟨S1x1024x1024, .f32⟩
  | .hbm, ⟨16, _⟩ => ⟨S1024, .f32⟩
  | .hbm, ⟨17, _⟩ => ⟨S1024, .f32⟩
  | .hbm, ⟨18, _⟩ => ⟨S1024x1024, .f32⟩
  | .hbm, ⟨19, _⟩ => ⟨S768x1024, .f32⟩
  | .hbm, ⟨20, _⟩ => ⟨S1024x1024, .f32⟩
  | .hbm, ⟨21, _⟩ => ⟨S256, .i32⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .bf16⟩
  | .hbm, ⟨46, _⟩ => ⟨S1x1024, .f32⟩
  | .hbm, ⟨47, _⟩ => ⟨S1x1024, .f32⟩
  | .hbm, ⟨48, _⟩ => ⟨S1024x1024, .bf16⟩
  | .hbm, ⟨49, _⟩ => ⟨S768x1024, .bf16⟩
  | .hbm, ⟨50, _⟩ => ⟨S1024x1024, .bf16⟩
  | .hbm, ⟨51, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S1x1024, .f32⟩
  | .local _ .vmem, ⟨23, _⟩ => ⟨S1x1024, .f32⟩
  | .local _ .vmem, ⟨24, _⟩ => ⟨S256x256, .bf16⟩
  | .local _ .vmem, ⟨25, _⟩ => ⟨S1024x1024, .bf16⟩
  | .local _ .vmem, ⟨26, _⟩ => ⟨S768x1024, .bf16⟩
  | .local _ .vmem, ⟨27, _⟩ => ⟨S1024x1024, .bf16⟩
  | .local _ .vmem, ⟨28, _⟩ => ⟨S256x1024, .f32⟩
  | .local _ .vmem, ⟨29, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S32768x1024 : Shape := ⟨2, ![32768, 1024]⟩
abbrev S32768x2048 : Shape := ⟨2, ![32768, 2048]⟩
abbrev S32768x256 : Shape := ⟨2, ![32768, 256]⟩
abbrev S1x1024 : Shape := ⟨2, ![1, 1024]⟩
abbrev S1x1024x1024 : Shape := ⟨3, ![1, 1024, 1024]⟩
abbrev S1x768x1024 : Shape := ⟨3, ![1, 768, 1024]⟩
abbrev S32768x16x64 : Shape := ⟨3, ![32768, 16, 64]⟩
abbrev S_ : Shape := ⟨0, ![]⟩
abbrev S32768x16 : Shape := ⟨2, ![32768, 16]⟩
abbrev S32768x16x1 : Shape := ⟨3, ![32768, 16, 1]⟩
abbrev S1024 : Shape := ⟨1, ![1024]⟩
abbrev S32768x1x256 : Shape := ⟨3, ![32768, 1, 256]⟩
abbrev S32768x3x256 : Shape := ⟨3, ![32768, 3, 256]⟩
abbrev S32768x768 : Shape := ⟨2, ![32768, 768]⟩
abbrev S1024x1024 : Shape := ⟨2, ![1024, 1024]⟩
abbrev S768x1024 : Shape := ⟨2, ![768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x2048, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S1x1024, .f32⟩
  | .hbm, ⟨12, _⟩ => ⟨S1x1024, .f32⟩
  | .hbm, ⟨13, _⟩ => ⟨S1x1024x1024, .f32⟩
  | .hbm, ⟨14, _⟩ => ⟨S1x768x1024, .f32⟩
  | .hbm, ⟨15, _⟩ => ⟨S1x1024x1024, .f32⟩
  | .hbm, ⟨16, _⟩ => ⟨S32768x16x64, .f32⟩
  | .hbm, ⟨17, _⟩ => ⟨S_, .f32⟩
  | .hbm, ⟨18, _⟩ => ⟨S32768x16, .f32⟩
  | .hbm, ⟨19, _⟩ => ⟨S32768x16x1, .f32⟩
  | .hbm, ⟨20, _⟩ => ⟨S_, .f32⟩
  | .hbm, ⟨21, _⟩ => ⟨S32768x16x1, .f32⟩
  | .hbm, ⟨22, _⟩ => ⟨S32768x16x1, .f32⟩
  | .hbm, ⟨23, _⟩ => ⟨S32768x16x64, .f32⟩
  | .hbm, ⟨24, _⟩ => ⟨S32768x16x64, .f32⟩
  | .hbm, ⟨25, _⟩ => ⟨S32768x16x64, .f32⟩
  | .hbm, ⟨26, _⟩ => ⟨S_, .f32⟩
  | .hbm, ⟨27, _⟩ => ⟨S32768x16, .f32⟩
  | .hbm, ⟨28, _⟩ => ⟨S32768x16x1, .f32⟩
  | .hbm, ⟨29, _⟩ => ⟨S_, .f32⟩
  | .hbm, ⟨30, _⟩ => ⟨S32768x16x1, .f32⟩
  | .hbm, ⟨31, _⟩ => ⟨S32768x16x1, .f32⟩
  | .hbm, ⟨32, _⟩ => ⟨S32768x16x64, .f32⟩
  | .hbm, ⟨33, _⟩ => ⟨S32768x16x64, .f32⟩
  | .hbm, ⟨34, _⟩ => ⟨S_, .f32⟩
  | .hbm, ⟨35, _⟩ => ⟨S32768x16x1, .f32⟩
  | .hbm, ⟨36, _⟩ => ⟨S32768x16x1, .f32⟩
  | .hbm, ⟨37, _⟩ => ⟨S32768x16x1, .f32⟩
  | .hbm, ⟨38, _⟩ => ⟨S32768x16x64, .f32⟩
  | .hbm, ⟨39, _⟩ => ⟨S32768x16x64, .f32⟩
  | .hbm, ⟨40, _⟩ => ⟨S32768x1024, .f32⟩
  | .hbm, ⟨41, _⟩ => ⟨S1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1x256, .f32⟩
  | .hbm, ⟨52, _⟩ => ⟨S32768x1x256, .f32⟩
  | .hbm, ⟨53, _⟩ => ⟨S32768x1x256, .f32⟩
  | .hbm, ⟨54, _⟩ => ⟨S32768x3x256, .f32⟩
  | .hbm, ⟨55, _⟩ => ⟨S32768x1x256, .f32⟩
  | .hbm, ⟨56, _⟩ => ⟨S32768x1x256, .f32⟩
  | .hbm, ⟨57, _⟩ => ⟨S32768x1x256, .f32⟩
  | .hbm, ⟨58, _⟩ => ⟨S32768x3x256, .f32⟩
  | .hbm, ⟨59, _⟩ => ⟨S_, .f32⟩
  | .hbm, ⟨60, _⟩ => ⟨S32768x256, .f32⟩
  | .hbm, ⟨61, _⟩ => ⟨S_, .f32⟩
  | .hbm, ⟨62, _⟩ => ⟨S32768x256, .f32⟩
  | .hbm, ⟨63, _⟩ => ⟨S32768x256, .f32⟩
  | .hbm, ⟨64, _⟩ => ⟨S32768x1x256, .f32⟩
  | .hbm, ⟨65, _⟩ => ⟨S32768x3x256, .f32⟩
  | .hbm, ⟨66, _⟩ => ⟨S32768x3x256, .f32⟩
  | .hbm, ⟨67, _⟩ => ⟨S32768x3x256, .f32⟩
  | .hbm, ⟨68, _⟩ => ⟨S_, .f32⟩
  | .hbm, ⟨69, _⟩ => ⟨S32768x256, .f32⟩
  | .hbm, ⟨70, _⟩ => ⟨S32768x1x256, .f32⟩
  | .hbm, ⟨71, _⟩ => ⟨S32768x3x256, .f32⟩
  | .hbm, ⟨72, _⟩ => ⟨S32768x3x256, .f32⟩
  | .hbm, ⟨73, _⟩ => ⟨S32768x3x256, .f32⟩
  | .hbm, ⟨74, _⟩ => ⟨S32768x768, .f32⟩
  | .hbm, ⟨75, _⟩ => ⟨S32768x1024, .f32⟩
  | .hbm, ⟨76, _⟩ => ⟨S32768x1024, .f32⟩
  | .hbm, ⟨77, _⟩ => ⟨S1024x1024, .f32⟩
  | .hbm, ⟨78, _⟩ => ⟨S32768x1024, .f32⟩
  | .hbm, ⟨79, _⟩ => ⟨S32768x1024, .f32⟩
  | .hbm, ⟨80, _⟩ => ⟨S768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S1024x1024, .f32⟩
  | .hbm, ⟨85, _⟩ => ⟨S32768x1024, .f32⟩
  | .hbm, ⟨86, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Proof.FfnMath.lean ====
/- The half-weighted SwiGLU feed-forward step of the layer, one token at a time, over the extended reals: the
   closed form at which the kernel and the reference meet. It names no program. -/
module

public import Idealize.ShloMosaic.Lib.Pointwise

@[expose] public section

noncomputable section

namespace Cert.FfnMath

open Idealize.ShloMosaic

/-- One entry of the token's row after the root-mean-square norm: the entry, over the root of the mean square
    plus the small constant, times the norm's weight. -/
def normed (x w : Fin 1024 → EReal) (k : Fin 1024) : EReal :=
  x k * Ideal.rsqrt (Ideal.div (∑ j : Fin 1024, x j * x j) (Ideal.ofBits .f32 0x44800000#32)
    + Ideal.ofBits .f32 0x358637BD#32) * w k

/-- One hidden unit: the gate column's product `a`, as `a` times its logistic, times the value column's product. -/
def unit (n : Fin 1024 → EReal) (g l : Fin 1024 → EReal) : EReal :=
  (∑ k, n k * g k) * Ideal.logistic (∑ k, n k * g k) * ∑ k, n k * l k

/-- The hidden unit `f` of the row: gate column `f`, value column `2816 + f`. -/
def hidden (n : Fin 1024 → EReal) (Wi : Fin 1024 → Fin 5632 → EReal) (f : Fin 2816) : EReal :=
  unit n (fun k => Wi k ⟨f.val, by omega⟩) (fun k => Wi k ⟨2816 + f.val, by omega⟩)

/-- The token's new entry `c`: the old one plus half of the hidden units' product with the output weights. -/
def ffn (x w : Fin 1024 → EReal) (Wi : Fin 1024 → Fin 5632 → EReal) (Wo : Fin 2816 → Fin 1024 → EReal)
    (c : Fin 1024) : EReal :=
  x c + Ideal.ofBits .f32 0x3F000000#32 * ∑ f : Fin 2816, hidden (normed x w) Wi f * Wo f c

/-- A sum over the 2816 hidden units is the sum over the first 1408 plus the sum over the others. -/
theorem sum_tiles (F : Fin 2816 → EReal) (T0 T1 : EReal)
    (h0 : T0 = ∑ k : Fin 1408, F ⟨k.val, by omega⟩) (h1 : T1 = ∑ k : Fin 1408, F ⟨1408 + k.val, by omega⟩) :
    T0 + T1 = ∑ f, F f := by
  rw [h0, h1, Fin.sum_univ_add (a := 1408) (b := 1408)]
  rfl

end Cert.FfnMath

end
-- ==== Proof.FfnValue.lean ====
/- What the feed-forward kernel leaves in its result array, read at an entry: the closed form of `Cert.FfnMath`.
   One grid point works on 512 tokens; its body adds two tiles of 1408 hidden units. -/
module

public import proofs.«01_k».proof.Proof.Gen.FfnIdeal.Value
public import proofs.«01_k».proof.Proof.FfnMath
public import Idealize.ShloMosaic.Lib.Pointwise
public import Idealize.ShloMosaic.Lib.Pipeline.ValueKit
public import Idealize.ShloMosaic.Lib.Claim

@[expose] public section

set_option maxRecDepth 16384

noncomputable section

namespace Cert.FfnIdeal.KernelValue

open Cert.FfnIdeal Cert.FfnIdeal.Gen Idealize.ShloMosaic Idealize.ShloMosaic.TcCoe Idealize.SL.Sem
open Idealize.ShloMosaic.Pipeline (Dat)

/-- One tile of the hidden units: gate, value, and the product with the tile's output weights. -/
def tile (n : FVec Ideal S512x1024 .bf16) (g l : FVec Ideal S1024x1408 .bf16) (o : FVec Ideal S1408x1024 .bf16) : FVec Ideal S512x1024 .f32 :=
  matmul (F := Ideal) (φ₁ := .bf16) (φ₂ := .bf16) dot_S512x1408_S1408x1024_S512x1024_1_0_0_1_n_n none
    (truncf .bf16 (mulf (mulf
      (matmul (F := Ideal) (φ₁ := .bf16) (φ₂ := .bf16) dot_S512x1024_S1024x1408_S512x1408_1_0_0_1_n_n none n (shapeCast S1024x1408 g shapeCasts_S1024x1408_S1024x1408) (constant S512x1408 .f32 0x00000000#32))
      (logistic (matmul (F := Ideal) (φ₁ := .bf16) (φ₂ := .bf16) dot_S512x1024_S1024x1408_S512x1408_1_0_0_1_n_n none n (shapeCast S1024x1408 g shapeCasts_S1024x1408_S1024x1408) (constant S512x1408 .f32 0x00000000#32))))
      (matmul (F := Ideal) (φ₁ := .bf16) (φ₂ := .bf16) dot_S512x1024_S1024x1408_S512x1408_1_0_0_1_n_n none n (shapeCast S1024x1408 l shapeCasts_S1024x1408_S1024x1408) (constant S512x1408 .f32 0x00000000#32))) bitsLt_bf16_f32)
    (shapeCast S1408x1024 o shapeCasts_S1408x1024_S1408x1024) (constant S512x1024 .f32 0x00000000#32)

theorem tile_at (n : FVec Ideal S512x1024 .bf16) (g l : FVec Ideal S1024x1408 .bf16) (o : FVec Ideal S1408x1024 .bf16) (r : Fin 512) (c : Fin 1024) :
    tile n g l o (ix2 r c) = ∑ k : Fin 1408, FfnMath.unit (fun j => n (ix2 r j)) (fun j => g (ix2 j k)) (fun j => l (ix2 j k)) * o (ix2 k c) := by
  pointwise [tile, FfnMath.unit]

/-- What the body stores: the block plus half of the two tiles' sum. -/
def stored (x0 : FVec Ideal S512x1024 .f32) (x1 : FVec Ideal S1x1024 .f32) (x2 : FVec Ideal S1024x5632 .bf16) (x3 : FVec Ideal S2816x1024 .bf16) : FVec Ideal S512x1024 .f32 :=
  have n := k0_pay3 (F := Ideal) x0 x1
  addf (k0_pay2 (F := Ideal) x0) (mulf (broadcast S512x1024 (Scalar.ofBits (F := Ideal) .f32 0x3F000000#32))
    (addf (tile n (View.ld (Val := Elt Ideal) (e' := .bf16) x2 r0_2) (View.ld (Val := Elt Ideal) (e' := .bf16) x2 r0_3) (View.ld (Val := Elt Ideal) (e' := .bf16) x3 r0_4))
      (tile n (View.ld (Val := Elt Ideal) (e' := .bf16) x2 r0_5) (View.ld (Val := Elt Ideal) (e' := .bf16) x2 r0_6) (View.ld (Val := Elt Ideal) (e' := .bf16) x3 r0_7))))

theorem out_eq (x0 : FVec Ideal S512x1024 .f32) (x1 : FVec Ideal S1x1024 .f32) (x2 : FVec Ideal S1024x5632 .bf16) (x3 : FVec Ideal S2816x1024 .bf16) :
    out0_4 (F := Ideal) x0 x1 x2 x3 = stored x0 x1 x2 x3 := by
  unfold out0_4 k0_pay1
  frame_out
  rfl

theorem norm_at (x0 : FVec Ideal S512x1024 .f32) (x1 : FVec Ideal S1x1024 .f32) (r : Fin 512) (k : Fin 1024) :
    k0_pay3 (F := Ideal) x0 x1 (ix2 r k) = FfnMath.normed (fun j => x0 (ix2 r j)) (fun j => x1 (ix2 0 j)) k := by
  pointwise [k0_pay3, k0_pay2, FfnMath.normed]

/-- The body's result at an entry: the closed form of the block's row. -/
theorem stored_at (x0 : FVec Ideal S512x1024 .f32) (x1 : FVec Ideal S1x1024 .f32) (x2 : FVec Ideal S1024x5632 .bf16) (x3 : FVec Ideal S2816x1024 .bf16) (r : Fin 512) (c : Fin 1024) :
    stored x0 x1 x2 x3 (ix2 r c) = FfnMath.ffn (fun j => x0 (ix2 r j)) (fun j => x1 (ix2 0 j)) (fun k f => x2 (ix2 k f)) (fun f c => x3 (ix2 f c)) c := by
  have hn : (fun j => k0_pay3 (F := Ideal) x0 x1 (ix2 r j)) = FfnMath.normed (fun j => x0 (ix2 r j)) (fun j => x1 (ix2 0 j)) :=
    funext fun j => norm_at x0 x1 r j
  pointwise [stored, FfnMath.ffn, k0_pay2, tile_at]
  refine congrArg₂ (· + ·) rfl (congrArg₂ (· * ·) rfl ?_)
  simp only [hn]
  refine FfnMath.sum_tiles _ _ _ ?_ ?_ <;>
    refine Finset.sum_congr rfl fun k _ => ?_ <;>
    simp only [FfnMath.hidden, ← Nat.add_assoc, Nat.reduceMul, Nat.reduceAdd, Nat.zero_add]

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The result array as one function of the argument arrays. -/
def result (X : FVec Ideal S8x4096x1024 .f32) (W : FVec Ideal S1x1024 .f32) (Wi : FVec Ideal S1x1024x5632 .f32) (Wo : FVec Ideal S1x2816x1024 .f32) : FVec Ideal S32768x1024 .f32 :=
  fun i => FfnMath.ffn (fun j => X (ix3 ⟨(show Fin 32768 from i 0).val / 4096, by omega⟩ ⟨(show Fin 32768 from i 0).val % 4096, by omega⟩ j)) (fun j => W (ix2 0 j)) (fun k f => Wi (ix3 0 k f)) (fun f c => Wo (ix3 0 f c)) (i 1)

theorem x_at (c : Dev nD) (t : Fin cfg0.N) (r : Fin 512) (k : Fin 1024) (i : Fin 32768) (hi : i.val = t.val * 512 + r.val) :
    (show FVec Ideal S512x1024 .f32 from iblk m c 0 t) (ix2 r k) = (show FVec Ideal S8x4096x1024 .f32 from m ((c : Thread nD τ).loc main_arg0)) (ix3 ⟨i.val / 4096, by omega⟩ ⟨i.val % 4096, by omega⟩ k) := by
  blk_simp [iblk, idx t]
  entry_read
  pointwise
  blk_ext [idx t]

theorem w_at (c : Dev nD) (t : Fin cfg0.N) (k : Fin 1024) :
    (show FVec Ideal S1x1024 .f32 from iblk m c 1 t) (ix2 0 k) = (show FVec Ideal S1x1024 .f32 from m ((c : Thread nD τ).loc main_arg1)) (ix2 0 k) := by
  blk_simp [iblk, idx t]
  entry_read
  pointwise
  blk_ext [idx t]

theorem wi_at (c : Dev nD) (t : Fin cfg0.N) (k : Fin 1024) (f : Fin 5632) :
    (show FVec Ideal S1024x5632 .bf16 from iblk m c 2 t) (ix2 k f) = (show FVec Ideal S1x1024x5632 .f32 from m ((c : Thread nD τ).loc main_arg2)) (ix3 0 k f) := by
  blk_simp [iblk, idx t]
  entry_read
  pointwise
  blk_ext [idx t]

theorem wo_at (c : Dev nD) (t : Fin cfg0.N) (f : Fin 2816) (k : Fin 1024) :
    (show FVec Ideal S2816x1024 .bf16 from iblk m c 3 t) (ix2 f k) = (show FVec Ideal S1x2816x1024 .f32 from m ((c : Thread nD τ).loc main_arg3)) (ix3 0 f k) := by
  blk_simp [iblk, idx t]
  entry_read
  pointwise
  blk_ext [idx t]

theorem point (c : Dev nD) (t : Fin cfg0.N) (y : S512x1024.Idx) :
    stored (iblk m c 0 t) (iblk m c 1 t) (iblk m c 2 t) (iblk m c 3 t) y
      = result (m ((c : Thread nD τ).loc main_arg0)) (m ((c : Thread nD τ).loc main_arg1)) (m ((c : Thread nD τ).loc main_arg2)) (m ((c : Thread nD τ).loc main_arg3)) (((cfg0.win 4).blk t).view.emb y) := by
  idx_vars y
  have ht : t.val < 64 := lt_of_lt_of_eq t.isLt N_0
  have hb : t.val * 512 + y0.val < 32768 := by omega
  have hemb : ((cfg0.win 4).blk t).view.emb (ix2 y0 y1) = (ix2 ⟨t.val * 512 + y0.val, hb⟩ y1 : S32768x1024.Idx) := by
    blk_ext [idx t]
  rw [stored_at, hemb]
  exact congrFun (congr (congr (congr (congrArg FfnMath.ffn (funext fun k => x_at m c t y0 k ⟨t.val * 512 + y0.val, hb⟩ rfl))
    (funext fun k => w_at m c t k)) (funext fun k => funext fun f => wi_at m c t k f))
    (funext fun f => funext fun k => wo_at m c t f k)) y1

theorem final (c : Dev nD) : (dats m 0 c).arrAt 4 (cfgs 0).N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, out_eq]
  exact point m c t y

end Cert.FfnIdeal.KernelValue

end
-- ==== Proof.FfnRefValue.lean ====
/- The feed-forward reference's result, read at an entry: the closed form of `Cert.FfnMath`. -/
module

public import proofs.«01_k».proof.Proof.Gen.FfnRefIdeal.Run
public import proofs.«01_k».proof.Proof.FfnMath
public import Idealize.ShloMosaic.Lib.Pointwise

@[expose] public section

set_option maxRecDepth 16384

noncomputable section

namespace Cert.FfnRefIdeal.RefValue

open Cert.FfnRefIdeal Cert.FfnRefIdeal.Gen Idealize.ShloMosaic Idealize.ShloMosaic.TcCoe Idealize.SL.Sem

/-- The normed rows, as the reference composes them. -/
def NORM (X : FVec Ideal S8x4096x1024 .f32) (W : FVec Ideal S1x1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ W shapeCasts_S1x1024_S1024)))

/-- The product with the input weights. -/
def HID (X : FVec Ideal S8x4096x1024 .f32) (W : FVec Ideal S1x1024 .f32) (Wi : FVec Ideal S1x1024x5632 .f32) : FVec Ideal S8x4096x5632 .f32 :=
  Host.dotGeneral (F := Ideal) (φ₁ := .f32) (φ₂ := .f32) dot_S8x4096x1024_S1024x5632_S8x4096x5632_2_0_01_1_n_n none (NORM X W) (shapeCast _ Wi shapeCasts_S1x1024x5632_S1024x5632)

/-- The gated hidden units. -/
def ACT (A : FVec Ideal S8x4096x5632 .f32) : FVec Ideal S8x4096x2816 .f32 :=
  mulf (mulf (extractStridedSlice S8x4096x2816 ![0, 0, 0] A slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] A slices_S8x4096x5632_S8x4096x2816_0_0_0)))))) (extractStridedSlice S8x4096x2816 ![0, 0, 2816] A slices_S8x4096x5632_S8x4096x2816_0_0_2816)

/-- The reference's composed term. -/
def REF (X : FVec Ideal S8x4096x1024 .f32) (W : FVec Ideal S1x1024 .f32) (Wi : FVec Ideal S1x1024x5632 .f32) (Wo : FVec Ideal S1x2816x1024 .f32) : FVec Ideal S32768x1024 .f32 :=
  shapeCast _ (addf X (mulf (broadcastInDim S8x4096x1024 ![] bcast_S_S8x4096x1024 (constant S_ .f32 0x3F000000#32)) (Host.dotGeneral (F := Ideal) (φ₁ := .f32) (φ₂ := .f32) dot_S8x4096x2816_S2816x1024_S8x4096x1024_2_0_01_1_n_n none (ACT (HID X W Wi)) (shapeCast _ Wo shapeCasts_S1x2816x1024_S2816x1024)))) shapeCasts_S8x4096x1024_S32768x1024

theorem norm_at (X : FVec Ideal S8x4096x1024 .f32) (W : FVec Ideal S1x1024 .f32) (b : Fin 8) (s : Fin 4096) (k : Fin 1024) :
    NORM X W (ix3 b s k) = FfnMath.normed (fun j => X (ix3 b s j)) (fun j => W (ix2 0 j)) k := by
  pointwise [NORM, FfnMath.normed]
  try rw [zero_add]

theorem hid_at (X : FVec Ideal S8x4096x1024 .f32) (W : FVec Ideal S1x1024 .f32) (Wi : FVec Ideal S1x1024x5632 .f32) (b : Fin 8) (s : Fin 4096) (f : Fin 5632) :
    HID X W Wi (ix3 b s f) = ∑ k : Fin 1024, FfnMath.normed (fun j => X (ix3 b s j)) (fun j => W (ix2 0 j)) k * Wi (ix3 0 k f) := by
  pointwise [HID]
  exact Finset.sum_congr rfl fun k _ => by rw [norm_at]

theorem act_at (A : FVec Ideal S8x4096x5632 .f32) (b : Fin 8) (s : Fin 4096) (f : Fin 2816) :
    ACT A (ix3 b s f) = A (ix3 b s ⟨f.val, by omega⟩) * Ideal.logistic (A (ix3 b s ⟨f.val, by omega⟩)) * A (ix3 b s ⟨2816 + f.val, by omega⟩) := by
  pointwise [ACT]
  rfl

/-- The reference's result at an entry is the closed form of the token's row. -/
theorem ref_at (X : FVec Ideal S8x4096x1024 .f32) (W : FVec Ideal S1x1024 .f32) (Wi : FVec Ideal S1x1024x5632 .f32) (Wo : FVec Ideal S1x2816x1024 .f32) (r : Fin 32768) (c : Fin 1024) :
    REF X W Wi Wo (ix2 r c) = FfnMath.ffn (fun j => X (ix3 ⟨r.val / 4096, by omega⟩ ⟨r.val % 4096, by omega⟩ j)) (fun j => W (ix2 0 j)) (fun k f => Wi (ix3 0 k f)) (fun f c => Wo (ix3 0 f c)) c := by
  pointwise [REF, FfnMath.ffn]
  refine congrArg₂ (· + ·) rfl (congrArg₂ (· * ·) rfl (Finset.sum_congr rfl fun f _ => ?_))
  rw [act_at, hid_at, hid_at]
  rfl

end Cert.FfnRefIdeal.RefValue

end
-- ==== Proof.FfnClaim.lean ====
/- The feed-forward call's value claim: from equal arguments the idealized kernel and the reference end with equal
   result arrays. -/
module

public import proofs.«01_k».proof.Defs
public import proofs.«01_k».proof.Proof.FfnValue
public import proofs.«01_k».proof.Proof.FfnRefValue
public import Idealize.ShloMosaic.Lib.Claim

@[expose] public section

set_option maxRecDepth 16384

noncomputable section

namespace Cert.Proof

open Idealize.ShloMosaic Idealize.SL.Sem

/-- The reference's array and the kernel's agree row by row. -/
theorem ffn_result_eq (X : FVec Ideal Cert.FfnIdeal.S8x4096x1024 .f32) (W : FVec Ideal Cert.FfnIdeal.S1x1024 .f32)
    (Wi : FVec Ideal Cert.FfnIdeal.S1x1024x5632 .f32) (Wo : FVec Ideal Cert.FfnIdeal.S1x2816x1024 .f32) :
    Cert.FfnRefIdeal.RefValue.REF X W Wi Wo = Cert.FfnIdeal.KernelValue.result X W Wi Wo := by
  funext i
  rw [eq_ix2 i]
  exact Cert.FfnRefIdeal.RefValue.ref_at X W Wi Wo (i 0) (i 1)

/-- Both runs end at the same array from arguments that agree. -/
theorem ffn_algebraic : Cert.algebraic_FfnIdeal_FfnRefIdeal := by
  pair_intro
  · run_from Cert.FfnIdeal.Value.run_blocks m g
  · run_from Cert.FfnRefIdeal.Value.run m' g'
    refine Eq.trans ?_ (Cert.FfnIdeal.KernelValue.final m c).symm
    exact ffn_result_eq _ _ _ _

/-- The reference is host operations alone: its run keeps the arguments, and it declares no semaphore. -/
theorem ffn_ref_frame : Cert.quiescent_FfnRefIdeal (hFfnRefIdeal := Cert.FfnRefIdeal.Gen.facts) := by
  intro m g _
  exact (θ_run Cert.FfnRefIdeal.defs _ _).mono
    (fun r h => ⟨fun c => (h c).2, sem_eq_zero_of_no_sems (by decide) r.2⟩)
    (Cert.FfnRefIdeal.Value.run (F := Ideal) m g)

end Cert.Proof

end
-- ==== Proof.ProjBitsRunA.lean ====
module

public import proofs.«01_k».proof.Proof.Gen.Proj.Frame.Runs

@[expose] public section

set_option maxRecDepth 16384

noncomputable section

namespace Cert.Proj.Body

open Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- sixteen operands, twelve results and a carried row, each with its own staging buffer: the step count of this one
-- proof grows with their product, so it has its own budget
set_option maxHeartbeats 4000000 in
/-- The projection kernel on machine numbers at the first token tile of a sequence (the carried row is zeroed): from whole staging buffers the body runs to its end and leaves its inputs as they were; what the outputs hold is not named. -/
theorem runFirst (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x7808 .bf16) (harg3 : arg3.IsWhole) (arg4 : Memref sig .tc .vmem S1x2048 .f32) (harg4 : arg4.IsWhole) (arg5 : Memref sig .tc .vmem S1x3456 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S256x256 .bf16) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x768 .bf16) (harg25 : arg25.IsWhole) (arg26 : Memref sig .tc .vmem S256x768 .bf16) (harg26 : arg26.IsWhole) (arg27 : Memref sig .tc .vmem S256x768 .bf16) (harg27 : arg27.IsWhole) (arg28 : Memref sig .tc .vmem S256x2048 .f32) (harg28 : arg28.IsWhole) (arg29 : Memref sig .tc .vmem S1x3456 .f32) (harg29 : arg29.IsWhole) (hc0 : cond0_0 i)
    (x0 : Vec F S256x1024 .f32) (x1 : Vec F S1x1024 .f32) (x2 : Vec F S1024x7808 .bf16) (x3 : Vec F S1x2048 .f32) (x4 : Vec F S1x3456 .f32) (x5 : Vec F S1x1024 .f32) (x6 : Vec F S128x1024 .bf16) (x7 : Vec F S1x1024 .f32) (x8 : Vec F S128x1024 .bf16) (x9 : Vec F S256x1024 .bf16) (x10 : Vec F S1x1024 .f32) (x11 : Vec F S1x1024 .f32) (x12 : Vec F S1x1024 .f32) (x13 : Vec F S1x768 .f32) (x14 : Vec F S1x768 .f32) (x15 : Vec F S256x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact HS0
    ipureintro; rfl

end Cert.Proj.Body

end
-- ==== Proof.ProjBitsRunB.lean ====
module

public import proofs.«01_k».proof.Proof.ProjBitsRunA

@[expose] public section

set_option maxRecDepth 16384

noncomputable section

namespace Cert.Proj.Body

open Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- sixteen operands, twelve results and a carried row, each with its own staging buffer: the step count of this one
-- proof grows with their product, so it has its own budget
set_option maxHeartbeats 4000000 in
/-- The projection kernel on machine numbers at a later token tile of a sequence (the carried row is the one the tile before left): from whole staging buffers the body runs to its end and leaves its inputs as they were; what the outputs hold is not named. -/
theorem runLater (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x7808 .bf16) (harg3 : arg3.IsWhole) (arg4 : Memref sig .tc .vmem S1x2048 .f32) (harg4 : arg4.IsWhole) (arg5 : Memref sig .tc .vmem S1x3456 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S256x256 .bf16) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x768 .bf16) (harg25 : arg25.IsWhole) (arg26 : Memref sig .tc .vmem S256x768 .bf16) (harg26 : arg26.IsWhole) (arg27 : Memref sig .tc .vmem S256x768 .bf16) (harg27 : arg27.IsWhole) (arg28 : Memref sig .tc .vmem S256x2048 .f32) (harg28 : arg28.IsWhole) (arg29 : Memref sig .tc .vmem S1x3456 .f32) (harg29 : arg29.IsWhole) (hc0 : ¬cond0_0 i)
    (x0 : Vec F S256x1024 .f32) (x1 : Vec F S1x1024 .f32) (x2 : Vec F S1024x7808 .bf16) (x3 : Vec F S1x2048 .f32) (x4 : Vec F S1x3456 .f32) (x5 : Vec F S1x1024 .f32) (x6 : Vec F S128x1024 .bf16) (x7 : Vec F S1x1024 .f32) (x8 : Vec F S128x1024 .bf16) (x9 : Vec F S256x1024 .bf16) (x10 : Vec F S1x1024 .f32) (x11 : Vec F S1x1024 .f32) (x12 : Vec F S1x1024 .f32) (x13 : Vec F S1x768 .f32) (x14 : Vec F S1x768 .f32) (x15 : Vec F S256x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact HS0
    ipureintro; rfl

end Cert.Proj.Body

end
-- ==== Proof.ProjBitsFrame.lean ====
/- The frame of the projection kernel on bits: the outputs are left unnamed. -/
module

public import proofs.«01_k».proof.Proof.ProjBitsRunB
public import Idealize.ShloMosaic.Lib.Claim

@[expose] public section

set_option maxRecDepth 16384

noncomputable section

namespace Cert.Proj.Body

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 28 → Bool := fun w => w.val == 16 || w.val == 17 || w.val == 18 || w.val == 19 || w.val == 20 || w.val == 21 || w.val == 22 || w.val == 23 || w.val == 24 || w.val == 25 || w.val == 26 || w.val == 27

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

set_option maxHeartbeats 5600000 in
/-- The body at any point: it runs, and gives back every buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  have hN : t.val < 128 := lt_of_lt_of_eq t.isLt (show cfg0.N = 128 from N_0)
  by_cases h0 : t.val % 16 = 0
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((runFirst c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [HS0]; · iexact HS0
    iintro ⟨H0, H1, H2, H3, H4, H5, H6, H7, H8, H9, H10, H11, H12, H13, H14, H15, H16, H17, H18, H19, H20, H21, H22, H23, H24, H25, H26, H27, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((runLater c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [HS0]; · iexact HS0
    iintro ⟨H0, H1, H2, H3, H4, H5, H6, H7, H8, H9, H10, H11, H12, H13, H14, H15, H16, H17, H18, H19, H20, H21, H22, H23, H24, H25, H26, H27, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

theorem defs₀_row (t : Fin cfg0.N) :
    defs₀ (F := F) .tc cfg0.body (cfg0.bodyArgs t (cfg0.slots t)) = bodyAt0 t := by
  unfold defs₀; rw [Defs.onTc_tc]

set_option maxHeartbeats 40000000 in
/-- The library's obligation on the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option maxHeartbeats 1680000 in
/-- A run that ends at the region's entry contents outside the windows keeps every argument array. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

set_option backward.isDefEq.respectTransparency.types false in
set_option maxHeartbeats 4000000 in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_kept m ρ (fun c => (dats m 0 c).toRForget forgets0) (A_eq m) (run_main m ρ)

/-- The frame of the projection kernel on bits: it runs, and changes no argument array. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Proj.Body

end
-- ==== Proof.ProjRunA.lean ====
module

public import proofs.«01_k».proof.Proof.Gen.ProjIdeal.Frame.Runs

@[expose] public section

set_option maxRecDepth 16384

noncomputable section

namespace Cert.ProjIdeal.Body

open Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- sixteen operands, twelve results and a carried row, each with its own staging buffer: the step count of this one
-- proof grows with their product, so it has its own budget
set_option maxHeartbeats 4000000 in
/-- The projection kernel over the reals at the first token tile of a sequence (the carried row is zeroed): from whole staging buffers the body runs to its end, leaves its inputs as they were, and writes into every output and into the carried row the pieces collected here. -/
noncomputable def runFirst (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x7808 .bf16) (harg3 : arg3.IsWhole) (arg4 : Memref sig .tc .vmem S1x2048 .f32) (harg4 : arg4.IsWhole) (arg5 : Memref sig .tc .vmem S1x3456 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S256x256 .bf16) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x768 .bf16) (harg25 : arg25.IsWhole) (arg26 : Memref sig .tc .vmem S256x768 .bf16) (harg26 : arg26.IsWhole) (arg27 : Memref sig .tc .vmem S256x768 .bf16) (harg27 : arg27.IsWhole) (arg28 : Memref sig .tc .vmem S256x2048 .f32) (harg28 : arg28.IsWhole) (arg29 : Memref sig .tc .vmem S1x3456 .f32) (harg29 : arg29.IsWhole) (hc0 : cond0_0 i)
    (x0 : Vec F S256x1024 .f32) (x1 : Vec F S1x1024 .f32) (x2 : Vec F S1024x7808 .bf16) (x3 : Vec F S1x2048 .f32) (x4 : Vec F S1x3456 .f32) (x5 : Vec F S1x1024 .f32) (x6 : Vec F S128x1024 .bf16) (x7 : Vec F S1x1024 .f32) (x8 : Vec F S128x1024 .bf16) (x9 : Vec F S256x1024 .bf16) (x10 : Vec F S1x1024 .f32) (x11 : Vec F S1x1024 .f32) (x12 : Vec F S1x1024 .f32) (x13 : Vec F S1x768 .f32) (x14 : Vec F S1x768 .f32) (x15 : Vec F S256x256 .bf16) :
    Σ' (L16 : List (View.Piece (Elt F) S256x1024 .f32)), Σ' (L17 : List (View.Piece (Elt F) S256x1024 .f32)), Σ' (L18 : List (View.Piece (Elt F) S256x1024 .f32)), Σ' (L19 : List (View.Piece (Elt F) S256x1024 .f32)), Σ' (L20 : List (View.Piece (Elt F) S256x1024 .f32)), Σ' (L21 : List (View.Piece (Elt F) S256x1024 .f32)), Σ' (L22 : List (View.Piece (Elt F) S256x1024 .f32)), Σ' (L23 : List (View.Piece (Elt F) S256x1024 .f32)), Σ' (L24 : List (View.Piece (Elt F) S256x768 .bf16)), Σ' (L25 : List (View.Piece (Elt F) S256x768 .bf16)), Σ' (L26 : List (View.Piece (Elt F) S256x768 .bf16)), Σ' (L27 : List (View.Piece (Elt F) S256x2048 .f32)), { LS0 : List (View.Piece (Elt F) S1x3456 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f LS0)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact HS0

end Cert.ProjIdeal.Body

end
-- ==== Proof.ProjFrame.lean ====
/- The frame of the projection kernel over the extended reals: what each grid point leaves in the twelve
   output blocks and in the carried row, from the two runs of the body, and the run of the whole program. -/
module

public import proofs.«01_k».proof.Proof.ProjRunB
public import Idealize.ShloMosaic.Lib.Claim

@[expose] public section

set_option maxRecDepth 16384

noncomputable section

namespace Cert.ProjIdeal.Body

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at a point that starts a sequence, on the point's buffers and input blocks. -/
def atA (c : Dev nD) (t : Fin cfg0.N) (h0 : t.val % 16 = 0) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The body's run at any other point, over the row the point before carried. -/
def atB (c : Dev nD) (t : Fin cfg0.N) (h0 : ¬t.val % 16 = 0) (xs : Vec F S1x3456 .f32) :=
  runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (mt (hcond0_0 t).mp h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs

theorem coverA_16 (c : Dev nD) (t : Fin cfg0.N) (h0 : t.val % 16 = 0) (y : S256x1024.Idx) : ∃ pc ∈ (atA m c t h0).1, y ∈ pc.1.set :=
  View.cover_of_tiledL (atA m c t h0).1 S256x1024.size (by sl_kernel_rfl) y

theorem coverA_17 (c : Dev nD) (t : Fin cfg0.N) (h0 : t.val % 16 = 0) (y : S256x1024.Idx) : ∃ pc ∈ (atA m c t h0).2.1, y ∈ pc.1.set :=
  View.cover_of_tiledL (atA m c t h0).2.1 S256x1024.size (by sl_kernel_rfl) y

theorem coverA_18 (c : Dev nD) (t : Fin cfg0.N) (h0 : t.val % 16 = 0) (y : S256x1024.Idx) : ∃ pc ∈ (atA m c t h0).2.2.1, y ∈ pc.1.set :=
  View.cover_of_tiledL (atA m c t h0).2.2.1 S256x1024.size (by sl_kernel_rfl) y

theorem coverA_19 (c : Dev nD) (t : Fin cfg0.N) (h0 : t.val % 16 = 0) (y : S256x1024.Idx) : ∃ pc ∈ (atA m c t h0).2.2.2.1, y ∈ pc.1.set :=
  View.cover_of_tiledL (atA m c t h0).2.2.2.1 S256x1024.size (by sl_kernel_rfl) y

theorem coverA_20 (c : Dev nD) (t : Fin cfg0.N) (h0 : t.val % 16 = 0) (y : S256x1024.Idx) : ∃ pc ∈ (atA m c t h0).2.2.2.2.1, y ∈ pc.1.set :=
  View.cover_of_tiledL (atA m c t h0).2.2.2.2.1 S256x1024.size (by sl_kernel_rfl) y

theorem coverA_21 (c : Dev nD) (t : Fin cfg0.N) (h0 : t.val % 16 = 0) (y : S256x1024.Idx) : ∃ pc ∈ (atA m c t h0).2.2.2.2.2.1, y ∈ pc.1.set :=
  View.cover_of_tiledL (atA m c t h0).2.2.2.2.2.1 S256x1024.size (by sl_kernel_rfl) y

theorem coverA_22 (c : Dev nD) (t : Fin cfg0.N) (h0 : t.val % 16 = 0) (y : S256x1024.Idx) : ∃ pc ∈ (atA m c t h0).2.2.2.2.2.2.1, y ∈ pc.1.set :=
  View.cover_of_tiledL (atA m c t h0).2.2.2.2.2.2.1 S256x1024.size (by sl_kernel_rfl) y

theorem coverA_23 (c : Dev nD) (t : Fin cfg0.N) (h0 : t.val % 16 = 0) (y : S256x1024.Idx) : ∃ pc ∈ (atA m c t h0).2.2.2.2.2.2.2.1, y ∈ pc.1.set :=
  View.cover_of_tiledL (atA m c t h0).2.2.2.2.2.2.2.1 S256x1024.size (by sl_kernel_rfl) y

theorem coverA_24 (c : Dev nD) (t : Fin cfg0.N) (h0 : t.val % 16 = 0) (y : S256x768.Idx) : ∃ pc ∈ (atA m c t h0).2.2.2.2.2.2.2.2.1, y ∈ pc.1.set :=
  View.cover_of_tiledL (atA m c t h0).2.2.2.2.2.2.2.2.1 S256x768.size (by sl_kernel_rfl) y

theorem coverA_25 (c : Dev nD) (t : Fin cfg0.N) (h0 : t.val % 16 = 0) (y : S256x768.Idx) : ∃ pc ∈ (atA m c t h0).2.2.2.2.2.2.2.2.2.1, y ∈ pc.1.set :=
  View.cover_of_tiledL (atA m c t h0).2.2.2.2.2.2.2.2.2.1 S256x768.size (by sl_kernel_rfl) y

theorem coverA_26 (c : Dev nD) (t : Fin cfg0.N) (h0 : t.val % 16 = 0) (y : S256x768.Idx) : ∃ pc ∈ (atA m c t h0).2.2.2.2.2.2.2.2.2.2.1, y ∈ pc.1.set :=
  View.cover_of_tiledL (atA m c t h0).2.2.2.2.2.2.2.2.2.2.1 S256x768.size (by sl_kernel_rfl) y

theorem coverA_27 (c : Dev nD) (t : Fin cfg0.N) (h0 : t.val % 16 = 0) (y : S256x2048.Idx) : ∃ pc ∈ (atA m c t h0).2.2.2.2.2.2.2.2.2.2.2.1, y ∈ pc.1.set :=
  View.cover_of_tiledL (atA m c t h0).2.2.2.2.2.2.2.2.2.2.2.1 S256x2048.size (by sl_kernel_rfl) y

theorem coverA_row (c : Dev nD) (t : Fin cfg0.N) (h0 : t.val % 16 = 0) (y : S1x3456.Idx) : ∃ pc ∈ (atA m c t h0).2.2.2.2.2.2.2.2.2.2.2.2.1, y ∈ pc.1.set :=
  View.cover_of_tiledL (atA m c t h0).2.2.2.2.2.2.2.2.2.2.2.2.1 S1x3456.size (by sl_kernel_rfl) y

/-- What the run leaves in the twelve output blocks, and last in the carried row. -/
def outsA (c : Dev nD) (t : Fin cfg0.N) (h0 : t.val % 16 = 0) : Vec F S256x1024 .f32 × Vec F S256x1024 .f32 × Vec F S256x1024 .f32 × Vec F S256x1024 .f32 × Vec F S256x1024 .f32 × Vec F S256x1024 .f32 × Vec F S256x1024 .f32 × Vec F S256x1024 .f32 × Vec F S256x768 .bf16 × Vec F S256x768 .bf16 × Vec F S256x768 .bf16 × Vec F S256x2048 .f32 × Vec F S1x3456 .f32 :=
  (VO0_16.read (Elt F) (VO0_16.writes (Elt F) VO0_16.junk (atA m c t h0).1),
   VO0_17.read (Elt F) (VO0_17.writes (Elt F) VO0_17.junk (atA m c t h0).2.1),
   VO0_18.read (Elt F) (VO0_18.writes (Elt F) VO0_18.junk (atA m c t h0).2.2.1),
   VO0_19.read (Elt F) (VO0_19.writes (Elt F) VO0_19.junk (atA m c t h0).2.2.2.1),
   VO0_20.read (Elt F) (VO0_20.writes (Elt F) VO0_20.junk (atA m c t h0).2.2.2.2.1),
   VO0_21.read (Elt F) (VO0_21.writes (Elt F) VO0_21.junk (atA m c t h0).2.2.2.2.2.1),
   VO0_22.read (Elt F) (VO0_22.writes (Elt F) VO0_22.junk (atA m c t h0).2.2.2.2.2.2.1),
   VO0_23.read (Elt F) (VO0_23.writes (Elt F) VO0_23.junk (atA m c t h0).2.2.2.2.2.2.2.1),
   VO0_24.read (Elt F) (VO0_24.writes (Elt F) VO0_24.junk (atA m c t h0).2.2.2.2.2.2.2.2.1),
   VO0_25.read (Elt F) (VO0_25.writes (Elt F) VO0_25.junk (atA m c t h0).2.2.2.2.2.2.2.2.2.1),
   VO0_26.read (Elt F) (VO0_26.writes (Elt F) VO0_26.junk (atA m c t h0).2.2.2.2.2.2.2.2.2.2.1),
   VO0_27.read (Elt F) (VO0_27.writes (Elt F) VO0_27.junk (atA m c t h0).2.2.2.2.2.2.2.2.2.2.2.1),
   VS0_0.read (Elt F) (VS0_0.writes (Elt F) VS0_0.junk (atA m c t h0).2.2.2.2.2.2.2.2.2.2.2.2.1))

theorem coverB_16 (c : Dev nD) (t : Fin cfg0.N) (h0 : ¬t.val % 16 = 0) (xs : Vec F S1x3456 .f32) (y : S256x1024.Idx) : ∃ pc ∈ (atB m c t h0 xs).1, y ∈ pc.1.set :=
  View.cover_of_tiledL (atB m c t h0 xs).1 S256x1024.size (by sl_kernel_rfl) y

theorem coverB_17 (c : Dev nD) (t : Fin cfg0.N) (h0 : ¬t.val % 16 = 0) (xs : Vec F S1x3456 .f32) (y : S256x1024.Idx) : ∃ pc ∈ (atB m c t h0 xs).2.1, y ∈ pc.1.set :=
  View.cover_of_tiledL (atB m c t h0 xs).2.1 S256x1024.size (by sl_kernel_rfl) y

theorem coverB_18 (c : Dev nD) (t : Fin cfg0.N) (h0 : ¬t.val % 16 = 0) (xs : Vec F S1x3456 .f32) (y : S256x1024.Idx) : ∃ pc ∈ (atB m c t h0 xs).2.2.1, y ∈ pc.1.set :=
  View.cover_of_tiledL (atB m c t h0 xs).2.2.1 S256x1024.size (by sl_kernel_rfl) y

theorem coverB_19 (c : Dev nD) (t : Fin cfg0.N) (h0 : ¬t.val % 16 = 0) (xs : Vec F S1x3456 .f32) (y : S256x1024.Idx) : ∃ pc ∈ (atB m c t h0 xs).2.2.2.1, y ∈ pc.1.set :=
  View.cover_of_tiledL (atB m c t h0 xs).2.2.2.1 S256x1024.size (by sl_kernel_rfl) y

theorem coverB_20 (c : Dev nD) (t : Fin cfg0.N) (h0 : ¬t.val % 16 = 0) (xs : Vec F S1x3456 .f32) (y : S256x1024.Idx) : ∃ pc ∈ (atB m c t h0 xs).2.2.2.2.1, y ∈ pc.1.set :=
  View.cover_of_tiledL (atB m c t h0 xs).2.2.2.2.1 S256x1024.size (by sl_kernel_rfl) y

theorem coverB_21 (c : Dev nD) (t : Fin cfg0.N) (h0 : ¬t.val % 16 = 0) (xs : Vec F S1x3456 .f32) (y : S256x1024.Idx) : ∃ pc ∈ (atB m c t h0 xs).2.2.2.2.2.1, y ∈ pc.1.set :=
  View.cover_of_tiledL (atB m c t h0 xs).2.2.2.2.2.1 S256x1024.size (by sl_kernel_rfl) y

theorem coverB_22 (c : Dev nD) (t : Fin cfg0.N) (h0 : ¬t.val % 16 = 0) (xs : Vec F S1x3456 .f32) (y : S256x1024.Idx) : ∃ pc ∈ (atB m c t h0 xs).2.2.2.2.2.2.1, y ∈ pc.1.set :=
  View.cover_of_tiledL (atB m c t h0 xs).2.2.2.2.2.2.1 S256x1024.size (by sl_kernel_rfl) y

theorem coverB_23 (c : Dev nD) (t : Fin cfg0.N) (h0 : ¬t.val % 16 = 0) (xs : Vec F S1x3456 .f32) (y : S256x1024.Idx) : ∃ pc ∈ (atB m c t h0 xs).2.2.2.2.2.2.2.1, y ∈ pc.1.set :=
  View.cover_of_tiledL (atB m c t h0 xs).2.2.2.2.2.2.2.1 S256x1024.size (by sl_kernel_rfl) y

theorem coverB_24 (c : Dev nD) (t : Fin cfg0.N) (h0 : ¬t.val % 16 = 0) (xs : Vec F S1x3456 .f32) (y : S256x768.Idx) : ∃ pc ∈ (atB m c t h0 xs).2.2.2.2.2.2.2.2.1, y ∈ pc.1.set :=
  View.cover_of_tiledL (atB m c t h0 xs).2.2.2.2.2.2.2.2.1 S256x768.size (by sl_kernel_rfl) y

theorem coverB_25 (c : Dev nD) (t : Fin cfg0.N) (h0 : ¬t.val % 16 = 0) (xs : Vec F S1x3456 .f32) (y : S256x768.Idx) : ∃ pc ∈ (atB m c t h0 xs).2.2.2.2.2.2.2.2.2.1, y ∈ pc.1.set :=
  View.cover_of_tiledL (atB m c t h0 xs).2.2.2.2.2.2.2.2.2.1 S256x768.size (by sl_kernel_rfl) y

theorem coverB_26 (c : Dev nD) (t : Fin cfg0.N) (h0 : ¬t.val % 16 = 0) (xs : Vec F S1x3456 .f32) (y : S256x768.Idx) : ∃ pc ∈ (atB m c t h0 xs).2.2.2.2.2.2.2.2.2.2.1, y ∈ pc.1.set :=
  View.cover_of_tiledL (atB m c t h0 xs).2.2.2.2.2.2.2.2.2.2.1 S256x768.size (by sl_kernel_rfl) y

theorem coverB_27 (c : Dev nD) (t : Fin cfg0.N) (h0 : ¬t.val % 16 = 0) (xs : Vec F S1x3456 .f32) (y : S256x2048.Idx) : ∃ pc ∈ (atB m c t h0 xs).2.2.2.2.2.2.2.2.2.2.2.1, y ∈ pc.1.set :=
  View.cover_of_tiledL (atB m c t h0 xs).2.2.2.2.2.2.2.2.2.2.2.1 S256x2048.size (by sl_kernel_rfl) y

theorem coverB_row (c : Dev nD) (t : Fin cfg0.N) (h0 : ¬t.val % 16 = 0) (xs : Vec F S1x3456 .f32) (y : S1x3456.Idx) : ∃ pc ∈ (atB m c t h0 xs).2.2.2.2.2.2.2.2.2.2.2.2.1, y ∈ pc.1.set :=
  View.cover_of_tiledL (atB m c t h0 xs).2.2.2.2.2.2.2.2.2.2.2.2.1 S1x3456.size (by sl_kernel_rfl) y

/-- What the run leaves in the twelve output blocks, and last in the carried row. -/
def outsB (c : Dev nD) (t : Fin cfg0.N) (h0 : ¬t.val % 16 = 0) (xs : Vec F S1x3456 .f32) : Vec F S256x1024 .f32 × Vec F S256x1024 .f32 × Vec F S256x1024 .f32 × Vec F S256x1024 .f32 × Vec F S256x1024 .f32 × Vec F S256x1024 .f32 × Vec F S256x1024 .f32 × Vec F S256x1024 .f32 × Vec F S256x768 .bf16 × Vec F S256x768 .bf16 × Vec F S256x768 .bf16 × Vec F S256x2048 .f32 × Vec F S1x3456 .f32 :=
  (VO0_16.read (Elt F) (VO0_16.writes (Elt F) VO0_16.junk (atB m c t h0 xs).1),
   VO0_17.read (Elt F) (VO0_17.writes (Elt F) VO0_17.junk (atB m c t h0 xs).2.1),
   VO0_18.read (Elt F) (VO0_18.writes (Elt F) VO0_18.junk (atB m c t h0 xs).2.2.1),
   VO0_19.read (Elt F) (VO0_19.writes (Elt F) VO0_19.junk (atB m c t h0 xs).2.2.2.1),
   VO0_20.read (Elt F) (VO0_20.writes (Elt F) VO0_20.junk (atB m c t h0 xs).2.2.2.2.1),
   VO0_21.read (Elt F) (VO0_21.writes (Elt F) VO0_21.junk (atB m c t h0 xs).2.2.2.2.2.1),
   VO0_22.read (Elt F) (VO0_22.writes (Elt F) VO0_22.junk (atB m c t h0 xs).2.2.2.2.2.2.1),
   VO0_23.read (Elt F) (VO0_23.writes (Elt F) VO0_23.junk (atB m c t h0 xs).2.2.2.2.2.2.2.1),
   VO0_24.read (Elt F) (VO0_24.writes (Elt F) VO0_24.junk (atB m c t h0 xs).2.2.2.2.2.2.2.2.1),
   VO0_25.read (Elt F) (VO0_25.writes (Elt F) VO0_25.junk (atB m c t h0 xs).2.2.2.2.2.2.2.2.2.1),
   VO0_26.read (Elt F) (VO0_26.writes (Elt F) VO0_26.junk (atB m c t h0 xs).2.2.2.2.2.2.2.2.2.2.1),
   VO0_27.read (Elt F) (VO0_27.writes (Elt F) VO0_27.junk (atB m c t h0 xs).2.2.2.2.2.2.2.2.2.2.2.1),
   VS0_0.read (Elt F) (VS0_0.writes (Elt F) VS0_0.junk (atB m c t h0 xs).2.2.2.2.2.2.2.2.2.2.2.2.1))

/-- What the output blocks and the carried row hold after each grid point. -/
def outsAt (c : Dev nD) : (n : ℕ) → n < cfg0.N → Vec F S256x1024 .f32 × Vec F S256x1024 .f32 × Vec F S256x1024 .f32 × Vec F S256x1024 .f32 × Vec F S256x1024 .f32 × Vec F S256x1024 .f32 × Vec F S256x1024 .f32 × Vec F S256x1024 .f32 × Vec F S256x768 .bf16 × Vec F S256x768 .bf16 × Vec F S256x768 .bf16 × Vec F S256x2048 .f32 × Vec F S1x3456 .f32
  | 0, hn => outsA m c ⟨0, hn⟩ (Nat.zero_mod 16)
  | n + 1, hn =>
    if h0 : (n + 1) % 16 = 0 then outsA m c ⟨n + 1, hn⟩ h0
    else outsB m c ⟨n + 1, hn⟩ h0 (outsAt c n (Nat.lt_of_succ_lt hn)).2.2.2.2.2.2.2.2.2.2.2.2

theorem outsAt_A (c : Dev nD) (t : Fin cfg0.N) (h0 : t.val % 16 = 0) :
    outsAt m c t.val t.isLt = outsA m c t h0 := by
  obtain ⟨n, hn⟩ := t
  cases n with
  | zero => rfl
  | succ n => exact dif_pos h0

theorem outsAt_B (c : Dev nD) (t : Fin cfg0.N) (h0 : ¬t.val % 16 = 0) :
    outsAt m c t.val t.isLt = outsB m c t h0 (outsAt m c (t.val - 1) (Nat.lt_of_le_of_lt (Nat.sub_le _ _) t.isLt)).2.2.2.2.2.2.2.2.2.2.2.2 := by
  obtain ⟨n, hn⟩ := t
  cases n with
  | zero => exact absurd (Nat.zero_mod _) h0
  | succ n => exact dif_neg h0

/-- The invariant before each point: before the first the scratch holds anything; later the carried row is what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2.2.2.2.2.2)) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).1
    | ⟨17, _⟩ => (outsAt m c t.val t.isLt).2.1
    | ⟨18, _⟩ => (outsAt m c t.val t.isLt).2.2.1
    | ⟨19, _⟩ => (outsAt m c t.val t.isLt).2.2.2.1
    | ⟨20, _⟩ => (outsAt m c t.val t.isLt).2.2.2.2.1
    | ⟨21, _⟩ => (outsAt m c t.val t.isLt).2.2.2.2.2.1
    | ⟨22, _⟩ => (outsAt m c t.val t.isLt).2.2.2.2.2.2.1
    | ⟨23, _⟩ => (outsAt m c t.val t.isLt).2.2.2.2.2.2.2.1
    | ⟨24, _⟩ => (outsAt m c t.val t.isLt).2.2.2.2.2.2.2.2.1
    | ⟨25, _⟩ => (outsAt m c t.val t.isLt).2.2.2.2.2.2.2.2.2.1
    | ⟨26, _⟩ => (outsAt m c t.val t.isLt).2.2.2.2.2.2.2.2.2.2.1
    | ⟨27, _⟩ => (outsAt m c t.val t.isLt).2.2.2.2.2.2.2.2.2.2.2.1
    | ⟨_ + 28, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt m c t.val t.isLt).1 := by dsimp only [dats]
theorem after0_17 (c : Dev nD) (t : Fin cfg0.N) : (dats m 0 c).after 17 t = (outsAt m c t.val t.isLt).2.1 := by dsimp only [dats]
theorem after0_18 (c : Dev nD) (t : Fin cfg0.N) : (dats m 0 c).after 18 t = (outsAt m c t.val t.isLt).2.2.1 := by dsimp only [dats]
theorem after0_19 (c : Dev nD) (t : Fin cfg0.N) : (dats m 0 c).after 19 t = (outsAt m c t.val t.isLt).2.2.2.1 := by dsimp only [dats]
theorem after0_20 (c : Dev nD) (t : Fin cfg0.N) : (dats m 0 c).after 20 t = (outsAt m c t.val t.isLt).2.2.2.2.1 := by dsimp only [dats]
theorem after0_21 (c : Dev nD) (t : Fin cfg0.N) : (dats m 0 c).after 21 t = (outsAt m c t.val t.isLt).2.2.2.2.2.1 := by dsimp only [dats]
theorem after0_22 (c : Dev nD) (t : Fin cfg0.N) : (dats m 0 c).after 22 t = (outsAt m c t.val t.isLt).2.2.2.2.2.2.1 := by dsimp only [dats]
theorem after0_23 (c : Dev nD) (t : Fin cfg0.N) : (dats m 0 c).after 23 t = (outsAt m c t.val t.isLt).2.2.2.2.2.2.2.1 := by dsimp only [dats]
theorem after0_24 (c : Dev nD) (t : Fin cfg0.N) : (dats m 0 c).after 24 t = (outsAt m c t.val t.isLt).2.2.2.2.2.2.2.2.1 := by dsimp only [dats]
theorem after0_25 (c : Dev nD) (t : Fin cfg0.N) : (dats m 0 c).after 25 t = (outsAt m c t.val t.isLt).2.2.2.2.2.2.2.2.2.1 := by dsimp only [dats]
theorem after0_26 (c : Dev nD) (t : Fin cfg0.N) : (dats m 0 c).after 26 t = (outsAt m c t.val t.isLt).2.2.2.2.2.2.2.2.2.2.1 := by dsimp only [dats]
theorem after0_27 (c : Dev nD) (t : Fin cfg0.N) : (dats m 0 c).after 27 t = (outsAt m c t.val t.isLt).2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 40000000 in
/-- The body at any point: the inputs' buffers hold their blocks, the run of the point's case applies, and what it
    leaves is what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases hz : t.val = 0
    · rw [PhiS_castSucc m c t, PhiS_zero m c _ _ hz, PhiA0_eq]
      rw [outsAt_A m c t h0]
      unfold outsA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((atA m c t h0).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es0, HS0⟩⟩
      isplitl [HS0 Hg]
      · isplitl [HS0]
        · unfold owns; iexists _; isplitr
          swap; · iexact HS0
          ipureintro; exact View.read_writes_of_cover _ _ _ _ _ (coverA_row m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      isplitl [H22]
      · unfold owns; iexists _; isplitr
        swap; · iexact H22
        ipureintro; exact View.read_writes_of_cover _ _ _ _ _ (coverA_22 m c t h0)
      isplitl [H23]
      · unfold owns; iexists _; isplitr
        swap; · iexact H23
        ipureintro; exact View.read_writes_of_cover _ _ _ _ _ (coverA_23 m c t h0)
      isplitl [H24]
      · unfold owns; iexists _; isplitr
        swap; · iexact H24
        ipureintro; exact View.read_writes_of_cover _ _ _ _ _ (coverA_24 m c t h0)
      isplitl [H25]
      · unfold owns; iexists _; isplitr
        swap; · iexact H25
        ipureintro; exact View.read_writes_of_cover _ _ _ _ _ (coverA_25 m c t h0)
      isplitl [H26]
      · unfold owns; iexists _; isplitr
        swap; · iexact H26
        ipureintro; exact View.read_writes_of_cover _ _ _ _ _ (coverA_26 m c t h0)
      unfold owns; iexists _; isplitr
      swap; · iexact H27
      ipureintro; exact View.read_writes_of_cover _ _ _ _ _ (coverA_27 m c t h0)
    · rw [PhiS_castSucc m c t, PhiS_pos m c _ _ hz]
      rw [outsAt_A m c t h0]
      unfold outsA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((atA m c t h0).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexists _; iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es0, HS0⟩⟩
      isplitl [HS0 Hg]
      · isplitl [HS0]
        · unfold owns; iexists _; isplitr
          swap; · iexact HS0
          ipureintro; exact View.read_writes_of_cover _ _ _ _ _ (coverA_row m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      isplitl [H22]
      · unfold owns; iexists _; isplitr
        swap; · iexact H22
        ipureintro; exact View.read_writes_of_cover _ _ _ _ _ (coverA_22 m c t h0)
      isplitl [H23]
      · unfold owns; iexists _; isplitr
        swap; · iexact H23
        ipureintro; exact View.read_writes_of_cover _ _ _ _ _ (coverA_23 m c t h0)
      isplitl [H24]
      · unfold owns; iexists _; isplitr
        swap; · iexact H24
        ipureintro; exact View.read_writes_of_cover _ _ _ _ _ (coverA_24 m c t h0)
      isplitl [H25]
      · unfold owns; iexists _; isplitr
        swap; · iexact H25
        ipureintro; exact View.read_writes_of_cover _ _ _ _ _ (coverA_25 m c t h0)
      isplitl [H26]
      · unfold owns; iexists _; isplitr
        swap; · iexact H26
        ipureintro; exact View.read_writes_of_cover _ _ _ _ _ (coverA_26 m c t h0)
      unfold owns; iexists _; isplitr
      swap; · iexact H27
      ipureintro; exact View.read_writes_of_cover _ _ _ _ _ (coverA_27 m c t h0)
  · have hz : t.val ≠ 0 := fun h => h0 (by rw [h])
    rw [PhiS_castSucc m c t, PhiS_pos m c _ _ hz]
    rw [outsAt_B m c t h0]
    unfold outsB; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((atB m c t h0 ((outsAt m c (t.val - 1) (Nat.lt_of_le_of_lt (Nat.sub_le _ _) t.isLt)).2.2.2.2.2.2.2.2.2.2.2.2)).2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [HS0]; · iexact HS0
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es0, HS0⟩⟩
    isplitl [HS0 Hg]
    · isplitl [HS0]
      · unfold owns; iexists _; isplitr
        swap; · iexact HS0
        ipureintro; exact View.read_writes_of_cover _ _ _ _ _ (coverB_row m c t h0 ((outsAt m c (t.val - 1) (Nat.lt_of_le_of_lt (Nat.sub_le _ _) t.isLt)).2.2.2.2.2.2.2.2.2.2.2.2))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (coverB_16 m c t h0 ((outsAt m c (t.val - 1) (Nat.lt_of_le_of_lt (Nat.sub_le _ _) t.isLt)).2.2.2.2.2.2.2.2.2.2.2.2))
    isplitl [H17]
    · unfold owns; iexists _; isplitr
      swap; · iexact H17
      ipureintro; exact View.read_writes_of_cover _ _ _ _ _ (coverB_17 m c t h0 ((outsAt m c (t.val - 1) (Nat.lt_of_le_of_lt (Nat.sub_le _ _) t.isLt)).2.2.2.2.2.2.2.2.2.2.2.2))
    isplitl [H18]
    · unfold owns; iexists _; isplitr
      swap; · iexact H18
      ipureintro; exact View.read_writes_of_cover _ _ _ _ _ (coverB_18 m c t h0 ((outsAt m c (t.val - 1) (Nat.lt_of_le_of_lt (Nat.sub_le _ _) t.isLt)).2.2.2.2.2.2.2.2.2.2.2.2))
    isplitl [H19]
    · unfold owns; iexists _; isplitr
      swap; · iexact H19
      ipureintro; exact View.read_writes_of_cover _ _ _ _ _ (coverB_19 m c t h0 ((outsAt m c (t.val - 1) (Nat.lt_of_le_of_lt (Nat.sub_le _ _) t.isLt)).2.2.2.2.2.2.2.2.2.2.2.2))
    isplitl [H20]
    · unfold owns; iexists _; isplitr
      swap; · iexact H20
      ipureintro; exact View.read_writes_of_cover _ _ _ _ _ (coverB_20 m c t h0 ((outsAt m c (t.val - 1) (Nat.lt_of_le_of_lt (Nat.sub_le _ _) t.isLt)).2.2.2.2.2.2.2.2.2.2.2.2))
    isplitl [H21]
    · unfold owns; iexists _; isplitr
      swap; · iexact H21
      ipureintro; exact View.read_writes_of_cover _ _ _ _ _ (coverB_21 m c t h0 ((outsAt m c (t.val - 1) (Nat.lt_of_le_of_lt (Nat.sub_le _ _) t.isLt)).2.2.2.2.2.2.2.2.2.2.2.2))
    isplitl [H22]
    · unfold owns; iexists _; isplitr
      swap; · iexact H22
      ipureintro; exact View.read_writes_of_cover _ _ _ _ _ (coverB_22 m c t h0 ((outsAt m c (t.val - 1) (Nat.lt_of_le_of_lt (Nat.sub_le _ _) t.isLt)).2.2.2.2.2.2.2.2.2.2.2.2))
    isplitl [H23]
    · unfold owns; iexists _; isplitr
      swap; · iexact H23
      ipureintro; exact View.read_writes_of_cover _ _ _ _ _ (coverB_23 m c t h0 ((outsAt m c (t.val - 1) (Nat.lt_of_le_of_lt (Nat.sub_le _ _) t.isLt)).2.2.2.2.2.2.2.2.2.2.2.2))
    isplitl [H24]
    · unfold owns; iexists _; isplitr
      swap; · iexact H24
      ipureintro; exact View.read_writes_of_cover _ _ _ _ _ (coverB_24 m c t h0 ((outsAt m c (t.val - 1) (Nat.lt_of_le_of_lt (Nat.sub_le _ _) t.isLt)).2.2.2.2.2.2.2.2.2.2.2.2))
    isplitl [H25]
    · unfold owns; iexists _; isplitr
      swap; · iexact H25
      ipureintro; exact View.read_writes_of_cover _ _ _ _ _ (coverB_25 m c t h0 ((outsAt m c (t.val - 1) (Nat.lt_of_le_of_lt (Nat.sub_le _ _) t.isLt)).2.2.2.2.2.2.2.2.2.2.2.2))
    isplitl [H26]
    · unfold owns; iexists _; isplitr
      swap; · iexact H26
      ipureintro; exact View.read_writes_of_cover _ _ _ _ _ (coverB_26 m c t h0 ((outsAt m c (t.val - 1) (Nat.lt_of_le_of_lt (Nat.sub_le _ _) t.isLt)).2.2.2.2.2.2.2.2.2.2.2.2))
    unfold owns; iexists _; isplitr
    swap; · iexact H27
    ipureintro; exact View.read_writes_of_cover _ _ _ _ _ (coverB_27 m c t h0 ((outsAt m c (t.val - 1) (Nat.lt_of_le_of_lt (Nat.sub_le _ _) t.isLt)).2.2.2.2.2.2.2.2.2.2.2.2))

theorem defs₀_row (t : Fin cfg0.N) :
    defs₀ (F := F) .tc cfg0.body (cfg0.bodyArgs t (cfg0.slots t)) = bodyAt0 t := by
  unfold defs₀; rw [Defs.onTc_tc]

set_option maxHeartbeats 40000000 in
/-- The library obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

-- `θ_run_frame_track`'s implicit arguments are found by unifying its conclusion with this one, which takes unfolding plain
-- definitions in a metavariable's type
set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

set_option maxHeartbeats 40000000 in
/-- The run, with each output array after it named. -/
theorem run_blocks : θ_run defs (onTc (τ := τ) (main (F := F))) ⟨m, fun _ => 0, ρ⟩ fun r => ∀ c : Dev nD,
      r.2.mem ((c : Thread nD τ).loc main_v53_0) = (dats m 0 c).arrAt 16 cfg0.N
      ∧ r.2.mem ((c : Thread nD τ).loc main_v53_1) = (dats m 0 c).arrAt 17 cfg0.N
      ∧ r.2.mem ((c : Thread nD τ).loc main_v53_2) = (dats m 0 c).arrAt 18 cfg0.N
      ∧ r.2.mem ((c : Thread nD τ).loc main_v53_3) = (dats m 0 c).arrAt 19 cfg0.N
      ∧ r.2.mem ((c : Thread nD τ).loc main_v53_4) = (dats m 0 c).arrAt 20 cfg0.N
      ∧ r.2.mem ((c : Thread nD τ).loc main_v53_5) = (dats m 0 c).arrAt 21 cfg0.N
      ∧ r.2.mem ((c : Thread nD τ).loc main_v53_6) = (dats m 0 c).arrAt 22 cfg0.N
      ∧ r.2.mem ((c : Thread nD τ).loc main_v53_7) = (dats m 0 c).arrAt 23 cfg0.N
      ∧ r.2.mem ((c : Thread nD τ).loc main_v53_8) = (dats m 0 c).arrAt 24 cfg0.N
      ∧ r.2.mem ((c : Thread nD τ).loc main_v53_9) = (dats m 0 c).arrAt 25 cfg0.N
      ∧ r.2.mem ((c : Thread nD τ).loc main_v53_10) = (dats m 0 c).arrAt 26 cfg0.N
      ∧ r.2.mem ((c : Thread nD τ).loc main_v53_11) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1 16, (h c).1 17, (h c).1 18, (h c).1 19, (h c).1 20, (h c).1 21, (h c).1 22, (h c).1 23, (h c).1 24, (h c).1 25, (h c).1 26, (h c).1 27,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.ProjIdeal.Body

end
-- ==== Proof.Consts.lean ====
/- What the float constants of the programs denote over the extended reals. -/
module

public import Idealize.ShloMosaic.Lib.Pointwise

@[expose] public section

noncomputable section

namespace Cert.Consts

open Idealize.ShloMosaic

theorem f32_64 : Ideal.ofBits .f32 0x42800000#32 = ((64 : ℝ) : EReal) := by
  simp [Ideal.ofBits, Ideal.ieee, -EReal.coe_mul]; norm_num

theorem f32_64_inv : Ideal.ofBits .f32 0x3C800000#32 = ((1 / 64 : ℝ) : EReal) := by
  simp [Ideal.ofBits, Ideal.ieee, -EReal.coe_mul]; norm_num

theorem f32_eighth : Ideal.ofBits .f32 0x3E000000#32 = ((1 / 8 : ℝ) : EReal) := by
  simp [Ideal.ofBits, Ideal.ieee, -EReal.coe_mul]; norm_num

theorem f32_tiny : Ideal.ofBits .f32 0x2B8CBCCC#32 = ((2305843 / 2305843009213693952 : ℝ) : EReal) := by
  simp [Ideal.ofBits, Ideal.ieee, -EReal.coe_mul]; norm_num

end Cert.Consts

end
-- ==== Proof.ProjMath.lean ====
/- The projection step of the layer, one token at a time, over the extended reals: what the token's row of products,
   shifted against the previous token's row, gives for each of the twelve results. It names no program. -/
module

public import proofs.«01_k».proof.Proof.FfnMath
public import proofs.«01_k».proof.Proof.Consts

@[expose] public section

noncomputable section

namespace Cert.ProjMath

open Idealize.ShloMosaic

/-- A token's product with column `c` of the input weights: its row after the norm, against the column. -/
def prod (x w : Fin 1024 → EReal) (W : Fin 1024 → EReal) : EReal := ∑ k, FfnMath.normed x w k * W k

/-- The time shift of one entry: the token's `p` moved towards the previous token's `q` by the factor `m`. -/
def shift (p q m : EReal) : EReal := p + (q - p) * m

/-- The sum of `f` over the 64 lanes of the head that column `c` lies in. -/
def head {n : ℕ} (f : Fin n → EReal) (h : 64 ∣ n) (c : Fin n) : EReal :=
  ∑ l : Fin 64, f ⟨c.val / 64 * 64 + l.val, by have := c.isLt; omega⟩

/-- The logarithm of one plus the exponential, in the form that does not overflow. -/
def softplus (z : EReal) : EReal := max z 0 + Ideal.log (1 + Ideal.exp (-(max z (-z))))

/-- The logarithm of the decay, from the raw weight `z`. -/
def decay (z : EReal) : EReal := -Ideal.exp (-softplus (-z) - Ideal.ofBits .f32 0x3F000000#32)

/-- The square of the float32 nearest 1e-12. -/
def tiny : EReal := ((5316911940649 / 5316911983139663491615228241121378304 : ℝ) : EReal)

section
variable (S : Fin 3360 → EReal)

def r (c : Fin 1024) : EReal := S ⟨c.val, by omega⟩
def k0 (c : Fin 1024) : EReal := S ⟨1024 + c.val, by omega⟩
def v (c : Fin 1024) : EReal := S ⟨2048 + c.val, by omega⟩

/-- The raw decay weight: the bias and the low-rank product of the hyperbolic tangents. -/
def wraw (w0 : Fin 1024 → EReal) (w2 : Fin 64 → Fin 1024 → EReal) (c : Fin 1024) : EReal :=
  w0 c + ∑ j : Fin 64, Ideal.tanh (S ⟨3072 + j.val, by omega⟩) * w2 j c

/-- The in-context learning rate. -/
def rate (a0 : Fin 1024 → EReal) (a2 : Fin 64 → Fin 1024 → EReal) (c : Fin 1024) : EReal :=
  Ideal.logistic (a0 c + ∑ j : Fin 64, S ⟨3136 + j.val, by omega⟩ * a2 j c)

/-- The output gate. -/
def gate (g2 : Fin 160 → Fin 1024 → EReal) (c : Fin 1024) : EReal :=
  ∑ j : Fin 160, Ideal.logistic (S ⟨3200 + j.val, by omega⟩) * g2 j c

/-- The removal key before its norm. -/
def kkRaw (kk : Fin 1024 → EReal) (c : Fin 1024) : EReal := k0 S c * kk c

/-- The removal key: over the root of its head's square sum, floored. -/
def kkn (kk : Fin 1024 → EReal) (c : Fin 1024) : EReal :=
  kkRaw S kk c * Ideal.rsqrt (max (head (fun e => kkRaw S kk e * kkRaw S kk e) ⟨16, rfl⟩ c) tiny)

/-- The key, scaled by the learning rate. -/
def key (a0 : Fin 1024 → EReal) (a2 : Fin 64 → Fin 1024 → EReal) (ka : Fin 1024 → EReal) (c : Fin 1024) : EReal :=
  k0 S c * (1 + (rate S a0 a2 c - 1) * ka c)

/-- The removal key times the learning rate. -/
def bb (a0 : Fin 1024 → EReal) (a2 : Fin 64 → Fin 1024 → EReal) (kk : Fin 1024 → EReal) (c : Fin 1024) : EReal :=
  kkn S kk c * rate S a0 a2 c

/-- The bonus: the head's sum of receptance times key times weight, times the value. -/
def bonus (a0 : Fin 1024 → EReal) (a2 : Fin 64 → Fin 1024 → EReal) (ka rk : Fin 1024 → EReal) (c : Fin 1024) : EReal :=
  head (fun e => r S e * key S a0 a2 ka e * rk e) ⟨16, rfl⟩ c * v S c

end

/-- An attention entry under its head's root-mean-square norm, times a gain. -/
def attn (p : Fin 768 → EReal) (g : EReal) (c : Fin 768) : EReal :=
  p c * Ideal.rsqrt (head (fun e => p e * p e) ⟨12, rfl⟩ c * Ideal.ofBits .f32 0x3C800000#32
    + Ideal.ofBits .f32 0x358637BD#32) * g

/-- Dividing by 64 is multiplying by its reciprocal. -/
theorem div_64 (x : EReal) : Ideal.div x (Ideal.ofBits .f32 0x42800000#32) = x * Ideal.ofBits .f32 0x3C800000#32 := by
  rw [Consts.f32_64, Consts.f32_64_inv]
  exact Ideal.div_coe (by norm_num) x

theorem mul_self_nonneg' (x : EReal) : 0 ≤ x * x := by
  rcases le_total 0 x with h | h
  · exact EReal.mul_nonneg h h
  · have := EReal.neg_nonneg.2 h
    have h2 := EReal.mul_nonneg this this
    rwa [neg_mul_neg] at h2

theorem head_sq_nonneg {n : ℕ} (f : Fin n → EReal) (h : 64 ∣ n) (c : Fin n) : 0 ≤ head (fun e => f e * f e) h c :=
  Finset.sum_nonneg fun _ _ => mul_self_nonneg' _

/-- Dividing by the floored root of a nonnegative sum is multiplying by the inverse root of the floored sum. -/
theorem div_floor (x s : EReal) (hs : 0 ≤ s) :
    Ideal.div x (max (Ideal.sqrt s) (Ideal.ofBits .f32 0x2B8CBCCC#32)) = x * Ideal.rsqrt (max s tiny) := by
  have hc : (0 : ℝ) < 2305843 / 2305843009213693952 := by norm_num
  have ht : (5316911940649 / 5316911983139663491615228241121378304 : ℝ) = (2305843 / 2305843009213693952) ^ 2 := by norm_num
  rw [Consts.f32_tiny, tiny, ht]
  generalize (2305843 / 2305843009213693952 : ℝ) = c at hc
  induction s using EReal.rec with
  | bot => exact absurd hs (by simp)
  | top =>
    rw [max_eq_left le_top]
    show Ideal.div x (max ⊤ _) = x * 0
    rw [max_eq_left le_top, Ideal.div, if_neg (by simp)]
    simp
  | coe a =>
    have ha : 0 ≤ a := by exact_mod_cast hs
    rw [← EReal.coe_strictMono.monotone.map_max, Ideal.sqrt_coe, if_neg (not_lt.2 ha),
      ← EReal.coe_strictMono.monotone.map_max]
    have hm : Real.sqrt (max a (c ^ 2)) = max (Real.sqrt a) c := by
      rw [Real.sqrt_monotone.map_max, Real.sqrt_sq hc.le]
    have hp : 0 < max (Real.sqrt a) c := lt_max_of_lt_right hc
    have hq : 0 < max a (c ^ 2) := lt_max_of_lt_right (by positivity)
    rw [Ideal.div_coe hp.ne', Ideal.rsqrt_coe, if_neg (not_lt.2 hq.le), if_neg hq.ne', hm, one_div]

/-- A head's sum, read at one of its lanes. -/
theorem head_at {n : ℕ} (f : Fin n → EReal) (h : 64 ∣ n) (a l : ℕ) (hl : l < 64) (hc : a * 64 + l < n) :
    head f h ⟨a * 64 + l, hc⟩ = ∑ x : Fin 64, f ⟨a * 64 + x.val, by have := x.isLt; omega⟩ := by
  unfold head
  refine Finset.sum_congr rfl fun x _ => congrArg f (Fin.ext ?_)
  show (a * 64 + l) / 64 * 64 + x.val = a * 64 + x.val
  omega

/-- The first 64 of 128 lanes, the others masked to zero, sum as the 64 do. -/
theorem sum_low (f : Fin 128 → EReal) :
    (∑ j : Fin 128, if j.val < 64 then f j else 0) = ∑ l : Fin 64, f ⟨l.val, by omega⟩ := by
  rw [Fin.sum_univ_add (a := 64) (b := 64)]
  simp [Fin.castAdd, Fin.castLE]

/-- The last 64 of 128 lanes, the others masked to zero, sum as the 64 do. -/
theorem sum_high (f : Fin 128 → EReal) :
    (∑ j : Fin 128, if j.val < 64 then 0 else f j) = ∑ l : Fin 64, f ⟨64 + l.val, by omega⟩ := by
  rw [Fin.sum_univ_add (a := 64) (b := 64)]
  simp [Fin.natAdd]

end Cert.ProjMath

end
-- ==== Proof.ProjPay.lean ====
/- The projection kernel's payloads, read at an entry of a tile, over arbitrary blocks. -/
module

public import proofs.«01_k».proof.Proof.Gen.ProjIdeal.Skeleton
public import proofs.«01_k».proof.Proof.ProjMath
public import Idealize.ShloMosaic.Lib.Pointwise
public import Idealize.ShloMosaic.Lib.Pipeline.ValueKit

@[expose] public section

set_option maxRecDepth 16384

noncomputable section

namespace Cert.ProjIdeal.Pay

open Cert.ProjIdeal Cert.ProjIdeal.Gen Idealize.ShloMosaic Idealize.ShloMosaic.TcCoe Idealize.SL.Sem

/-- The row numbers of a tile. -/
abbrev rows : IVec S256x1 32 := iota .tc S256x1 32 [0] iota_S256x1_d0_w32

/-- Only row 0 is compared equal to 0. -/
theorem row_bits : ∀ a : Fin 256, IntOp.cmpi .eq (BitVec.ofNat 32 a.val) 0#32 = if a.val = 0 then 1#1 else 0#1 := by
  decide +kernel

/-- The 256 lanes against the head mask sum the head's 64 lanes. -/
theorem head_mask (f : Fin 256 → EReal) (c : Fin 256) :
    ∑ k : Fin 256, f k * (if k.val / 64 = c.val / 64 then 1 else 0) = ∑ l : Fin 64, f ⟨c.val / 64 * 64 + l.val, by have := c.isLt; have := l.isLt; omega⟩ := by
  simp only [mul_ite, mul_one, mul_zero]
  rw [← Finset.sum_filter]
  symm
  refine Finset.sum_bij (fun l _ => ⟨c.val / 64 * 64 + l.val, by have := c.isLt; have := l.isLt; omega⟩) ?_ ?_ ?_ fun _ _ => rfl
  · intro l _
    have := l.isLt
    simp only [Finset.mem_filter, Finset.mem_univ, true_and]
    omega
  · intro a _ b _ h
    have := congrArg Fin.val h
    exact Fin.ext (by dsimp only at this; omega)
  · intro k hk
    have hk := (Finset.mem_filter.1 hk).2
    exact ⟨⟨k.val % 64, Nat.mod_lt _ (by decide)⟩, Finset.mem_univ _, Fin.ext (by dsimp only; omega)⟩

/-- The mask of lanes of one head. -/
def IsMask (E : FVec Ideal S256x256 .bf16) : Prop := ∀ k l : Fin 256, E (ix2 k l) = if k.val / 64 = l.val / 64 then 1 else 0

theorem mask_sum (E : FVec Ideal S256x256 .bf16) (hE : IsMask E) (f : Fin 256 → EReal) (c : Fin 256) :
    ∑ k : Fin 256, f k * E (ix2 k c) = ∑ l : Fin 64, f ⟨c.val / 64 * 64 + l.val, by have := c.isLt; have := l.isLt; omega⟩ := by
  rw [← head_mask]
  exact Finset.sum_congr rfl fun k _ => by rw [hE k c]

/-- A quarter of the 1024 lanes against the mask is the head's sum. -/
theorem mask_head {n : ℕ} (hn : 64 ∣ n) (E : FVec Ideal S256x256 .bf16) (hE : IsMask E) (f : Fin n → EReal) (q : ℕ) (hq : q * 256 + 256 ≤ n) (c : Fin n)
    (h0 : q * 256 ≤ c.val) (h1 : c.val < q * 256 + 256) (g : Fin 256 → EReal) (hg : ∀ k : Fin 256, g k = f ⟨q * 256 + k.val, by have := k.isLt; omega⟩)
    (c' : Fin 256) (hc : c'.val = c.val - q * 256) :
    ∑ k : Fin 256, g k * E (ix2 k c') = ProjMath.head f hn c := by
  rw [mask_sum E hE]
  unfold ProjMath.head
  refine Finset.sum_congr rfl fun l _ => ?_
  rw [hg]
  refine congrArg f (Fin.ext ?_)
  show q * 256 + (c'.val / 64 * 64 + l.val) = c.val / 64 * 64 + l.val
  omega

/-- The four quarters of 1024 lanes, each against the mask, are the heads' sums. -/
theorem quarters (E : FVec Ideal S256x256 .bf16) (hE : IsMask E) (f : Fin 1024 → EReal) (c : Fin 1024) :
    (if h : c.val < 256 then ∑ x : Fin 256, f ⟨x.val, by omega⟩ * E (ix2 x ⟨c.val, h⟩)
      else if h' : c.val - 256 < 256 then ∑ x : Fin 256, f ⟨256 + x.val, by omega⟩ * E (ix2 x ⟨c.val - 256, h'⟩)
      else if h'' : c.val - 256 - 256 < 256 then ∑ x : Fin 256, f ⟨512 + x.val, by omega⟩ * E (ix2 x ⟨c.val - 256 - 256, h''⟩)
      else ∑ x : Fin 256, f ⟨768 + x.val, by omega⟩ * E (ix2 x ⟨c.val - 256 - 256 - 256, by omega⟩)) = ProjMath.head f ⟨16, rfl⟩ c := by
  split_ifs with h h' h''
  · exact mask_head _ E hE f 0 (by decide) c (by omega) (by omega) _ (fun k => congrArg f (Fin.ext (by simp))) _ (by simp)
  · exact mask_head _ E hE f 1 (by decide) c (by omega) (by omega) _ (fun k => rfl) _ rfl
  · exact mask_head _ E hE f 2 (by decide) c (by omega) (by omega) _ (fun k => rfl) _ (by show c.val - 256 - 256 = c.val - 2 * 256; omega)
  · exact mask_head _ E hE f 3 (by decide) c (by omega) (by omega) _ (fun k => rfl) _ (by show c.val - 256 - 256 - 256 = c.val - 3 * 256; omega)

/-- The three thirds of 768 lanes likewise. -/
theorem thirds (E : FVec Ideal S256x256 .bf16) (hE : IsMask E) (f : Fin 768 → EReal) (c : Fin 768) :
    (if h : c.val < 256 then ∑ x : Fin 256, f ⟨x.val, by omega⟩ * E (ix2 x ⟨c.val, h⟩)
      else if h' : c.val - 256 < 256 then ∑ x : Fin 256, f ⟨256 + x.val, by omega⟩ * E (ix2 x ⟨c.val - 256, h'⟩)
      else ∑ x : Fin 256, f ⟨512 + x.val, by omega⟩ * E (ix2 x ⟨c.val - 256 - 256, by omega⟩)) = ProjMath.head f ⟨12, rfl⟩ c := by
  split_ifs with h h'
  · exact mask_head _ E hE f 0 (by decide) c (by omega) (by omega) _ (fun k => congrArg f (Fin.ext (by simp))) _ (by simp)
  · exact mask_head _ E hE f 1 (by decide) c (by omega) (by omega) _ (fun k => rfl) _ rfl
  · exact mask_head _ E hE f 2 (by decide) c (by omega) (by omega) _ (fun k => rfl) _ (by show c.val - 256 - 256 = c.val - 2 * 256; omega)

theorem norm_at (X : FVec Ideal S256x1024 .f32) (g : FVec Ideal S1x1024 .f32) (a : Fin 256) (k : Fin 1024) :
    k0_pay5 (F := Ideal) X g (ix2 a k) = FfnMath.normed (fun j => X (ix2 a j)) (fun j => g (ix2 0 j)) k := by
  pointwise [k0_pay5, FfnMath.normed]

theorem p_at (X : FVec Ideal S256x1024 .f32) (g : FVec Ideal S1x1024 .f32) (W : FVec Ideal S1024x3456 .bf16) (a : Fin 256) (c : Fin 3456) :
    k0_pay7 (F := Ideal) X g W (ix2 a c) = ProjMath.prod (fun j => X (ix2 a j)) (fun j => g (ix2 0 j)) (fun k => W (ix2 k c)) := by
  pointwise [k0_pay7, ProjMath.prod]
  exact Finset.sum_congr rfl fun k _ => by rw [norm_at]

theorem zero_row (c : Fin 3456) : k0_pay8 (F := Ideal) (ix2 0 c) = 0 := by
  pointwise [k0_pay8]

theorem last_row (Q : FVec Ideal S256x3456 .f32) (c : Fin 3456) : k0_pay10 (F := Ideal) Q (ix2 0 c) = Q (ix2 255 c) := by
  pointwise [k0_pay10]

section
variable (Q : FVec Ideal S256x3456 .f32) (carry mu : FVec Ideal S1x3456 .f32)

/-- A tile's shifted entry: each row moved towards the row before it, row 0 towards the carried row. -/
def T (a : Fin 256) (c : Fin 3456) : EReal :=
  ProjMath.shift (Q (ix2 a c)) (if a.val = 0 then carry (ix2 0 c) else Q (ix2 ⟨a.val - 1, by omega⟩ c)) (mu (ix2 0 c))

theorem t_at (a : Fin 256) (c : Fin 3456) : k0_pay11 (F := Ideal) Q rows k0_pay9 carry mu (ix2 a c) = T Q carry mu a c := by
  pointwise [k0_pay11, k0_pay9, rows, T, ProjMath.shift]
  rw [row_bits]
  by_cases ha : a.val = 0
  · rw [if_pos ha, if_pos ha]
    rfl
  · rw [if_neg ha, if_neg ha]
    refine congrArg (fun z => Q (ix2 a c) + (z - Q (ix2 a c)) * mu (ix2 0 c)) (congrArg Q (congrArg (ix2 · c) (Fin.ext ?_)))
    show (a.val + 256 - 1) % 256 = a.val - 1
    omega

theorem r_at (a : Fin 256) (c : Fin 1024) : k0_pay12 (F := Ideal) Q rows k0_pay9 carry mu (ix2 a c) = T Q carry mu a ⟨c.val, by omega⟩ := by
  pointwise [k0_pay12]
  exact t_at Q carry mu a _

theorem k0_at (a : Fin 256) (c : Fin 1024) : k0_pay13 (F := Ideal) Q rows k0_pay9 carry mu (ix2 a c) = T Q carry mu a ⟨1024 + c.val, by omega⟩ := by
  pointwise [k0_pay13]
  exact t_at Q carry mu a _

theorem v_at (a : Fin 256) (c : Fin 1024) : k0_pay14 (F := Ideal) Q rows k0_pay9 carry mu (ix2 a c) = T Q carry mu a ⟨2048 + c.val, by omega⟩ := by
  pointwise [k0_pay14]
  exact t_at Q carry mu a _

theorem lora_at (a : Fin 256) (c : Fin 128) : k0_pay15 (F := Ideal) Q rows k0_pay9 carry mu (ix2 a c) = T Q carry mu a ⟨3072 + c.val, by omega⟩ := by
  pointwise [k0_pay15]
  exact t_at Q carry mu a _

theorem gd_at (a : Fin 256) (c : Fin 256) : k0_pay16 (F := Ideal) Q rows k0_pay9 carry mu (ix2 a c) = T Q carry mu a ⟨3200 + c.val, by omega⟩ := by
  pointwise [k0_pay16]
  exact t_at Q carry mu a _

theorem neg_w_at (w0 : FVec Ideal S1x1024 .f32) (w2 : FVec Ideal S128x1024 .bf16) (a : Fin 256) (c : Fin 1024) :
    k0_pay17 (F := Ideal) Q rows k0_pay9 carry mu w0 w2 (ix2 a c) = -(w0 (ix2 0 c) + ∑ j : Fin 128, Ideal.tanh (T Q carry mu a ⟨3072 + j.val, by omega⟩) * w2 (ix2 j c)) := by
  pointwise [k0_pay17]
  simp only [lora_at]
  rw [zero_sub]

theorem decay_at (w0 : FVec Ideal S1x1024 .f32) (w2 : FVec Ideal S128x1024 .bf16) (a : Fin 256) (c : Fin 1024) :
    k0_pay20 (F := Ideal) (k0_pay18 Q rows k0_pay9 carry mu w0 w2) (k0_pay19 Q rows k0_pay9 carry mu w0 w2) (ix2 a c) =
      ProjMath.decay (w0 (ix2 0 c) + ∑ j : Fin 128, Ideal.tanh (T Q carry mu a ⟨3072 + j.val, by omega⟩) * w2 (ix2 j c)) := by
  pointwise [k0_pay20, k0_pay18, k0_pay19, ProjMath.decay, ProjMath.softplus]
  rw [neg_w_at]
  rw [zero_sub, zero_sub, zero_sub]
  rfl

end

theorem rate_at (L : FVec Ideal S256x128 .f32) (a0 : FVec Ideal S1x1024 .f32) (a2 : FVec Ideal S128x1024 .bf16) (a : Fin 256) (c : Fin 1024) :
    k0_pay21 (F := Ideal) L a0 a2 (ix2 a c) = Ideal.logistic (a0 (ix2 0 c) + ∑ j : Fin 128, L (ix2 a j) * a2 (ix2 j c)) := by
  pointwise [k0_pay21]

theorem gate_at (G : FVec Ideal S256x256 .f32) (g2 : FVec Ideal S256x1024 .bf16) (a : Fin 256) (c : Fin 1024) :
    k0_pay22 (F := Ideal) G g2 (ix2 a c) = ∑ j : Fin 256, Ideal.logistic (G (ix2 a j)) * g2 (ix2 j c) := by
  pointwise [k0_pay22]

theorem kkn_at (E : FVec Ideal S256x256 .bf16) (hE : IsMask E) (K : FVec Ideal S256x1024 .f32) (kk : FVec Ideal S1x1024 .f32) (a : Fin 256) (c : Fin 1024) :
    k0_pay25 (F := Ideal) (k0_pay23 K kk) (k0_pay24 (k0_pay6 E) K kk) (ix2 a c) =
      (K (ix2 a c) * kk (ix2 0 c)) * Ideal.rsqrt (max (ProjMath.head (fun e => (K (ix2 a e) * kk (ix2 0 e)) * (K (ix2 a e) * kk (ix2 0 e))) ⟨16, rfl⟩ c) ProjMath.tiny) := by
  pointwise [k0_pay25, k0_pay24, k0_pay23, k0_pay6]
  exact congrArg (fun z => K (ix2 a c) * kk (ix2 0 c) * Ideal.rsqrt (max z ProjMath.tiny))
    (quarters E hE (fun e => (K (ix2 a e) * kk (ix2 0 e)) * (K (ix2 a e) * kk (ix2 0 e))) c)

theorem key_at (K A : FVec Ideal S256x1024 .f32) (ka : FVec Ideal S1x1024 .f32) (a : Fin 256) (c : Fin 1024) :
    k0_pay26 (F := Ideal) K A ka (ix2 a c) = K (ix2 a c) * (1 + (A (ix2 a c) - 1) * ka (ix2 0 c)) := by
  pointwise [k0_pay26]

theorem bonus_at (E : FVec Ideal S256x256 .bf16) (hE : IsMask E) (R K V A : FVec Ideal S256x1024 .f32) (ka rk : FVec Ideal S1x1024 .f32) (a : Fin 256) (c : Fin 1024) :
    k0_pay27 (F := Ideal) (k0_pay6 E) R K V A ka rk (ix2 a c) =
      ProjMath.head (fun e => R (ix2 a e) * (K (ix2 a e) * (1 + (A (ix2 a e) - 1) * ka (ix2 0 e))) * rk (ix2 0 e)) ⟨16, rfl⟩ c * V (ix2 a c) := by
  pointwise [k0_pay27, k0_pay6]
  simp only [key_at]
  exact congrArg (· * V (ix2 a c))
    (quarters E hE (fun e => R (ix2 a e) * (K (ix2 a e) * (1 + (A (ix2 a e) - 1) * ka (ix2 0 e))) * rk (ix2 0 e)) c)

section
variable (H : FVec Ideal S256x1024 .bf16) (W : FVec Ideal S1024x2304 .bf16)

theorem att_at (a : Fin 256) (c : Fin 2304) : k0_pay29 (F := Ideal) H W (ix2 a c) = ∑ k, H (ix2 a k) * W (ix2 k c) := by
  pointwise [k0_pay29]

theorem q_at (E : FVec Ideal S256x256 .bf16) (hE : IsMask E) (g : FVec Ideal S1x768 .f32) (a : Fin 256) (c : Fin 768) :
    k0_pay1 (F := Ideal) (k0_pay31 H (k0_pay6 E) W g) (ix2 a c) = ProjMath.attn (fun e => k0_pay29 (F := Ideal) H W (ix2 a ⟨e.val, by omega⟩)) (g (ix2 0 c)) c := by
  pointwise [k0_pay1, k0_pay31, k0_pay6, ProjMath.attn]
  exact congrArg (fun z => k0_pay29 (F := Ideal) H W (ix2 a ⟨c.val, by omega⟩) * Ideal.rsqrt (z * Ideal.ofBits .f32 0x3C800000#32 + Ideal.ofBits .f32 0x358637BD#32) * g (ix2 0 c))
    (thirds E hE (fun e => k0_pay29 (F := Ideal) H W (ix2 a ⟨e.val, by omega⟩) * k0_pay29 (F := Ideal) H W (ix2 a ⟨e.val, by omega⟩)) c)

theorem k_at (E : FVec Ideal S256x256 .bf16) (hE : IsMask E) (g : FVec Ideal S1x768 .f32) (a : Fin 256) (c : Fin 768) :
    k0_pay2 (F := Ideal) (k0_pay6 E) (k0_pay30 H W) (k0_pay33 H (k0_pay6 E) W) (k0_pay34 H (k0_pay6 E) W) (k0_pay35 H W) g (ix2 a c)
      = ProjMath.attn (fun e => k0_pay29 (F := Ideal) H W (ix2 a ⟨768 + e.val, by omega⟩)) (g (ix2 0 c)) c := by
  pointwise [k0_pay2, k0_pay30, k0_pay32, k0_pay33, k0_pay34, k0_pay35, k0_pay6, ProjMath.attn]
  exact congrArg (fun z => k0_pay29 (F := Ideal) H W (ix2 a ⟨768 + c.val, by omega⟩) * Ideal.rsqrt (z * Ideal.ofBits .f32 0x3C800000#32 + Ideal.ofBits .f32 0x358637BD#32) * g (ix2 0 c))
    (thirds E hE (fun e => k0_pay29 (F := Ideal) H W (ix2 a ⟨768 + e.val, by omega⟩) * k0_pay29 (F := Ideal) H W (ix2 a ⟨768 + e.val, by omega⟩)) c)

theorem va_at (a : Fin 256) (c : Fin 768) : k0_pay3 (F := Ideal) (k0_pay29 H W) (ix2 a c) = k0_pay29 (F := Ideal) H W (ix2 a ⟨1536 + c.val, by omega⟩) := by
  pointwise [k0_pay3]

end

theorem gates_at (H : FVec Ideal S256x1024 .bf16) (W : FVec Ideal S1024x2048 .bf16) (b : FVec Ideal S1x2048 .f32) (a : Fin 256) (c : Fin 2048) :
    k0_pay4 (F := Ideal) H W b (ix2 a c) = Ideal.logistic (∑ k, H (ix2 a k) * W (ix2 k c) + b (ix2 0 c)) := by
  pointwise [k0_pay4]

end Cert.ProjIdeal.Pay

end
-- ==== Proof.ProjStep.lean ====
/- What one grid point of the projection kernel leaves in each result's block, as its payloads over the windows' blocks and
   the row carried from the tile before. -/
module

public import proofs.«01_k».proof.Proof.ProjFrame
public import proofs.«01_k».proof.Proof.ProjPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjIdeal.Step

open Cert.ProjIdeal Cert.ProjIdeal.Gen Cert.ProjIdeal.Body Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The first part of the packed weights: the columns that are shifted. -/
def shifted : FVec Ideal S1024x3456 .bf16 := View.ld (Val := Elt Ideal) (S := S1024x7808) (e' := .bf16) (iblk m c 2 t) (Rect.unit (s := S1024x7808) ![0, 0] ![1024, 3456] inb_S1024x7808_S1024x3456_0_0)

/-- The middle part: the attention's columns. -/
def middle : FVec Ideal S1024x2304 .bf16 := View.ld (Val := Elt Ideal) (S := S1024x7808) (e' := .bf16) (iblk m c 2 t) (Rect.unit (s := S1024x7808) ![0, 3456] ![1024, 2304] inb_S1024x7808_S1024x2304_0_3456)

/-- The last part: the gates' columns. -/
def gate_part : FVec Ideal S1024x2048 .bf16 := View.ld (Val := Elt Ideal) (S := S1024x7808) (e' := .bf16) (iblk m c 2 t) (Rect.unit (s := S1024x7808) ![0, 5760] ![1024, 2048] inb_S1024x7808_S1024x2048_0_5760)

/-- The tile's products with the shifted columns. -/
def projected : FVec Ideal S256x3456 .f32 := k0_pay7 (F := Ideal) (iblk m c 0 t) (iblk m c 1 t) (shifted m c t)

/-- The tile's rows after the norm. -/
def normed : FVec Ideal S256x1024 .bf16 := k0_pay5 (F := Ideal) (iblk m c 0 t) (iblk m c 1 t)

/-- The row carried into the tile: zeros at a sequence's first tile, else what the tile before left. -/
def carry : FVec Ideal S1x3456 .f32 :=
  if h : t.val % 16 = 0 then k0_pay8 (F := Ideal)
  else (outsAt m c (t.val - 1) (lt_of_le_of_lt (Nat.sub_le _ _) t.isLt)).2.2.2.2.2.2.2.2.2.2.2.2

theorem carry_first (h : t.val % 16 = 0) : carry m c t = k0_pay8 (F := Ideal) := dif_pos h

theorem carry_later (h : ¬t.val % 16 = 0) : carry m c t = (outsAt m c (t.val - 1) (lt_of_le_of_lt (Nat.sub_le _ _) t.isLt)).2.2.2.2.2.2.2.2.2.2.2.2 := dif_neg h

set_option maxHeartbeats 2000000 in
/-- The tile's receptance. -/
theorem step16 : (outsAt m c t.val t.isLt).1 = (show FVec Ideal S256x1024 .f32 from (k0_pay12 (projected m c t) Pay.rows k0_pay9 (carry m c t) (iblk m c 4 t))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's decay. -/
theorem step17 : (outsAt m c t.val t.isLt).2.1 = (show FVec Ideal S256x1024 .f32 from (k0_pay20 (k0_pay18 (projected m c t) Pay.rows k0_pay9 (carry m c t) (iblk m c 4 t) (iblk m c 5 t) (iblk m c 6 t)) (k0_pay19 (projected m c t) Pay.rows k0_pay9 (carry m c t) (iblk m c 4 t) (iblk m c 5 t) (iblk m c 6 t)))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's key. -/
theorem step18 : (outsAt m c t.val t.isLt).2.2.1 = (show FVec Ideal S256x1024 .f32 from (k0_pay26 (k0_pay13 (projected m c t) Pay.rows k0_pay9 (carry m c t) (iblk m c 4 t)) (k0_pay21 (k0_pay15 (projected m c t) Pay.rows k0_pay9 (carry m c t) (iblk m c 4 t)) (iblk m c 7 t) (iblk m c 8 t)) (iblk m c 11 t))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's value. -/
theorem step19 : (outsAt m c t.val t.isLt).2.2.2.1 = (show FVec Ideal S256x1024 .f32 from (k0_pay14 (projected m c t) Pay.rows k0_pay9 (carry m c t) (iblk m c 4 t))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's removal key. -/
theorem step20 : (outsAt m c t.val t.isLt).2.2.2.2.1 = (show FVec Ideal S256x1024 .f32 from (k0_pay25 (k0_pay23 (k0_pay13 (projected m c t) Pay.rows k0_pay9 (carry m c t) (iblk m c 4 t)) (iblk m c 10 t)) (k0_pay24 (k0_pay6 (iblk m c 15 t)) (k0_pay13 (projected m c t) Pay.rows k0_pay9 (carry m c t) (iblk m c 4 t)) (iblk m c 10 t)))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's removal key times rate. -/
theorem step21 : (outsAt m c t.val t.isLt).2.2.2.2.2.1 = (show FVec Ideal S256x1024 .f32 from (k0_pay28 (k0_pay21 (k0_pay15 (projected m c t) Pay.rows k0_pay9 (carry m c t) (iblk m c 4 t)) (iblk m c 7 t) (iblk m c 8 t)) (k0_pay25 (k0_pay23 (k0_pay13 (projected m c t) Pay.rows k0_pay9 (carry m c t) (iblk m c 4 t)) (iblk m c 10 t)) (k0_pay24 (k0_pay6 (iblk m c 15 t)) (k0_pay13 (projected m c t) Pay.rows k0_pay9 (carry m c t) (iblk m c 4 t)) (iblk m c 10 t))))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's bonus. -/
theorem step22 : (outsAt m c t.val t.isLt).2.2.2.2.2.2.1 = (show FVec Ideal S256x1024 .f32 from (k0_pay27 (k0_pay6 (iblk m c 15 t)) (k0_pay12 (projected m c t) Pay.rows k0_pay9 (carry m c t) (iblk m c 4 t)) (k0_pay13 (projected m c t) Pay.rows k0_pay9 (carry m c t) (iblk m c 4 t)) (k0_pay14 (projected m c t) Pay.rows k0_pay9 (carry m c t) (iblk m c 4 t)) (k0_pay21 (k0_pay15 (projected m c t) Pay.rows k0_pay9 (carry m c t) (iblk m c 4 t)) (iblk m c 7 t) (iblk m c 8 t)) (iblk m c 11 t) (iblk m c 12 t))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's gate. -/
theorem step23 : (outsAt m c t.val t.isLt).2.2.2.2.2.2.2.1 = (show FVec Ideal S256x1024 .f32 from (k0_pay22 (k0_pay16 (projected m c t) Pay.rows k0_pay9 (carry m c t) (iblk m c 4 t)) (iblk m c 9 t))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's attention query. -/
theorem step24 : (outsAt m c t.val t.isLt).2.2.2.2.2.2.2.2.1 = (show FVec Ideal S256x768 .bf16 from (k0_pay1 (k0_pay31 (normed m c t) (k0_pay6 (iblk m c 15 t)) (middle m c t) (iblk m c 13 t)))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's attention key. -/
theorem step25 : (outsAt m c t.val t.isLt).2.2.2.2.2.2.2.2.2.1 = (show FVec Ideal S256x768 .bf16 from (k0_pay2 (k0_pay6 (iblk m c 15 t)) (k0_pay30 (normed m c t) (middle m c t)) (k0_pay33 (normed m c t) (k0_pay6 (iblk m c 15 t)) (middle m c t)) (k0_pay34 (normed m c t) (k0_pay6 (iblk m c 15 t)) (middle m c t)) (k0_pay35 (normed m c t) (middle m c t)) (iblk m c 14 t))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's attention value. -/
theorem step26 : (outsAt m c t.val t.isLt).2.2.2.2.2.2.2.2.2.2.1 = (show FVec Ideal S256x768 .bf16 from (k0_pay3 (k0_pay29 (normed m c t) (middle m c t)))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The tile's merge gates. -/
theorem step27 : (outsAt m c t.val t.isLt).2.2.2.2.2.2.2.2.2.2.2.1 = (show FVec Ideal S256x2048 .f32 from (k0_pay4 (normed m c t) (gate_part m c t) (iblk m c 3 t))) := by
  by_cases h0 : t.val % 16 = 0
  · rw [outsAt_A m c t h0]
    try rw [carry_first m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    try rw [carry_later m c t h0]
    dsimp only [outsB, atB]
    frame_out
    all_goals (try simp only [read_unread_whole])
    all_goals (try dsimp only [projected, normed, shifted, middle, gate_part, Pay.rows])
    all_goals (try with_reducible rfl)
    all_goals done

set_option maxHeartbeats 2000000 in
/-- The row a tile leaves: its last row of products. -/
theorem left_row : (outsAt m c t.val t.isLt).2.2.2.2.2.2.2.2.2.2.2.2 = (show FVec Ideal S1x3456 .f32 from k0_pay10 (projected m c t)) := by
  by_cases h0 : t.val % 16 = 0
  · rw [outsAt_A m c t h0]
    dsimp only [outsA, atA]
    frame_out
    all_goals (try simp only [read_unread_whole])
    all_goals (try dsimp only [projected, normed, shifted, middle, gate_part, Pay.rows])
    all_goals (try with_reducible rfl)
    all_goals done
  · rw [outsAt_B m c t h0]
    dsimp only [outsB, atB]
    frame_out
    all_goals (try simp only [read_unread_whole])
    all_goals (try dsimp only [projected, normed, shifted, middle, gate_part, Pay.rows])
    all_goals (try with_reducible rfl)
    all_goals done

end Cert.ProjIdeal.Step

end
-- ==== Proof.ProjTile.lean ====
/- One row of a tile of the projection kernel, from the row's shifted entries: each payload is the closed form of
   `Cert.ProjMath`.  The low-rank products run over padded lanes; the padding multiplies by zero. -/
module

public import proofs.«01_k».proof.Proof.ProjPay

@[expose] public section

set_option maxRecDepth 16384

noncomputable section

namespace Cert.ProjIdeal.Tile

open Cert.ProjIdeal Cert.ProjIdeal.Gen Cert.ProjIdeal.Pay Idealize.ShloMosaic Idealize.ShloMosaic.TcCoe Idealize.SL.Sem

/-- A sum over 256 lanes of which only the first 160 count. -/
theorem sum_first (f : Fin 256 → EReal) (hf : ∀ j : Fin 256, ¬j.val < 160 → f j = 0) :
    (∑ j : Fin 256, f j) = ∑ l : Fin 160, f ⟨l.val, by omega⟩ := by
  rw [Fin.sum_univ_add (a := 160) (b := 96)]
  rw [Finset.sum_eq_zero (s := Finset.univ) (f := fun i : Fin 96 => f (Fin.natAdd 160 i)) fun j _ => hf _ (by show ¬160 + j.val < 160; omega)]
  rw [add_zero]
  rfl

/-- A sum over 128 lanes of which only the first 64 count. -/
theorem sum_lower (f : Fin 128 → EReal) (hf : ∀ j : Fin 128, ¬j.val < 64 → f j = 0) :
    (∑ j : Fin 128, f j) = ∑ l : Fin 64, f ⟨l.val, by omega⟩ := by
  rw [Fin.sum_univ_add (a := 64) (b := 64)]
  rw [Finset.sum_eq_zero (s := Finset.univ) (f := fun i : Fin 64 => f (Fin.natAdd 64 i)) fun j _ => hf _ (by show ¬64 + j.val < 64; omega)]
  rw [add_zero]
  rfl

/-- A sum over 128 lanes of which only the last 64 count. -/
theorem sum_upper (f : Fin 128 → EReal) (hf : ∀ j : Fin 128, j.val < 64 → f j = 0) :
    (∑ j : Fin 128, f j) = ∑ l : Fin 64, f ⟨64 + l.val, by omega⟩ := by
  rw [Fin.sum_univ_add (a := 64) (b := 64)]
  rw [Finset.sum_eq_zero (s := Finset.univ) (f := fun i : Fin 64 => f (Fin.castAdd 64 i)) fun j _ => hf _ (by show j.val < 64; omega)]
  rw [zero_add]
  rfl

variable (Q : FVec Ideal S256x3456 .f32) (carry mu : FVec Ideal S1x3456 .f32) (a : Fin 256) (X : Fin 3360 → EReal)
  (hT : ∀ (e : Fin 3456) (he : e.val < 3360), T Q carry mu a e = X ⟨e.val, he⟩)

include hT

theorem r_tile (c : Fin 1024) : k0_pay12 (F := Ideal) Q rows k0_pay9 carry mu (ix2 a c) = ProjMath.r X c :=
  (r_at Q carry mu a c).trans (hT _ (by show c.val < 3360; omega))

theorem k0_tile (c : Fin 1024) : k0_pay13 (F := Ideal) Q rows k0_pay9 carry mu (ix2 a c) = ProjMath.k0 X c :=
  (k0_at Q carry mu a c).trans (hT _ (by show 1024 + c.val < 3360; omega))

theorem v_tile (c : Fin 1024) : k0_pay14 (F := Ideal) Q rows k0_pay9 carry mu (ix2 a c) = ProjMath.v X c :=
  (v_at Q carry mu a c).trans (hT _ (by show 2048 + c.val < 3360; omega))

theorem decay_tile (w0 : FVec Ideal S1x1024 .f32) (w2 : FVec Ideal S128x1024 .bf16) (W0 : Fin 1024 → EReal) (W2 : Fin 64 → Fin 1024 → EReal)
    (h0 : ∀ e, w0 (ix2 0 e) = W0 e) (h2 : ∀ j e, w2 (ix2 j e) = if h : j.val < 64 then W2 ⟨j.val, h⟩ e else 0) (c : Fin 1024) :
    k0_pay20 (F := Ideal) (k0_pay18 Q rows k0_pay9 carry mu w0 w2) (k0_pay19 Q rows k0_pay9 carry mu w0 w2) (ix2 a c) =
      ProjMath.decay (ProjMath.wraw X W0 W2 c) := by
  rw [decay_at, h0]
  refine congrArg (fun z => ProjMath.decay (W0 c + z)) ?_
  rw [sum_lower _ fun j hj => by rw [h2, dif_neg hj, mul_zero]]
  refine Finset.sum_congr rfl fun l _ => ?_
  rw [h2, dif_pos l.isLt, hT _ (by show 3072 + l.val < 3360; omega)]

theorem rate_tile (a0 : FVec Ideal S1x1024 .f32) (a2 : FVec Ideal S128x1024 .bf16) (A0 : Fin 1024 → EReal) (A2 : Fin 64 → Fin 1024 → EReal)
    (h0 : ∀ e, a0 (ix2 0 e) = A0 e) (h2 : ∀ j e, a2 (ix2 j e) = if h : j.val < 64 then 0 else A2 ⟨j.val - 64, by omega⟩ e) (c : Fin 1024) :
    k0_pay21 (F := Ideal) (k0_pay15 Q rows k0_pay9 carry mu) a0 a2 (ix2 a c) = ProjMath.rate X A0 A2 c := by
  rw [rate_at, h0]
  refine congrArg (fun z => Ideal.logistic (A0 c + z)) ?_
  rw [sum_upper _ fun j hj => by rw [h2, dif_pos hj, mul_zero]]
  refine Finset.sum_congr rfl fun l _ => ?_
  rw [h2, dif_neg (by show ¬64 + l.val < 64; omega), lora_at, hT _ (by show 3072 + (64 + l.val) < 3360; omega)]
  exact congrArg₂ (fun x y => X x * A2 y c) (Fin.ext (by show 3072 + (64 + l.val) = 3136 + l.val; omega)) (Fin.ext (by show 64 + l.val - 64 = l.val; omega))

theorem gate_tile (g2 : FVec Ideal S256x1024 .bf16) (G2 : Fin 160 → Fin 1024 → EReal)
    (h2 : ∀ j e, g2 (ix2 j e) = if h : j.val < 160 then G2 ⟨j.val, h⟩ e else 0) (c : Fin 1024) :
    k0_pay22 (F := Ideal) (k0_pay16 Q rows k0_pay9 carry mu) g2 (ix2 a c) = ProjMath.gate X G2 c := by
  rw [gate_at]
  rw [sum_first _ fun j hj => by rw [h2, dif_neg hj, mul_zero]]
  refine Finset.sum_congr rfl fun l _ => ?_
  rw [h2, dif_pos l.isLt, gd_at, hT _ (by show 3200 + l.val < 3360; omega)]

theorem key_tile (a0 : FVec Ideal S1x1024 .f32) (a2 : FVec Ideal S128x1024 .bf16) (A0 : Fin 1024 → EReal) (A2 : Fin 64 → Fin 1024 → EReal)
    (h0 : ∀ e, a0 (ix2 0 e) = A0 e) (h2 : ∀ j e, a2 (ix2 j e) = if h : j.val < 64 then 0 else A2 ⟨j.val - 64, by omega⟩ e)
    (ka : FVec Ideal S1x1024 .f32) (KA : Fin 1024 → EReal) (hka : ∀ e, ka (ix2 0 e) = KA e) (c : Fin 1024) :
    k0_pay26 (F := Ideal) (k0_pay13 Q rows k0_pay9 carry mu) (k0_pay21 (k0_pay15 Q rows k0_pay9 carry mu) a0 a2) ka (ix2 a c) = ProjMath.key X A0 A2 KA c := by
  rw [key_at, k0_tile Q carry mu a X hT, rate_tile Q carry mu a X hT a0 a2 A0 A2 h0 h2, hka]
  rfl

theorem kkn_tile (E : FVec Ideal S256x256 .bf16) (hE : IsMask E) (kk : FVec Ideal S1x1024 .f32) (KK : Fin 1024 → EReal) (hkk : ∀ e, kk (ix2 0 e) = KK e) (c : Fin 1024) :
    k0_pay25 (F := Ideal) (k0_pay23 (k0_pay13 Q rows k0_pay9 carry mu) kk) (k0_pay24 (k0_pay6 E) (k0_pay13 Q rows k0_pay9 carry mu) kk) (ix2 a c) = ProjMath.kkn X KK c := by
  rw [kkn_at E hE]
  simp only [k0_tile Q carry mu a X hT, hkk]
  rfl

theorem b_tile (E : FVec Ideal S256x256 .bf16) (hE : IsMask E) (kk : FVec Ideal S1x1024 .f32) (KK : Fin 1024 → EReal) (hkk : ∀ e, kk (ix2 0 e) = KK e)
    (a0 : FVec Ideal S1x1024 .f32) (a2 : FVec Ideal S128x1024 .bf16) (A0 : Fin 1024 → EReal) (A2 : Fin 64 → Fin 1024 → EReal)
    (h0 : ∀ e, a0 (ix2 0 e) = A0 e) (h2 : ∀ j e, a2 (ix2 j e) = if h : j.val < 64 then 0 else A2 ⟨j.val - 64, by omega⟩ e) (c : Fin 1024) :
    k0_pay28 (F := Ideal) (k0_pay21 (k0_pay15 Q rows k0_pay9 carry mu) a0 a2)
      (k0_pay25 (k0_pay23 (k0_pay13 Q rows k0_pay9 carry mu) kk) (k0_pay24 (k0_pay6 E) (k0_pay13 Q rows k0_pay9 carry mu) kk)) (ix2 a c) = ProjMath.bb X A0 A2 KK c := by
  pointwise [k0_pay28]
  rw [kkn_tile Q carry mu a X hT E hE kk KK hkk, rate_tile Q carry mu a X hT a0 a2 A0 A2 h0 h2]
  rfl

theorem bonus_tile (E : FVec Ideal S256x256 .bf16) (hE : IsMask E)
    (a0 : FVec Ideal S1x1024 .f32) (a2 : FVec Ideal S128x1024 .bf16) (A0 : Fin 1024 → EReal) (A2 : Fin 64 → Fin 1024 → EReal)
    (h0 : ∀ e, a0 (ix2 0 e) = A0 e) (h2 : ∀ j e, a2 (ix2 j e) = if h : j.val < 64 then 0 else A2 ⟨j.val - 64, by omega⟩ e)
    (ka rk : FVec Ideal S1x1024 .f32) (KA RK : Fin 1024 → EReal) (hka : ∀ e, ka (ix2 0 e) = KA e) (hrk : ∀ e, rk (ix2 0 e) = RK e) (c : Fin 1024) :
    k0_pay27 (F := Ideal) (k0_pay6 E) (k0_pay12 Q rows k0_pay9 carry mu) (k0_pay13 Q rows k0_pay9 carry mu) (k0_pay14 Q rows k0_pay9 carry mu)
      (k0_pay21 (k0_pay15 Q rows k0_pay9 carry mu) a0 a2) ka rk (ix2 a c) = ProjMath.bonus X A0 A2 KA RK c := by
  rw [bonus_at E hE]
  simp only [r_tile Q carry mu a X hT, k0_tile Q carry mu a X hT, v_tile Q carry mu a X hT, rate_tile Q carry mu a X hT a0 a2 A0 A2 h0 h2, hka, hrk]
  rfl

end Cert.ProjIdeal.Tile

end
-- ==== Proof.ProjEntry.lean ====
/- What the projection kernel's windows hold at a grid point, read off the argument arrays: the rows of the tokens, the
   packed weights, the padded low-rank weights, the tiled gains, and the head mask. -/
module

public import proofs.«01_k».proof.Proof.ProjFrame
public import proofs.«01_k».proof.Proof.ProjPay
public import Idealize.ShloMosaic.Lib.Pointwise
public import Idealize.ShloMosaic.Lib.Pipeline.ValueKit

public import Idealize.ShloMosaic.Lib.Claim

@[expose] public section

set_option maxRecDepth 16384

noncomputable section

namespace Cert.ProjIdeal.Entry

open Cert.ProjIdeal Cert.ProjIdeal.Gen Cert.ProjIdeal.Body Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, _)

theorem idxO : ∀ t : Fin cfg0.N, win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0]
    ∧ win0_23.index t = ![t.val, 0] ∧ win0_24.index t = ![t.val, 0] ∧ win0_25.index t = ![t.val, 0] ∧ win0_26.index t = ![t.val, 0]
    ∧ win0_27.index t = ![t.val, 0] :=
  (by decide +kernel : ∀ t : Fin grid0.N, _)

/-- The 32-bit quotient by 64 as the host computes it, for a lane number. -/
theorem quot_bits : ∀ k : Fin 256,
    Scalar.select (IntOp.andi
        (IntOp.cmpi CmpIPredicate.ne (if BitVec.ofNat 32 k.val = 0 then 0 else if (BitVec.ofNat 32 k.val).msb = true then -1 else 1 : BitVec 32)
          (if (64#32 : BitVec 32) = 0 then 0 else if (64#32).msb = true then -1 else 1 : BitVec 32))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  decide +kernel

theorem head_bits : ∀ a b : Fin 4, IntOp.cmpi .eq (BitVec.ofNat 32 a.val) (BitVec.ofNat 32 b.val) = if a.val = b.val then 1#1 else 0#1 := by
  decide +kernel

theorem zero_int : FloatOps.sitofp (F := Ideal) FTy.f32 (0#32) = 0 := by
  show (((0#32 : BitVec 32).toInt : ℝ) : EReal) = 0
  simp

set_option maxHeartbeats 4000000 in
/-- A token's row. -/
theorem x_at (c : Dev nD) (t : Fin cfg0.N) (r : Fin 256) (k : Fin 1024) (i : Fin 32768) (hi : i.val = t.val * 256 + r.val) :
    (show FVec Ideal S256x1024 .f32 from iblk m c 0 t) (ix2 r k) = (show FVec Ideal S8x4096x1024 .f32 from m ((c : Thread nD τ).loc main_arg0)) (ix3 ⟨i.val / 4096, by omega⟩ ⟨i.val % 4096, by omega⟩ k) := by
  blk_simp [iblk, idx t]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  blk_ext [idx t]

set_option maxHeartbeats 8000000 in
set_option maxRecDepth 200000 in
/-- The gain row. -/
theorem gain_at (c : Dev nD) (t : Fin cfg0.N) (e : Fin 1024) :
    (show FVec Ideal S1x1024 .f32 from iblk m c 1 t) (ix2 0 e) = (show FVec Ideal S1x1024 .f32 from m ((c : Thread nD τ).loc main_arg1)) (ix2 0 e) := by
  blk_simp [iblk, idx t]
  rw [show (win0_1.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The gate bias row. -/
theorem bg_at (c : Dev nD) (t : Fin cfg0.N) (e : Fin 2048) :
    (show FVec Ideal S1x2048 .f32 from iblk m c 3 t) (ix2 0 e) = (show FVec Ideal S1x2048 .f32 from m ((c : Thread nD τ).loc main_arg3)) (ix2 0 e) := by
  blk_simp [iblk, idx t]
  rw [show (win0_3.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The decay bias row. -/
theorem w0_at (c : Dev nD) (t : Fin cfg0.N) (e : Fin 1024) :
    (show FVec Ideal S1x1024 .f32 from iblk m c 5 t) (ix2 0 e) = (show FVec Ideal S1x1024 .f32 from m ((c : Thread nD τ).loc main_arg5)) (ix2 0 e) := by
  blk_simp [iblk, idx t]
  rw [show (win0_5.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The rate bias row. -/
theorem a0_at (c : Dev nD) (t : Fin cfg0.N) (e : Fin 1024) :
    (show FVec Ideal S1x1024 .f32 from iblk m c 7 t) (ix2 0 e) = (show FVec Ideal S1x1024 .f32 from m ((c : Thread nD τ).loc main_arg7)) (ix2 0 e) := by
  blk_simp [iblk, idx t]
  rw [show (win0_7.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The removal key weights. -/
theorem kk_at (c : Dev nD) (t : Fin cfg0.N) (e : Fin 1024) :
    (show FVec Ideal S1x1024 .f32 from iblk m c 10 t) (ix2 0 e) = (show FVec Ideal S1x1024 .f32 from m ((c : Thread nD τ).loc main_arg10)) (ix2 0 e) := by
  blk_simp [iblk, idx t]
  rw [show (win0_10.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The key rate weights. -/
theorem ka_at (c : Dev nD) (t : Fin cfg0.N) (e : Fin 1024) :
    (show FVec Ideal S1x1024 .f32 from iblk m c 11 t) (ix2 0 e) = (show FVec Ideal S1x1024 .f32 from m ((c : Thread nD τ).loc main_arg11)) (ix2 0 e) := by
  blk_simp [iblk, idx t]
  rw [show (win0_11.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The shift factors. -/
theorem mu_at (c : Dev nD) (t : Fin cfg0.N) (e : Fin 3456) (he : e.val < 3360) :
    (show FVec Ideal S1x3456 .f32 from iblk m c 4 t) (ix2 0 e) = (show FVec Ideal S1x3360 .f32 from m ((c : Thread nD τ).loc main_arg4)) (ix2 0 ⟨e.val, he⟩) := by
  blk_simp [iblk, idx t]
  rw [show (win0_4.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  rw [dif_pos he]
  try rfl
set_option maxHeartbeats 8000000 in
set_option maxRecDepth 200000 in
/-- The decay weights: 64 rows, then zeros. -/
theorem w2_at (c : Dev nD) (t : Fin cfg0.N) (j : Fin 128) (e : Fin 1024) :
    (show FVec Ideal S128x1024 .bf16 from iblk m c 6 t) (ix2 j e) = if h : j.val < 64 then (show FVec Ideal S1x64x1024 .f32 from m ((c : Thread nD τ).loc main_arg6)) (ix3 0 ⟨j.val, h⟩ e) else 0 := by
  blk_simp [iblk, idx t]
  rw [show (win0_6.blk t).view.emb (ix2 j e) = (ix2 j e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  rw [zero_int]
  try rfl
set_option maxHeartbeats 8000000 in
set_option maxRecDepth 200000 in
/-- The rate weights: 64 rows of zeros, then 64 rows. -/
theorem a2_at (c : Dev nD) (t : Fin cfg0.N) (j : Fin 128) (e : Fin 1024) :
    (show FVec Ideal S128x1024 .bf16 from iblk m c 8 t) (ix2 j e) = if h : j.val < 64 then 0 else (show FVec Ideal S1x64x1024 .f32 from m ((c : Thread nD τ).loc main_arg8)) (ix3 0 ⟨j.val - 64, by omega⟩ e) := by
  blk_simp [iblk, idx t]
  rw [show (win0_8.blk t).view.emb (ix2 j e) = (ix2 j e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  rw [zero_int]
  by_cases h : j.val < 64
  · rw [dif_neg (by omega), dif_pos h]
  · rw [dif_pos (by omega), dif_neg h]
    try rfl
set_option maxHeartbeats 8000000 in
set_option maxRecDepth 200000 in
/-- The gate weights: 160 rows, then zeros. -/
theorem g2_at (c : Dev nD) (t : Fin cfg0.N) (j : Fin 256) (e : Fin 1024) :
    (show FVec Ideal S256x1024 .bf16 from iblk m c 9 t) (ix2 j e) = if h : j.val < 160 then (show FVec Ideal S1x160x1024 .f32 from m ((c : Thread nD τ).loc main_arg9)) (ix3 0 ⟨j.val, h⟩ e) else 0 := by
  blk_simp [iblk, idx t]
  rw [show (win0_9.blk t).view.emb (ix2 j e) = (ix2 j e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  rw [zero_int]
  try rfl
set_option maxHeartbeats 8000000 in
set_option maxRecDepth 200000 in
/-- The bonus weights, one row. -/
theorem rk_at (c : Dev nD) (t : Fin cfg0.N) (e : Fin 1024) :
    (show FVec Ideal S1x1024 .f32 from iblk m c 12 t) (ix2 0 e) = (show FVec Ideal S1x16x64 .f32 from m ((c : Thread nD τ).loc main_arg12)) (ix3 0 ⟨e.val / 64, by omega⟩ ⟨e.val % 64, by omega⟩) := by
  blk_simp [iblk, idx t]
  rw [show (win0_12.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The query gains, tiled and scaled. -/
theorem qg_at (c : Dev nD) (t : Fin cfg0.N) (e : Fin 768) :
    (show FVec Ideal S1x768 .f32 from iblk m c 13 t) (ix2 0 e) = (show FVec Ideal S1x64 .f32 from m ((c : Thread nD τ).loc main_arg13)) (ix2 0 ⟨e.val % 64, by omega⟩) * Ideal.ofBits .f32 0x3E000000#32 := by
  blk_simp [iblk, idx t]
  rw [show (win0_13.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
set_option maxRecDepth 200000 in
/-- The key gains, tiled. -/
theorem kg_at (c : Dev nD) (t : Fin cfg0.N) (e : Fin 768) :
    (show FVec Ideal S1x768 .f32 from iblk m c 14 t) (ix2 0 e) = (show FVec Ideal S1x64 .f32 from m ((c : Thread nD τ).loc main_arg14)) (ix2 0 ⟨e.val % 64, by omega⟩) := by
  blk_simp [iblk, idx t]
  rw [show (win0_14.blk t).view.emb (ix2 0 e) = (ix2 0 e) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl
set_option maxHeartbeats 8000000 in
/-- The head mask. -/
theorem ones_at (c : Dev nD) (t : Fin cfg0.N) : Pay.IsMask (iblk m c 15 t) := by
  intro k l
  blk_simp [iblk, idx t]
  rw [show (win0_15.blk t).view.emb (ix2 k l) = (ix2 k l) from by blk_ext [idx t]]
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [StableHlo.TRef.toBuf, StableHlo.TRef.ofBuf, StableHlo.TRef.of, cast_eq, eqRec_eq_cast]
  pointwise
  refine (congrArg (FloatOps.uitofp (F := Ideal) .bf16) ((congrArg₂ (IntOp.cmpi .eq) (quot_bits k) (quot_bits l)).trans (head_bits ⟨k.val / 64, by omega⟩ ⟨l.val / 64, by omega⟩))).trans ?_
  dsimp only
  by_cases h : k.val / 64 = l.val / 64
  · rw [if_pos h, if_pos h]
    show (((1#1 : BitVec 1).toNat : ℝ) : EReal) = 1
    simp
  · rw [if_neg h, if_neg h]
    show (((0#1 : BitVec 1).toNat : ℝ) : EReal) = 0
    simp

end Cert.ProjIdeal.Entry

end
-- ==== Proof.ProjPacked.lean ====
/- The projection kernel's packed weights: the reference's columns, with 96 columns of zeros between the two parts. -/
module

public import proofs.«01_k».proof.Proof.ProjEntry

@[expose] public section

set_option maxRecDepth 16384

noncomputable section

namespace Cert.ProjIdeal.Entry

open Cert.ProjIdeal Cert.ProjIdeal.Gen Cert.ProjIdeal.Body Idealize.ShloMosaic Idealize.ShloMosaic.TcCoe Idealize.SL.Sem

variable (m : (ℓ : Loc nD τ sig) → Buf (Elt Ideal) ℓ)

/-- A line of operations in two parts. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The three pieces of the packed weights, side by side. -/
def packed (u : FVec Ideal S1024x3360 .f32) (z : FVec Ideal S1024x96 .f32) (v : FVec Ideal S1024x4352 .f32) : FVec Ideal S1024x7808 .bf16 :=
  truncf .bf16 (concatenate S1024x7808 1 [⟨S1024x3360, u⟩, ⟨S1024x96, z⟩, ⟨S1024x4352, v⟩] concatenates_S1024x3360_S1024x96_S1024x4352_S1024x7808_d1) bitsLt_bf16_f32

theorem packed_low (u z v) (k : Fin 1024) (e : Fin 7808) (he : e.val < 3360) : packed u z v (ix2 k e) = u (ix2 k ⟨e.val, he⟩) := by
  pointwise [packed]
  rw [dif_pos he]

theorem packed_high (u z v) (k : Fin 1024) (e : Fin 7808) (he : 3456 ≤ e.val) : packed u z v (ix2 k e) = v (ix2 k ⟨e.val - 3456, by omega⟩) := by
  pointwise [packed]
  rw [dif_neg (by omega), dif_neg (by omega)]
  blk_ext

/-- The operations that pack, over any contents. -/
theorem last_ops (W : Valuation τ sig (Elt Ideal)) :
    StableHlo.after ((hostOps0 (F := Ideal)).drop 19) W (Proc.devRef .tc main_v19) = packed (W (Proc.devRef .tc main_v15)) (W (Proc.devRef .tc main_v16)) (W (Proc.devRef .tc main_v17)) := by
  rfl

theorem first_low (σ : Valuation τ sig (Elt Ideal)) :
    StableHlo.after ((hostOps0 (F := Ideal)).take 19) σ (Proc.devRef .tc main_v15) = extractStridedSlice S1024x3360 ![0, 0] (shapeCast S1024x7712 (σ (Proc.devRef .tc main_arg2)) shapeCasts_S1x1024x7712_S1024x7712) slices_S1024x7712_S1024x3360_0_0 := by
  rfl

theorem first_high (σ : Valuation τ sig (Elt Ideal)) :
    StableHlo.after ((hostOps0 (F := Ideal)).take 19) σ (Proc.devRef .tc main_v17) = extractStridedSlice S1024x4352 ![0, 3360] (shapeCast S1024x7712 (σ (Proc.devRef .tc main_arg2)) shapeCasts_S1x1024x7712_S1024x7712) slices_S1024x7712_S1024x4352_0_3360 := by
  rfl

/-- The packed weights at the region's entry: the first operations, then the packing. -/
theorem entry_split (c : Dev nD) : V m c main_v19 =
    StableHlo.after ((hostOps0 (F := Ideal)).drop 19) (StableHlo.after ((hostOps0 (F := Ideal)).take 19) (fun b => m (c, b))) (Proc.devRef .tc main_v19) := by
  rw [← after_two, List.take_append_drop]
  show StableHlo.after (hostOps0 ++ [hostOps0_1, hostOps0_2, hostOps0_3, hostOps0_4, hostOps0_5, hostOps0_6, hostOps0_7, hostOps0_8, hostOps0_9, hostOps0_10].flatten) _ _ = _
  rw [after_two]
  refine StableHlo.after_of_forall_not_mem (b := Proc.devRef .tc main_v19) _ _ (List.forall_iff_forall_mem.mp ?_)
  simp only [hostOps0_1, hostOps0_2, hostOps0_3, hostOps0_4, hostOps0_5, hostOps0_6, hostOps0_7, hostOps0_8, hostOps0_9, hostOps0_10, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- The packed weights, first part. -/
theorem w_low (c : Dev nD) (t : Fin cfg0.N) (k : Fin 1024) (e : Fin 7808) (he : e.val < 3360) :
    (show FVec Ideal S1024x7808 .bf16 from iblk m c 2 t) (ix2 k e) = (show FVec Ideal S1x1024x7712 .f32 from m ((c : Thread nD τ).loc main_arg2)) (ix3 0 k ⟨e.val, by omega⟩) := by
  blk_simp [iblk, idx t]
  rw [show (win0_2.blk t).view.emb (ix2 k e) = (ix2 k e) from by blk_ext [idx t]]
  refine (congrFun (entry_split m c) (ix2 k e)).trans ?_
  rw [last_ops, packed_low _ _ _ k e he, first_low]
  pointwise

/-- The packed weights, second part. -/
theorem w_high (c : Dev nD) (t : Fin cfg0.N) (k : Fin 1024) (e : Fin 7808) (he : 3456 ≤ e.val) :
    (show FVec Ideal S1024x7808 .bf16 from iblk m c 2 t) (ix2 k e) = (show FVec Ideal S1x1024x7712 .f32 from m ((c : Thread nD τ).loc main_arg2)) (ix3 0 k ⟨e.val - 96, by omega⟩) := by
  blk_simp [iblk, idx t]
  rw [show (win0_2.blk t).view.emb (ix2 k e) = (ix2 k e) from by blk_ext [idx t]]
  refine (congrFun (entry_split m c) (ix2 k e)).trans ?_
  rw [last_ops, packed_high _ _ _ k e he, first_high]
  pointwise
  blk_ext

end Cert.ProjIdeal.Entry

end
-- ==== Proof.ProjValue.lean ====
/- The projection kernel's twelve result arrays, each as one function of the argument arrays. -/
module

public import proofs.«01_k».proof.Proof.ProjStep
public import proofs.«01_k».proof.Proof.ProjTile
public import proofs.«01_k».proof.Proof.ProjPacked
public import Idealize.ShloMosaic.Lib.Pointwise
public import Idealize.ShloMosaic.Lib.Pipeline.ValueKit

@[expose] public section

set_option maxRecDepth 16384

noncomputable section

namespace Cert.ProjIdeal.KernelValue

open Cert.ProjIdeal Cert.ProjIdeal.Gen Cert.ProjIdeal.Body Cert.ProjIdeal.Entry Cert.ProjIdeal.Step Idealize.ShloMosaic Idealize.ShloMosaic.TcCoe Idealize.SL.Sem
open Idealize.ShloMosaic.Pipeline (Dat)

variable (m : (ℓ : Loc nD τ sig) → Buf (Elt Ideal) ℓ) (c : Dev nD)

/-- A token's product with one of the reference's columns. -/
def P (i : Fin 32768) (e : Fin 7712) : EReal :=
  ProjMath.prod (fun j => (show FVec Ideal S8x4096x1024 .f32 from m ((c : Thread nD τ).loc main_arg0)) (ix3 ⟨i.val / 4096, by omega⟩ ⟨i.val % 4096, by omega⟩ j))
    (fun j => (show FVec Ideal S1x1024 .f32 from m ((c : Thread nD τ).loc main_arg1)) (ix2 0 j))
    (fun k => (show FVec Ideal S1x1024x7712 .f32 from m ((c : Thread nD τ).loc main_arg2)) (ix3 0 k e))

/-- A token's shifted entry: towards the token before, or towards zero at a sequence's start. -/
def X (i : Fin 32768) (e : Fin 3360) : EReal :=
  ProjMath.shift (P m c i ⟨e.val, by omega⟩) (if i.val % 4096 = 0 then 0 else P m c ⟨i.val - 1, by omega⟩ ⟨e.val, by omega⟩)
    ((show FVec Ideal S1x3360 .f32 from m ((c : Thread nD τ).loc main_arg4)) (ix2 0 e))

theorem shifted_at (t : Fin cfg0.N) (k : Fin 1024) (e : Fin 3456) (he : e.val < 3360) :
    shifted m c t (ix2 k e) = (show FVec Ideal S1x1024x7712 .f32 from m ((c : Thread nD τ).loc main_arg2)) (ix3 0 k ⟨e.val, by omega⟩) := by
  refine Eq.trans (congrArg (show FVec Ideal S1024x7808 .bf16 from iblk m c 2 t) (?_ : _ = ix2 k ⟨e.val, by omega⟩)) (w_low m c t k ⟨e.val, by omega⟩ he)
  funext x; fin_cases x
  · exact Fin.ext (by show 0 + 1 * k.val = k.val; omega)
  · exact Fin.ext (by show 0 + 1 * e.val = e.val; omega)

theorem middle_at (t : Fin cfg0.N) (k : Fin 1024) (e : Fin 2304) :
    middle m c t (ix2 k e) = (show FVec Ideal S1x1024x7712 .f32 from m ((c : Thread nD τ).loc main_arg2)) (ix3 0 k ⟨3360 + e.val, by omega⟩) := by
  refine Eq.trans (congrArg (show FVec Ideal S1024x7808 .bf16 from iblk m c 2 t) (?_ : _ = ix2 k ⟨3456 + e.val, by omega⟩)) ((w_high m c t k ⟨3456 + e.val, by omega⟩ (by show 3456 ≤ 3456 + e.val; omega)).trans ?_)
  · funext x; fin_cases x
    · exact Fin.ext (by show 0 + 1 * k.val = k.val; omega)
    · exact Fin.ext (by show 3456 + 1 * e.val = 3456 + e.val; omega)
  · exact congrArg (fun z => (show FVec Ideal S1x1024x7712 .f32 from m ((c : Thread nD τ).loc main_arg2)) (ix3 0 k z)) (Fin.ext (by show 3456 + e.val - 96 = 3360 + e.val; omega))

theorem gate_part_at (t : Fin cfg0.N) (k : Fin 1024) (e : Fin 2048) :
    gate_part m c t (ix2 k e) = (show FVec Ideal S1x1024x7712 .f32 from m ((c : Thread nD τ).loc main_arg2)) (ix3 0 k ⟨5664 + e.val, by omega⟩) := by
  refine Eq.trans (congrArg (show FVec Ideal S1024x7808 .bf16 from iblk m c 2 t) (?_ : _ = ix2 k ⟨5760 + e.val, by omega⟩)) ((w_high m c t k ⟨5760 + e.val, by omega⟩ (by show 3456 ≤ 5760 + e.val; omega)).trans ?_)
  · funext x; fin_cases x
    · exact Fin.ext (by show 0 + 1 * k.val = k.val; omega)
    · exact Fin.ext (by show 5760 + 1 * e.val = 5760 + e.val; omega)
  · exact congrArg (fun z => (show FVec Ideal S1x1024x7712 .f32 from m ((c : Thread nD τ).loc main_arg2)) (ix3 0 k z)) (Fin.ext (by show 5760 + e.val - 96 = 5664 + e.val; omega))

section
variable (t : Fin cfg0.N) (a : Fin 256) (i : Fin 32768) (hi : i.val = t.val * 256 + a.val)

include hi

theorem projected_at (e : Fin 3456) (he : e.val < 3360) : projected m c t (ix2 a e) = P m c i ⟨e.val, by omega⟩ := by
  unfold projected
  rw [Pay.p_at]
  unfold P
  refine congr (congr (congrArg ProjMath.prod (funext fun j => x_at m c t a j i hi)) (funext fun j => gain_at m c t j)) (funext fun k => shifted_at m c t k e he)

theorem normed_at (k : Fin 1024) : normed m c t (ix2 a k) = FfnMath.normed (fun j => (show FVec Ideal S8x4096x1024 .f32 from m ((c : Thread nD τ).loc main_arg0)) (ix3 ⟨i.val / 4096, by omega⟩ ⟨i.val % 4096, by omega⟩ j))
    (fun j => (show FVec Ideal S1x1024 .f32 from m ((c : Thread nD τ).loc main_arg1)) (ix2 0 j)) k := by
  unfold normed
  rw [Pay.norm_at]
  exact congrFun (congr (congrArg FfnMath.normed (funext fun j => x_at m c t a j i hi)) (funext fun j => gain_at m c t j)) k

theorem attn_at (e : Fin 2304) : k0_pay29 (F := Ideal) (normed m c t) (middle m c t) (ix2 a e) = P m c i ⟨3360 + e.val, by omega⟩ := by
  pointwise [k0_pay29, P, ProjMath.prod]
  exact Finset.sum_congr rfl fun k _ => by rw [normed_at m c t a i hi, middle_at]

theorem T_at (e : Fin 3456) (he : e.val < 3360) : Pay.T (projected m c t) (carry m c t) (iblk m c 4 t) a e = X m c i ⟨e.val, he⟩ := by
  have ht : t.val < 128 := lt_of_lt_of_eq t.isLt N_0
  unfold Pay.T X
  refine congr (congr (congrArg ProjMath.shift (projected_at m c t a i hi e he)) ?_) (mu_at m c t e he)
  by_cases ha : a.val = 0
  · rw [if_pos ha]
    by_cases h0 : t.val % 16 = 0
    · rw [carry_first m c t h0, Pay.zero_row, if_pos (by omega)]
    · rw [carry_later m c t h0, if_neg (by omega)]
      refine (congrFun (left_row m c ⟨t.val - 1, lt_of_le_of_lt (Nat.sub_le _ _) t.isLt⟩) (ix2 0 e)).trans ?_
      refine (Pay.last_row _ e).trans ?_
      exact projected_at m c ⟨t.val - 1, lt_of_le_of_lt (Nat.sub_le _ _) t.isLt⟩ 255 ⟨i.val - 1, by omega⟩
        (by show i.val - 1 = (t.val - 1) * 256 + 255; omega) e he
  · rw [if_neg ha, if_neg (by omega)]
    exact projected_at m c t ⟨a.val - 1, by omega⟩ ⟨i.val - 1, by omega⟩ (by show i.val - 1 = t.val * 256 + (a.val - 1); omega) e he

end

/-- Result 0 at a token and a column. -/
def entry16 (i : Fin 32768) (e : Fin 1024) : EReal := ProjMath.r (X m c i) e

/-- Result 0 as one array. -/
def result16 : FVec Ideal S32768x1024 .f32 := fun y => entry16 m c (y 0) (y 1)

theorem point16 (t : Fin cfg0.N) (y : S256x1024.Idx) : (show FVec Ideal S256x1024 .f32 from (k0_pay12 (projected m c t) Pay.rows k0_pay9 (carry m c t) (iblk m c 4 t))) y = result16 m c (((cfg0.win 16).blk t).view.emb y) := by
  idx_vars y
  have ht : t.val < 128 := lt_of_lt_of_eq t.isLt N_0
  have hb : t.val * 256 + y0.val < 32768 := by omega
  have hemb : ((cfg0.win 16).blk t).view.emb (ix2 y0 y1) = (ix2 ⟨t.val * 256 + y0.val, hb⟩ y1 : S32768x1024.Idx) := by
    blk_ext [idxO t]
  rw [hemb]
  show _ = entry16 m c ⟨t.val * 256 + y0.val, hb⟩ y1
  generalize hi' : (⟨t.val * 256 + y0.val, hb⟩ : Fin 32768) = i
  have hi : i.val = t.val * 256 + y0.val := by rw [← hi']
  exact Tile.r_tile (projected m c t) (carry m c t) (iblk m c 4 t) y0 (X m c i) (T_at m c t y0 i hi) y1

theorem final16 : (dats m 0 c).arrAt 16 (cfgs 0).N = result16 m c := by
  refine (dats m 0 c).arrAt_eq_of_covers 16 _ (by decide +kernel) fun t _ y => ?_
  blk_simp
  rw [after0_16, step16]
  exact point16 m c t y

/-- Result 1 at a token and a column. -/
def entry17 (i : Fin 32768) (e : Fin 1024) : EReal := ProjMath.decay (ProjMath.wraw (X m c i) (fun e => (show FVec Ideal S1x1024 .f32 from m ((c : Thread nD τ).loc main_arg5)) (ix2 0 e)) (fun j e => (show FVec Ideal S1x64x1024 .f32 from m ((c : Thread nD τ).loc main_arg6)) (ix3 0 j e)) e)

/-- Result 1 as one array. -/
def result17 : FVec Ideal S32768x1024 .f32 := fun y => entry17 m c (y 0) (y 1)

theorem point17 (t : Fin cfg0.N) (y : S256x1024.Idx) : (show FVec Ideal S256x1024 .f32 from (k0_pay20 (k0_pay18 (projected m c t) Pay.rows k0_pay9 (carry m c t) (iblk m c 4 t) (iblk m c 5 t) (iblk m c 6 t)) (k0_pay19 (projected m c t) Pay.rows k0_pay9 (carry m c t) (iblk m c 4 t) (iblk m c 5 t) (iblk m c 6 t)))) y = result17 m c (((cfg0.win 17).blk t).view.emb y) := by
  idx_vars y
  have ht : t.val < 128 := lt_of_lt_of_eq t.isLt N_0
  have hb : t.val * 256 + y0.val < 32768 := by omega
  have hemb : ((cfg0.win 17).blk t).view.emb (ix2 y0 y1) = (ix2 ⟨t.val * 256 + y0.val, hb⟩ y1 : S32768x1024.Idx) := by
    blk_ext [idxO t]
  rw [hemb]
  show _ = entry17 m c ⟨t.val * 256 + y0.val, hb⟩ y1
  generalize hi' : (⟨t.val * 256 + y0.val, hb⟩ : Fin 32768) = i
  have hi : i.val = t.val * 256 + y0.val := by rw [← hi']
  exact Tile.decay_tile (projected m c t) (carry m c t) (iblk m c 4 t) y0 (X m c i) (T_at m c t y0 i hi) (iblk m c 5 t) (iblk m c 6 t) _ _ (w0_at m c t) (w2_at m c t) y1

theorem final17 : (dats m 0 c).arrAt 17 (cfgs 0).N = result17 m c := by
  refine (dats m 0 c).arrAt_eq_of_covers 17 _ (by decide +kernel) fun t _ y => ?_
  blk_simp
  rw [after0_17, step17]
  exact point17 m c t y

/-- Result 2 at a token and a column. -/
def entry18 (i : Fin 32768) (e : Fin 1024) : EReal := ProjMath.key (X m c i) (fun e => (show FVec Ideal S1x1024 .f32 from m ((c : Thread nD τ).loc main_arg7)) (ix2 0 e)) (fun j e => (show FVec Ideal S1x64x1024 .f32 from m ((c : Thread nD τ).loc main_arg8)) (ix3 0 j e)) (fun e => (show FVec Ideal S1x1024 .f32 from m ((c : Thread nD τ).loc main_arg11)) (ix2 0 e)) e

/-- Result 2 as one array. -/
def result18 : FVec Ideal S32768x1024 .f32 := fun y => entry18 m c (y 0) (y 1)

theorem point18 (t : Fin cfg0.N) (y : S256x1024.Idx) : (show FVec Ideal S256x1024 .f32 from (k0_pay26 (k0_pay13 (projected m c t) Pay.rows k0_pay9 (carry m c t) (iblk m c 4 t)) (k0_pay21 (k0_pay15 (projected m c t) Pay.rows k0_pay9 (carry m c t) (iblk m c 4 t)) (iblk m c 7 t) (iblk m c 8 t)) (iblk m c 11 t))) y = result18 m c (((cfg0.win 18).blk t).view.emb y) := by
  idx_vars y
  have ht : t.val < 128 := lt_of_lt_of_eq t.isLt N_0
  have hb : t.val * 256 + y0.val < 32768 := by omega
  have hemb : ((cfg0.win 18).blk t).view.emb (ix2 y0 y1) = (ix2 ⟨t.val * 256 + y0.val, hb⟩ y1 : S32768x1024.Idx) := by
    blk_ext [idxO t]
  rw [hemb]
  show _ = entry18 m c ⟨t.val * 256 + y0.val, hb⟩ y1
  generalize hi' : (⟨t.val * 256 + y0.val, hb⟩ : Fin 32768) = i
  have hi : i.val = t.val * 256 + y0.val := by rw [← hi']
  exact Tile.key_tile (projected m c t) (carry m c t) (iblk m c 4 t) y0 (X m c i) (T_at m c t y0 i hi) (iblk m c 7 t) (iblk m c 8 t) _ _ (a0_at m c t) (a2_at m c t) (iblk m c 11 t) _ (ka_at m c t) y1

theorem final18 : (dats m 0 c).arrAt 18 (cfgs 0).N = result18 m c := by
  refine (dats m 0 c).arrAt_eq_of_covers 18 _ (by decide +kernel) fun t _ y => ?_
  blk_simp
  rw [after0_18, step18]
  exact point18 m c t y

/-- Result 3 at a token and a column. -/
def entry19 (i : Fin 32768) (e : Fin 1024) : EReal := ProjMath.v (X m c i) e

/-- Result 3 as one array. -/
def result19 : FVec Ideal S32768x1024 .f32 := fun y => entry19 m c (y 0) (y 1)

theorem point19 (t : Fin cfg0.N) (y : S256x1024.Idx) : (show FVec Ideal S256x1024 .f32 from (k0_pay14 (projected m c t) Pay.rows k0_pay9 (carry m c t) (iblk m c 4 t))) y = result19 m c (((cfg0.win 19).blk t).view.emb y) := by
  idx_vars y
  have ht : t.val < 128 := lt_of_lt_of_eq t.isLt N_0
  have hb : t.val * 256 + y0.val < 32768 := by omega
  have hemb : ((cfg0.win 19).blk t).view.emb (ix2 y0 y1) = (ix2 ⟨t.val * 256 + y0.val, hb⟩ y1 : S32768x1024.Idx) := by
    blk_ext [idxO t]
  rw [hemb]
  show _ = entry19 m c ⟨t.val * 256 + y0.val, hb⟩ y1
  generalize hi' : (⟨t.val * 256 + y0.val, hb⟩ : Fin 32768) = i
  have hi : i.val = t.val * 256 + y0.val := by rw [← hi']
  exact Tile.v_tile (projected m c t) (carry m c t) (iblk m c 4 t) y0 (X m c i) (T_at m c t y0 i hi) y1

theorem final19 : (dats m 0 c).arrAt 19 (cfgs 0).N = result19 m c := by
  refine (dats m 0 c).arrAt_eq_of_covers 19 _ (by decide +kernel) fun t _ y => ?_
  blk_simp
  rw [after0_19, step19]
  exact point19 m c t y

/-- Result 4 at a token and a column. -/
def entry20 (i : Fin 32768) (e : Fin 1024) : EReal := ProjMath.kkn (X m c i) (fun e => (show FVec Ideal S1x1024 .f32 from m ((c : Thread nD τ).loc main_arg10)) (ix2 0 e)) e

/-- Result 4 as one array. -/
def result20 : FVec Ideal S32768x1024 .f32 := fun y => entry20 m c (y 0) (y 1)

theorem point20 (t : Fin cfg0.N) (y : S256x1024.Idx) : (show FVec Ideal S256x1024 .f32 from (k0_pay25 (k0_pay23 (k0_pay13 (projected m c t) Pay.rows k0_pay9 (carry m c t) (iblk m c 4 t)) (iblk m c 10 t)) (k0_pay24 (k0_pay6 (iblk m c 15 t)) (k0_pay13 (projected m c t) Pay.rows k0_pay9 (carry m c t) (iblk m c 4 t)) (iblk m c 10 t)))) y = result20 m c (((cfg0.win 20).blk t).view.emb y) := by
  idx_vars y
  have ht : t.val < 128 := lt_of_lt_of_eq t.isLt N_0
  have hb : t.val * 256 + y0.val < 32768 := by omega
  have hemb : ((cfg0.win 20).blk t).view.emb (ix2 y0 y1) = (ix2 ⟨t.val * 256 + y0.val, hb⟩ y1 : S32768x1024.Idx) := by
    blk_ext [idxO t]
  rw [hemb]
  show _ = entry20 m c ⟨t.val * 256 + y0.val, hb⟩ y1
  generalize hi' : (⟨t.val * 256 + y0.val, hb⟩ : Fin 32768) = i
  have hi : i.val = t.val * 256 + y0.val := by rw [← hi']
  exact Tile.kkn_tile (projected m c t) (carry m c t) (iblk m c 4 t) y0 (X m c i) (T_at m c t y0 i hi) (iblk m c 15 t) (ones_at m c t) (iblk m c 10 t) _ (kk_at m c t) y1

theorem final20 : (dats m 0 c).arrAt 20 (cfgs 0).N = result20 m c := by
  refine (dats m 0 c).arrAt_eq_of_covers 20 _ (by decide +kernel) fun t _ y => ?_
  blk_simp
  rw [after0_20, step20]
  exact point20 m c t y

/-- Result 5 at a token and a column. -/
def entry21 (i : Fin 32768) (e : Fin 1024) : EReal := ProjMath.bb (X m c i) (fun e => (show FVec Ideal S1x1024 .f32 from m ((c : Thread nD τ).loc main_arg7)) (ix2 0 e)) (fun j e => (show FVec Ideal S1x64x1024 .f32 from m ((c : Thread nD τ).loc main_arg8)) (ix3 0 j e)) (fun e => (show FVec Ideal S1x1024 .f32 from m ((c : Thread nD τ).loc main_arg10)) (ix2 0 e)) e

/-- Result 5 as one array. -/
def result21 : FVec Ideal S32768x1024 .f32 := fun y => entry21 m c (y 0) (y 1)

theorem point21 (t : Fin cfg0.N) (y : S256x1024.Idx) : (show FVec Ideal S256x1024 .f32 from (k0_pay28 (k0_pay21 (k0_pay15 (projected m c t) Pay.rows k0_pay9 (carry m c t) (iblk m c 4 t)) (iblk m c 7 t) (iblk m c 8 t)) (k0_pay25 (k0_pay23 (k0_pay13 (projected m c t) Pay.rows k0_pay9 (carry m c t) (iblk m c 4 t)) (iblk m c 10 t)) (k0_pay24 (k0_pay6 (iblk m c 15 t)) (k0_pay13 (projected m c t) Pay.rows k0_pay9 (carry m c t) (iblk m c 4 t)) (iblk m c 10 t))))) y = result21 m c (((cfg0.win 21).blk t).view.emb y) := by
  idx_vars y
  have ht : t.val < 128 := lt_of_lt_of_eq t.isLt N_0
  have hb : t.val * 256 + y0.val < 32768 := by omega
  have hemb : ((cfg0.win 21).blk t).view.emb (ix2 y0 y1) = (ix2 ⟨t.val * 256 + y0.val, hb⟩ y1 : S32768x1024.Idx) := by
    blk_ext [idxO t]
  rw [hemb]
  show _ = entry21 m c ⟨t.val * 256 + y0.val, hb⟩ y1
  generalize hi' : (⟨t.val * 256 + y0.val, hb⟩ : Fin 32768) = i
  have hi : i.val = t.val * 256 + y0.val := by rw [← hi']
  exact Tile.b_tile (projected m c t) (carry m c t) (iblk m c 4 t) y0 (X m c i) (T_at m c t y0 i hi) (iblk m c 15 t) (ones_at m c t) (iblk m c 10 t) _ (kk_at m c t) (iblk m c 7 t) (iblk m c 8 t) _ _ (a0_at m c t) (a2_at m c t) y1

theorem final21 : (dats m 0 c).arrAt 21 (cfgs 0).N = result21 m c := by
  refine (dats m 0 c).arrAt_eq_of_covers 21 _ (by decide +kernel) fun t _ y => ?_
  blk_simp
  rw [after0_21, step21]
  exact point21 m c t y

/-- Result 6 at a token and a column. -/
def entry22 (i : Fin 32768) (e : Fin 1024) : EReal := ProjMath.bonus (X m c i) (fun e => (show FVec Ideal S1x1024 .f32 from m ((c : Thread nD τ).loc main_arg7)) (ix2 0 e)) (fun j e => (show FVec Ideal S1x64x1024 .f32 from m ((c : Thread nD τ).loc main_arg8)) (ix3 0 j e)) (fun e => (show FVec Ideal S1x1024 .f32 from m ((c : Thread nD τ).loc main_arg11)) (ix2 0 e)) (fun e => (show FVec Ideal S1x16x64 .f32 from m ((c : Thread nD τ).loc main_arg12)) (ix3 0 ⟨e.val / 64, by omega⟩ ⟨e.val % 64, by omega⟩)) e

/-- Result 6 as one array. -/
def result22 : FVec Ideal S32768x1024 .f32 := fun y => entry22 m c (y 0) (y 1)

theorem point22 (t : Fin cfg0.N) (y : S256x1024.Idx) : (show FVec Ideal S256x1024 .f32 from (k0_pay27 (k0_pay6 (iblk m c 15 t)) (k0_pay12 (projected m c t) Pay.rows k0_pay9 (carry m c t) (iblk m c 4 t)) (k0_pay13 (projected m c t) Pay.rows k0_pay9 (carry m c t) (iblk m c 4 t)) (k0_pay14 (projected m c t) Pay.rows k0_pay9 (carry m c t) (iblk m c 4 t)) (k0_pay21 (k0_pay15 (projected m c t) Pay.rows k0_pay9 (carry m c t) (iblk m c 4 t)) (iblk m c 7 t) (iblk m c 8 t)) (iblk m c 11 t) (iblk m c 12 t))) y = result22 m c (((cfg0.win 22).blk t).view.emb y) := by
  idx_vars y
  have ht : t.val < 128 := lt_of_lt_of_eq t.isLt N_0
  have hb : t.val * 256 + y0.val < 32768 := by omega
  have hemb : ((cfg0.win 22).blk t).view.emb (ix2 y0 y1) = (ix2 ⟨t.val * 256 + y0.val, hb⟩ y1 : S32768x1024.Idx) := by
    blk_ext [idxO t]
  rw [hemb]
  show _ = entry22 m c ⟨t.val * 256 + y0.val, hb⟩ y1
  generalize hi' : (⟨t.val * 256 + y0.val, hb⟩ : Fin 32768) = i
  have hi : i.val = t.val * 256 + y0.val := by rw [← hi']
  exact Tile.bonus_tile (projected m c t) (carry m c t) (iblk m c 4 t) y0 (X m c i) (T_at m c t y0 i hi) (iblk m c 15 t) (ones_at m c t) (iblk m c 7 t) (iblk m c 8 t) _ _ (a0_at m c t) (a2_at m c t) (iblk m c 11 t) (iblk m c 12 t) _ _ (ka_at m c t) (rk_at m c t) y1

theorem final22 : (dats m 0 c).arrAt 22 (cfgs 0).N = result22 m c := by
  refine (dats m 0 c).arrAt_eq_of_covers 22 _ (by decide +kernel) fun t _ y => ?_
  blk_simp
  rw [after0_22, step22]
  exact point22 m c t y

/-- Result 7 at a token and a column. -/
def entry23 (i : Fin 32768) (e : Fin 1024) : EReal := ProjMath.gate (X m c i) (fun j e => (show FVec Ideal S1x160x1024 .f32 from m ((c : Thread nD τ).loc main_arg9)) (ix3 0 j e)) e

/-- Result 7 as one array. -/
def result23 : FVec Ideal S32768x1024 .f32 := fun y => entry23 m c (y 0) (y 1)

theorem point23 (t : Fin cfg0.N) (y : S256x1024.Idx) : (show FVec Ideal S256x1024 .f32 from (k0_pay22 (k0_pay16 (projected m c t) Pay.rows k0_pay9 (carry m c t) (iblk m c 4 t)) (iblk m c 9 t))) y = result23 m c (((cfg0.win 23).blk t).view.emb y) := by
  idx_vars y
  have ht : t.val < 128 := lt_of_lt_of_eq t.isLt N_0
  have hb : t.val * 256 + y0.val < 32768 := by omega
  have hemb : ((cfg0.win 23).blk t).view.emb (ix2 y0 y1) = (ix2 ⟨t.val * 256 + y0.val, hb⟩ y1 : S32768x1024.Idx) := by
    blk_ext [idxO t]
  rw [hemb]
  show _ = entry23 m c ⟨t.val * 256 + y0.val, hb⟩ y1
  generalize hi' : (⟨t.val * 256 + y0.val, hb⟩ : Fin 32768) = i
  have hi : i.val = t.val * 256 + y0.val := by rw [← hi']
  exact Tile.gate_tile (projected m c t) (carry m c t) (iblk m c 4 t) y0 (X m c i) (T_at m c t y0 i hi) (iblk m c 9 t) _ (g2_at m c t) y1

theorem final23 : (dats m 0 c).arrAt 23 (cfgs 0).N = result23 m c := by
  refine (dats m 0 c).arrAt_eq_of_covers 23 _ (by decide +kernel) fun t _ y => ?_
  blk_simp
  rw [after0_23, step23]
  exact point23 m c t y

/-- Result 8 at a token and a column. -/
def entry24 (i : Fin 32768) (e : Fin 768) : EReal := ProjMath.attn (fun l => P m c i ⟨3360 + l.val, by omega⟩) ((show FVec Ideal S1x64 .f32 from m ((c : Thread nD τ).loc main_arg13)) (ix2 0 ⟨e.val % 64, by omega⟩) * Ideal.ofBits .f32 0x3E000000#32) e

/-- Result 8 as one array. -/
def result24 : FVec Ideal S32768x768 .bf16 := fun y => entry24 m c (y 0) (y 1)

theorem point24 (t : Fin cfg0.N) (y : S256x768.Idx) : (show FVec Ideal S256x768 .bf16 from (k0_pay1 (k0_pay31 (normed m c t) (k0_pay6 (iblk m c 15 t)) (middle m c t) (iblk m c 13 t)))) y = result24 m c (((cfg0.win 24).blk t).view.emb y) := by
  idx_vars y
  have ht : t.val < 128 := lt_of_lt_of_eq t.isLt N_0
  have hb : t.val * 256 + y0.val < 32768 := by omega
  have hemb : ((cfg0.win 24).blk t).view.emb (ix2 y0 y1) = (ix2 ⟨t.val * 256 + y0.val, hb⟩ y1 : S32768x768.Idx) := by
    blk_ext [idxO t]
  rw [hemb]
  show _ = entry24 m c ⟨t.val * 256 + y0.val, hb⟩ y1
  generalize hi' : (⟨t.val * 256 + y0.val, hb⟩ : Fin 32768) = i
  have hi : i.val = t.val * 256 + y0.val := by rw [← hi']
  refine (Pay.q_at (normed m c t) (middle m c t) (iblk m c 15 t) (ones_at m c t) (iblk m c 13 t) y0 y1).trans ?_
  simp only [attn_at m c t y0 i hi]
  exact congrArg (fun z => ProjMath.attn _ z y1) (qg_at m c t y1)

theorem final24 : (dats m 0 c).arrAt 24 (cfgs 0).N = result24 m c := by
  refine (dats m 0 c).arrAt_eq_of_covers 24 _ (by decide +kernel) fun t _ y => ?_
  blk_simp
  rw [after0_24, step24]
  exact point24 m c t y

/-- Result 9 at a token and a column. -/
def entry25 (i : Fin 32768) (e : Fin 768) : EReal := ProjMath.attn (fun l => P m c i ⟨4128 + l.val, by omega⟩) ((show FVec Ideal S1x64 .f32 from m ((c : Thread nD τ).loc main_arg14)) (ix2 0 ⟨e.val % 64, by omega⟩)) e

/-- Result 9 as one array. -/
def result25 : FVec Ideal S32768x768 .bf16 := fun y => entry25 m c (y 0) (y 1)

theorem point25 (t : Fin cfg0.N) (y : S256x768.Idx) : (show FVec Ideal S256x768 .bf16 from (k0_pay2 (k0_pay6 (iblk m c 15 t)) (k0_pay30 (normed m c t) (middle m c t)) (k0_pay33 (normed m c t) (k0_pay6 (iblk m c 15 t)) (middle m c t)) (k0_pay34 (normed m c t) (k0_pay6 (iblk m c 15 t)) (middle m c t)) (k0_pay35 (normed m c t) (middle m c t)) (iblk m c 14 t))) y = result25 m c (((cfg0.win 25).blk t).view.emb y) := by
  idx_vars y
  have ht : t.val < 128 := lt_of_lt_of_eq t.isLt N_0
  have hb : t.val * 256 + y0.val < 32768 := by omega
  have hemb : ((cfg0.win 25).blk t).view.emb (ix2 y0 y1) = (ix2 ⟨t.val * 256 + y0.val, hb⟩ y1 : S32768x768.Idx) := by
    blk_ext [idxO t]
  rw [hemb]
  show _ = entry25 m c ⟨t.val * 256 + y0.val, hb⟩ y1
  generalize hi' : (⟨t.val * 256 + y0.val, hb⟩ : Fin 32768) = i
  have hi : i.val = t.val * 256 + y0.val := by rw [← hi']
  refine (Pay.k_at (normed m c t) (middle m c t) (iblk m c 15 t) (ones_at m c t) (iblk m c 14 t) y0 y1).trans ?_
  simp only [attn_at m c t y0 i hi]
  have hp : (fun l : Fin 768 => P m c i ⟨3360 + (768 + l.val), by omega⟩) = fun l : Fin 768 => P m c i ⟨4128 + l.val, by omega⟩ :=
    funext fun l => congrArg (P m c i) (Fin.ext (show 3360 + (768 + l.val) = 4128 + l.val by omega))
  exact congrFun (congr (congrArg ProjMath.attn hp) (kg_at m c t y1)) y1

theorem final25 : (dats m 0 c).arrAt 25 (cfgs 0).N = result25 m c := by
  refine (dats m 0 c).arrAt_eq_of_covers 25 _ (by decide +kernel) fun t _ y => ?_
  blk_simp
  rw [after0_25, step25]
  exact point25 m c t y

/-- Result 10 at a token and a column. -/
def entry26 (i : Fin 32768) (e : Fin 768) : EReal := P m c i ⟨4896 + e.val, by omega⟩

/-- Result 10 as one array. -/
def result26 : FVec Ideal S32768x768 .bf16 := fun y => entry26 m c (y 0) (y 1)

theorem point26 (t : Fin cfg0.N) (y : S256x768.Idx) : (show FVec Ideal S256x768 .bf16 from (k0_pay3 (k0_pay29 (normed m c t) (middle m c t)))) y = result26 m c (((cfg0.win 26).blk t).view.emb y) := by
  idx_vars y
  have ht : t.val < 128 := lt_of_lt_of_eq t.isLt N_0
  have hb : t.val * 256 + y0.val < 32768 := by omega
  have hemb : ((cfg0.win 26).blk t).view.emb (ix2 y0 y1) = (ix2 ⟨t.val * 256 + y0.val, hb⟩ y1 : S32768x768.Idx) := by
    blk_ext [idxO t]
  rw [hemb]
  show _ = entry26 m c ⟨t.val * 256 + y0.val, hb⟩ y1
  generalize hi' : (⟨t.val * 256 + y0.val, hb⟩ : Fin 32768) = i
  have hi : i.val = t.val * 256 + y0.val := by rw [← hi']
  refine (Pay.va_at (normed m c t) (middle m c t) y0 y1).trans ?_
  rw [attn_at m c t y0 i hi]
  exact congrArg (P m c i) (Fin.ext (by show 3360 + (1536 + y1.val) = 4896 + y1.val; omega))

theorem final26 : (dats m 0 c).arrAt 26 (cfgs 0).N = result26 m c := by
  refine (dats m 0 c).arrAt_eq_of_covers 26 _ (by decide +kernel) fun t _ y => ?_
  blk_simp
  rw [after0_26, step26]
  exact point26 m c t y

/-- Result 11 at a token and a column. -/
def entry27 (i : Fin 32768) (e : Fin 2048) : EReal := Ideal.logistic (P m c i ⟨5664 + e.val, by omega⟩ + (show FVec Ideal S1x2048 .f32 from m ((c : Thread nD τ).loc main_arg3)) (ix2 0 e))

/-- Result 11 as one array. -/
def result27 : FVec Ideal S32768x2048 .f32 := fun y => entry27 m c (y 0) (y 1)

theorem point27 (t : Fin cfg0.N) (y : S256x2048.Idx) : (show FVec Ideal S256x2048 .f32 from (k0_pay4 (normed m c t) (gate_part m c t) (iblk m c 3 t))) y = result27 m c (((cfg0.win 27).blk t).view.emb y) := by
  idx_vars y
  have ht : t.val < 128 := lt_of_lt_of_eq t.isLt N_0
  have hb : t.val * 256 + y0.val < 32768 := by omega
  have hemb : ((cfg0.win 27).blk t).view.emb (ix2 y0 y1) = (ix2 ⟨t.val * 256 + y0.val, hb⟩ y1 : S32768x2048.Idx) := by
    blk_ext [idxO t]
  rw [hemb]
  show _ = entry27 m c ⟨t.val * 256 + y0.val, hb⟩ y1
  generalize hi' : (⟨t.val * 256 + y0.val, hb⟩ : Fin 32768) = i
  have hi : i.val = t.val * 256 + y0.val := by rw [← hi']
  refine (Pay.gates_at (normed m c t) (gate_part m c t) (iblk m c 3 t) y0 y1).trans ?_
  refine congrArg Ideal.logistic (congrArg₂ (· + ·) ?_ (bg_at m c t y1))
  unfold P ProjMath.prod
  refine Finset.sum_congr rfl fun k _ => ?_
  rw [normed_at m c t y0 i hi, gate_part_at]

theorem final27 : (dats m 0 c).arrAt 27 (cfgs 0).N = result27 m c := by
  refine (dats m 0 c).arrAt_eq_of_covers 27 _ (by decide +kernel) fun t _ y => ?_
  blk_simp
  rw [after0_27, step27]
  exact point27 m c t y

end Cert.ProjIdeal.KernelValue

end
-- ==== Proof.ProjRefValue.lean ====
/- The projection reference's results, read at an entry: the closed forms of `Cert.ProjMath`. -/
module

public import proofs.«01_k».proof.Proof.Gen.ProjRefIdeal.Read
public import proofs.«01_k».proof.Proof.ProjMath
public import Idealize.ShloMosaic.Lib.Pointwise

@[expose] public section

set_option maxRecDepth 16384

noncomputable section

namespace Cert.ProjRefIdeal.RefValue

open Cert.ProjRefIdeal Cert.ProjRefIdeal.Gen Cert.ProjRefIdeal.Read Idealize.ShloMosaic Idealize.ShloMosaic.TcCoe Idealize.SL.Sem

variable (x0 : FVec Ideal S8x4096x1024 .f32) (x1 : FVec Ideal S1x1024 .f32) (x2 : FVec Ideal S1x1024x7712 .f32) (x3 : FVec Ideal S1x2048 .f32) (x4 : FVec Ideal S1x3360 .f32) (x5 : FVec Ideal S1x1024 .f32) (x6 : FVec Ideal S1x64x1024 .f32) (x7 : FVec Ideal S1x1024 .f32) (x8 : FVec Ideal S1x64x1024 .f32) (x9 : FVec Ideal S1x160x1024 .f32) (x10 : FVec Ideal S1x1024 .f32) (x11 : FVec Ideal S1x1024 .f32) (x12 : FVec Ideal S1x16x64 .f32) (x13 : FVec Ideal S1x64 .f32) (x14 : FVec Ideal S1x64 .f32)

/-- A token's product with a column. -/
def P (b : Fin 8) (s : Fin 4096) (c : Fin 7712) : EReal :=
  ProjMath.prod (fun j => x0 (ix3 b s j)) (fun j => x1 (ix2 0 j)) (fun k => x2 (ix3 0 k c))

/-- A token's shifted entry. -/
def S (b : Fin 8) (s : Fin 4096) (c : Fin 3360) : EReal :=
  ProjMath.shift (P x0 x1 x2 b s ⟨c.val, by omega⟩)
    (if s.val = 0 then 0 else P x0 x1 x2 b ⟨s.val - 1, by omega⟩ ⟨c.val, by omega⟩) (x4 (ix2 0 c))

theorem norm_at (b : Fin 8) (s : Fin 4096) (k : Fin 1024) :
    val_main_v13 (F := Ideal) x0 x1 (ix3 b s k) = FfnMath.normed (fun j => x0 (ix3 b s j)) (fun j => x1 (ix2 0 j)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, FfnMath.normed]
  try rw [zero_add]

theorem p_at (b : Fin 8) (s : Fin 4096) (c : Fin 7712) : val_main_v15 (F := Ideal) x0 x1 x2 (ix3 b s c) = P x0 x1 x2 b s c := by
  pointwise [val_main_v15, val_main_v14, P, ProjMath.prod]
  exact Finset.sum_congr rfl fun k _ => by rw [norm_at]

theorem prev_at (b : Fin 8) (s : Fin 4096) (c : Fin 3360) :
    val_main_v24 (F := Ideal) x0 x1 x2 (ix3 b s c) = if s.val = 0 then 0 else P x0 x1 x2 b ⟨s.val - 1, by omega⟩ ⟨c.val, by omega⟩ := by
  pointwise [val_main_v24, val_main_v22, val_main_cst_2, val_main_v23, val_main_v16]
  by_cases hs : s.val = 0
  · rw [dif_pos (by omega), if_pos hs]
  · rw [dif_neg (by omega), if_neg hs, p_at]

theorem s_at (b : Fin 8) (s : Fin 4096) (c : Fin 3360) : val_main_v29 (F := Ideal) x0 x1 x2 x4 (ix3 b s c) = S x0 x1 x2 x4 b s c := by
  pointwise [val_main_v29, val_main_v28, val_main_v27, val_main_v26, val_main_v25, val_main_v21, val_main_v16, S, ProjMath.shift]
  rw [p_at, prev_at]

theorem r_at (b : Fin 8) (s : Fin 4096) (c : Fin 1024) : val_main_v30 (F := Ideal) x0 x1 x2 x4 (ix3 b s c) = ProjMath.r (S x0 x1 x2 x4 b s) c := by
  pointwise [val_main_v30]
  rw [s_at]
  rfl

theorem k0_at (b : Fin 8) (s : Fin 4096) (c : Fin 1024) : val_main_v31 (F := Ideal) x0 x1 x2 x4 (ix3 b s c) = ProjMath.k0 (S x0 x1 x2 x4 b s) c := by
  pointwise [val_main_v31]
  rw [s_at]
  rfl

theorem v_at (b : Fin 8) (s : Fin 4096) (c : Fin 1024) : val_main_v32 (F := Ideal) x0 x1 x2 x4 (ix3 b s c) = ProjMath.v (S x0 x1 x2 x4 b s) c := by
  pointwise [val_main_v32]
  rw [s_at]
  rfl

theorem wraw_at (b : Fin 8) (s : Fin 4096) (c : Fin 1024) :
    val_main_v42 (F := Ideal) x0 x1 x2 x4 x5 x6 (ix3 b s c) = ProjMath.wraw (S x0 x1 x2 x4 b s) (fun c => x5 (ix2 0 c)) (fun j c => x6 (ix3 0 j c)) c := by
  pointwise [val_main_v42, val_main_v41, val_main_v40, val_main_v39, val_main_v38, val_main_v37, val_main_v36, val_main_v33, ProjMath.wraw]
  refine congrArg₂ (· + ·) rfl (Finset.sum_congr rfl fun j _ => ?_)
  rw [s_at]

theorem decay_at (b : Fin 8) (s : Fin 4096) (c : Fin 1024) :
    val_main_v49 (F := Ideal) x0 x1 x2 x4 x5 x6 (ix3 b s c) = ProjMath.decay (ProjMath.wraw (S x0 x1 x2 x4 b s) (fun c => x5 (ix2 0 c)) (fun j c => x6 (ix3 0 j c)) c) := by
  pointwise [val_main_v49, val_main_v48, val_main_v47, val_main_v46, val_main_cst_3, val_main_v45, val_main_v44, val_main_v43, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst, ProjMath.decay, ProjMath.softplus]
  rw [wraw_at]
  generalize ProjMath.wraw _ _ _ _ = z
  rw [if_neg (by simp)]
  rfl

theorem rate_at (b : Fin 8) (s : Fin 4096) (c : Fin 1024) :
    val_main_v61 (F := Ideal) x0 x1 x2 x4 x7 x8 (ix3 b s c) = ProjMath.rate (S x0 x1 x2 x4 b s) (fun c => x7 (ix2 0 c)) (fun j c => x8 (ix3 0 j c)) c := by
  pointwise [val_main_v61, val_main_v60, val_main_cst_5, val_main_v59, val_main_v58, val_main_cst_4, val_main_v57, val_main_v56, val_main_v55, val_main_v54, val_main_v53, val_main_v52, val_main_v51, val_main_v50, val_main_v34, ProjMath.rate, Ideal.logistic]
  simp only [s_at]

theorem gate_at (b : Fin 8) (s : Fin 4096) (c : Fin 1024) :
    val_main_v69 (F := Ideal) x0 x1 x2 x4 x9 (ix3 b s c) = ProjMath.gate (S x0 x1 x2 x4 b s) (fun j c => x9 (ix3 0 j c)) c := by
  pointwise [val_main_v69, val_main_v68, val_main_v67, val_main_v66, val_main_cst_7, val_main_v65, val_main_v64, val_main_cst_6, val_main_v63, val_main_v62, val_main_v35, ProjMath.gate, Ideal.logistic]
  simp only [s_at]

theorem kkRaw_at (b : Fin 8) (s : Fin 4096) (h : Fin 16) (l : Fin 64) :
    val_main_v74 (F := Ideal) x0 x1 x2 x4 x10 (ix4 b s h l) = ProjMath.kkRaw (S x0 x1 x2 x4 b s) (fun c => x10 (ix2 0 c)) ⟨h.val * 64 + l.val, by omega⟩ := by
  pointwise [val_main_v74, val_main_v73, val_main_v72, val_main_v71, val_main_v70, ProjMath.kkRaw]
  rw [k0_at]

theorem kkn_at (b : Fin 8) (s : Fin 4096) (h : Fin 16) (l : Fin 64) :
    val_main_v82 (F := Ideal) x0 x1 x2 x4 x10 (ix4 b s h l) = ProjMath.kkn (S x0 x1 x2 x4 b s) (fun c => x10 (ix2 0 c)) ⟨h.val * 64 + l.val, by omega⟩ := by
  pointwise [val_main_v82, val_main_v81, val_main_v80, val_main_v79, val_main_cst_9, val_main_v78, val_main_v77, val_main_v76, val_main_cst_8, val_main_v75, ProjMath.kkn]
  simp only [kkRaw_at, zero_add]
  rw [ProjMath.head_at _ _ _ _ l.isLt, ← ProjMath.div_floor _ _ (Finset.sum_nonneg fun _ _ => ProjMath.mul_self_nonneg' _)]

theorem key_at (b : Fin 8) (s : Fin 4096) (c : Fin 1024) :
    val_main_v91 (F := Ideal) x0 x1 x2 x4 x7 x8 x11 (ix3 b s c) = ProjMath.key (S x0 x1 x2 x4 b s) (fun c => x7 (ix2 0 c)) (fun j c => x8 (ix3 0 j c)) (fun c => x11 (ix2 0 c)) c := by
  pointwise [val_main_v91, val_main_v90, val_main_v89, val_main_cst_11, val_main_v88, val_main_v87, val_main_v86, val_main_v85, val_main_v84, val_main_v83, val_main_cst_10, ProjMath.key]
  rw [k0_at, rate_at]

theorem bb_at (b : Fin 8) (s : Fin 4096) (h : Fin 16) (l : Fin 64) :
    val_main_v96 (F := Ideal) x0 x1 x2 x4 x7 x8 x10 (ix4 b s h l) = ProjMath.bb (S x0 x1 x2 x4 b s) (fun c => x7 (ix2 0 c)) (fun j c => x8 (ix3 0 j c)) (fun c => x10 (ix2 0 c)) ⟨h.val * 64 + l.val, by omega⟩ := by
  pointwise [val_main_v96, val_main_v95, ProjMath.bb]
  rw [kkn_at, rate_at]

theorem bonus_at (b : Fin 8) (s : Fin 4096) (h : Fin 16) (l : Fin 64) :
    val_main_v105 (F := Ideal) x0 x1 x2 x4 x7 x8 x11 x12 (ix4 b s h l) = ProjMath.bonus (S x0 x1 x2 x4 b s) (fun c => x7 (ix2 0 c)) (fun j c => x8 (ix3 0 j c)) (fun c => x11 (ix2 0 c))
      (fun c => x12 (ix3 0 ⟨c.val / 64, by omega⟩ ⟨c.val % 64, by omega⟩)) ⟨h.val * 64 + l.val, by omega⟩ := by
  pointwise [val_main_v105, val_main_v104, val_main_v103, val_main_v102, val_main_cst_12, val_main_v101, val_main_v100, val_main_v99, val_main_v98, val_main_v97, val_main_v94, val_main_v93, val_main_v92, ProjMath.bonus]
  rw [ProjMath.head_at _ _ _ _ l.isLt]
  simp only [r_at, key_at, v_at, zero_add]
  refine congrArg₂ (· * ·) (Finset.sum_congr rfl fun x _ => congrArg₂ (· * ·) rfl ?_) rfl
  refine congrArg x12 (congrArg₂ (ix3 0) (Fin.ext ?_) (Fin.ext ?_))
  · show h.val = (h.val * 64 + x.val) / 64
    omega
  · show x.val = (h.val * 64 + x.val) % 64
    omega

theorem q_at (b : Fin 8) (s : Fin 4096) (h : Fin 12) (l : Fin 64) :
    val_main_v122 (F := Ideal) x0 x1 x2 x13 (ix4 b s h l) = ProjMath.attn (fun c => P x0 x1 x2 b s ⟨3360 + c.val, by omega⟩) (x13 (ix2 0 l) * Ideal.ofBits .f32 0x3E000000#32)
      ⟨h.val * 64 + l.val, by omega⟩ := by
  pointwise [val_main_v122, val_main_v121, val_main_cst_16, val_main_v120, val_main_v119, val_main_v118, val_main_v117, val_main_v116, val_main_v115, val_main_v114, val_main_v113, val_main_cst_15, val_main_v112, val_main_v111, val_main_cst_14, val_main_v110, val_main_v109, val_main_cst_13, val_main_v108, val_main_v107, val_main_v106, val_main_v17, ProjMath.attn]
  rw [ProjMath.head_at _ _ _ _ l.isLt]
  simp only [p_at, zero_add, ProjMath.div_64, mul_assoc]

theorem ka_at (b : Fin 8) (s : Fin 4096) (h : Fin 12) (l : Fin 64) :
    val_main_v137 (F := Ideal) x0 x1 x2 x14 (ix4 b s h l) = ProjMath.attn (fun c => P x0 x1 x2 b s ⟨4128 + c.val, by omega⟩) (x14 (ix2 0 l))
      ⟨h.val * 64 + l.val, by omega⟩ := by
  pointwise [val_main_v137, val_main_v136, val_main_v135, val_main_v134, val_main_v133, val_main_v132, val_main_v131, val_main_v130, val_main_cst_19, val_main_v129, val_main_v128, val_main_cst_18, val_main_v127, val_main_v126, val_main_cst_17, val_main_v125, val_main_v124, val_main_v123, val_main_v18, ProjMath.attn]
  rw [ProjMath.head_at _ _ _ _ l.isLt]
  simp only [p_at, zero_add, ProjMath.div_64]

theorem va_at (b : Fin 8) (s : Fin 4096) (h : Fin 12) (l : Fin 64) :
    val_main_v138 (F := Ideal) x0 x1 x2 (ix4 b s h l) = P x0 x1 x2 b s ⟨4896 + (h.val * 64 + l.val), by omega⟩ := by
  pointwise [val_main_v138, val_main_v19]
  rw [p_at]

theorem gates_at (b : Fin 8) (s : Fin 4096) (c : Fin 2048) :
    val_main_v148 (F := Ideal) x0 x1 x2 x3 (ix3 b s c) = Ideal.logistic (P x0 x1 x2 b s ⟨5664 + c.val, by omega⟩ + x3 (ix2 0 c)) := by
  pointwise [val_main_v148, val_main_v147, val_main_cst_21, val_main_v146, val_main_v145, val_main_cst_20, val_main_v144, val_main_v143, val_main_v142, val_main_v141, val_main_v140, val_main_v139, val_main_v20, Ideal.logistic]
  rw [p_at]

/-- The reference's result `r` at an entry. -/
theorem out_r (t : Fin 32768) (c : Fin 1024) :
    val_main_v149 (F := Ideal) x0 x1 x2 x4 (ix2 t c) =
      ProjMath.r (S x0 x1 x2 x4 ⟨t.val / 4096, by omega⟩ ⟨t.val % 4096, by omega⟩) c := by
  pointwise [val_main_v149]
  rw [r_at]

/-- The reference's result `lw` at an entry. -/
theorem out_lw (t : Fin 32768) (c : Fin 1024) :
    val_main_v150 (F := Ideal) x0 x1 x2 x4 x5 x6 (ix2 t c) =
      ProjMath.decay (ProjMath.wraw (S x0 x1 x2 x4 ⟨t.val / 4096, by omega⟩ ⟨t.val % 4096, by omega⟩) (fun c => x5 (ix2 0 c)) (fun j c => x6 (ix3 0 j c)) c) := by
  pointwise [val_main_v150]
  rw [decay_at]

/-- The reference's result `k` at an entry. -/
theorem out_k (t : Fin 32768) (c : Fin 1024) :
    val_main_v151 (F := Ideal) x0 x1 x2 x4 x7 x8 x11 (ix2 t c) =
      ProjMath.key (S x0 x1 x2 x4 ⟨t.val / 4096, by omega⟩ ⟨t.val % 4096, by omega⟩) (fun c => x7 (ix2 0 c)) (fun j c => x8 (ix3 0 j c)) (fun c => x11 (ix2 0 c)) c := by
  pointwise [val_main_v151]
  rw [key_at]

/-- The reference's result `v` at an entry. -/
theorem out_v (t : Fin 32768) (c : Fin 1024) :
    val_main_v152 (F := Ideal) x0 x1 x2 x4 (ix2 t c) =
      ProjMath.v (S x0 x1 x2 x4 ⟨t.val / 4096, by omega⟩ ⟨t.val % 4096, by omega⟩) c := by
  pointwise [val_main_v152]
  rw [v_at]

/-- The reference's result `kkn` at an entry. -/
theorem out_kkn (t : Fin 32768) (c : Fin 1024) :
    val_main_v153 (F := Ideal) x0 x1 x2 x4 x10 (ix2 t c) =
      ProjMath.kkn (S x0 x1 x2 x4 ⟨t.val / 4096, by omega⟩ ⟨t.val % 4096, by omega⟩) (fun c => x10 (ix2 0 c)) c := by
  pointwise [val_main_v153]
  rw [kkn_at]
  rw [show (⟨c.val / 64 * 64 + c.val % 64, by omega⟩ : Fin 1024) = c from Fin.ext (by show c.val / 64 * 64 + c.val % 64 = c.val; omega)]

/-- The reference's result `b` at an entry. -/
theorem out_b (t : Fin 32768) (c : Fin 1024) :
    val_main_v154 (F := Ideal) x0 x1 x2 x4 x7 x8 x10 (ix2 t c) =
      ProjMath.bb (S x0 x1 x2 x4 ⟨t.val / 4096, by omega⟩ ⟨t.val % 4096, by omega⟩) (fun c => x7 (ix2 0 c)) (fun j c => x8 (ix3 0 j c)) (fun c => x10 (ix2 0 c)) c := by
  pointwise [val_main_v154]
  rw [bb_at]
  rw [show (⟨c.val / 64 * 64 + c.val % 64, by omega⟩ : Fin 1024) = c from Fin.ext (by show c.val / 64 * 64 + c.val % 64 = c.val; omega)]

/-- The reference's result `bonus` at an entry. -/
theorem out_bonus (t : Fin 32768) (c : Fin 1024) :
    val_main_v155 (F := Ideal) x0 x1 x2 x4 x7 x8 x11 x12 (ix2 t c) =
      ProjMath.bonus (S x0 x1 x2 x4 ⟨t.val / 4096, by omega⟩ ⟨t.val % 4096, by omega⟩) (fun c => x7 (ix2 0 c)) (fun j c => x8 (ix3 0 j c)) (fun c => x11 (ix2 0 c)) (fun c => x12 (ix3 0 ⟨c.val / 64, by omega⟩ ⟨c.val % 64, by omega⟩)) c := by
  pointwise [val_main_v155]
  rw [bonus_at]
  rw [show (⟨c.val / 64 * 64 + c.val % 64, by omega⟩ : Fin 1024) = c from Fin.ext (by show c.val / 64 * 64 + c.val % 64 = c.val; omega)]

/-- The reference's result `g` at an entry. -/
theorem out_g (t : Fin 32768) (c : Fin 1024) :
    val_main_v156 (F := Ideal) x0 x1 x2 x4 x9 (ix2 t c) =
      ProjMath.gate (S x0 x1 x2 x4 ⟨t.val / 4096, by omega⟩ ⟨t.val % 4096, by omega⟩) (fun j c => x9 (ix3 0 j c)) c := by
  pointwise [val_main_v156]
  rw [gate_at]

/-- The reference's result `aq` at an entry. -/
theorem out_aq (t : Fin 32768) (c : Fin 768) :
    val_main_v158 (F := Ideal) x0 x1 x2 x13 (ix2 t c) =
      ProjMath.attn (fun c => P x0 x1 x2 ⟨t.val / 4096, by omega⟩ ⟨t.val % 4096, by omega⟩ ⟨3360 + c.val, by omega⟩) (x13 (ix2 0 ⟨c.val % 64, by omega⟩) * Ideal.ofBits .f32 0x3E000000#32) c := by
  pointwise [val_main_v158, val_main_v157]
  rw [q_at]
  rw [show (⟨c.val / 64 * 64 + c.val % 64, by omega⟩ : Fin 768) = c from Fin.ext (by show c.val / 64 * 64 + c.val % 64 = c.val; omega)]

/-- The reference's result `ak` at an entry. -/
theorem out_ak (t : Fin 32768) (c : Fin 768) :
    val_main_v160 (F := Ideal) x0 x1 x2 x14 (ix2 t c) =
      ProjMath.attn (fun c => P x0 x1 x2 ⟨t.val / 4096, by omega⟩ ⟨t.val % 4096, by omega⟩ ⟨4128 + c.val, by omega⟩) (x14 (ix2 0 ⟨c.val % 64, by omega⟩)) c := by
  pointwise [val_main_v160, val_main_v159]
  rw [ka_at]
  rw [show (⟨c.val / 64 * 64 + c.val % 64, by omega⟩ : Fin 768) = c from Fin.ext (by show c.val / 64 * 64 + c.val % 64 = c.val; omega)]

/-- The reference's result `av` at an entry. -/
theorem out_av (t : Fin 32768) (c : Fin 768) :
    val_main_v162 (F := Ideal) x0 x1 x2 (ix2 t c) =
      P x0 x1 x2 ⟨t.val / 4096, by omega⟩ ⟨t.val % 4096, by omega⟩ ⟨4896 + c.val, by omega⟩ := by
  pointwise [val_main_v162, val_main_v161]
  rw [va_at]
  exact congrArg (P x0 x1 x2 _ _) (Fin.ext (by show 4896 + (c.val / 64 * 64 + c.val % 64) = 4896 + c.val; omega))

/-- The reference's result `gates` at an entry. -/
theorem out_gates (t : Fin 32768) (c : Fin 2048) :
    val_main_v163 (F := Ideal) x0 x1 x2 x3 (ix2 t c) =
      Ideal.logistic (P x0 x1 x2 ⟨t.val / 4096, by omega⟩ ⟨t.val % 4096, by omega⟩ ⟨5664 + c.val, by omega⟩ + x3 (ix2 0 c)) := by
  pointwise [val_main_v163]
  rw [gates_at]

end Cert.ProjRefIdeal.RefValue

end
-- ==== Proof.ProjClaim.lean ====
/- The projection call's value claim: from equal arguments the idealized kernel and the reference end with twelve equal
   arrays. -/
module

public import proofs.«01_k».proof.Defs
public import proofs.«01_k».proof.Proof.ProjValue
public import proofs.«01_k».proof.Proof.ProjRefValue
public import Idealize.ShloMosaic.Lib.Claim

@[expose] public section

set_option maxRecDepth 16384

noncomputable section

namespace Cert.ProjRefIdeal.RefValue

open Cert.ProjRefIdeal Cert.ProjRefIdeal.Gen Idealize.ShloMosaic Idealize.ShloMosaic.TcCoe Idealize.SL.Sem Idealize.ShloMosaic.StableHlo

/-- The reference's run, its twelve results as the named stages. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v149) = Read.val_main_v149 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v150) = Read.val_main_v150 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v151) = Read.val_main_v151 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) (m ((c.tc : Thread nD τ).loc main_arg11))
      ∧ r.2.mem ((c.tc : Thread nD τ).loc main_v152) = Read.val_main_v152 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v153) = Read.val_main_v153 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg10))
      ∧ r.2.mem ((c.tc : Thread nD τ).loc main_v154) = Read.val_main_v154 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) (m ((c.tc : Thread nD τ).loc main_arg10))
      ∧ r.2.mem ((c.tc : Thread nD τ).loc main_v155) = Read.val_main_v155 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_v156) = Read.val_main_v156 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9))
      ∧ r.2.mem ((c.tc : Thread nD τ).loc main_v158) = Read.val_main_v158 (F := Ideal) (m ((c.tc : Thread nD τ).loc main_arg0)) (m ((c.tc : Thread nD τ).loc main_arg1)) (m ((c.tc : Thread nD τ).loc main_arg2)) (m ((c.tc : Thread nD τ).loc main_arg13))
      ∧ r.2.mem ((c.tc : Thread nD τ).loc main_v160) = Read.val_main_v160 (F := Ideal) (m ((c.tc : Thread nD τ).loc main_arg0)) (m ((c.tc : Thread nD τ).loc main_arg1)) (m ((c.tc : Thread nD τ).loc main_arg2)) (m ((c.tc : Thread nD τ).loc main_arg14))
      ∧ r.2.mem ((c.tc : Thread nD τ).loc main_v162) = Read.val_main_v162 (F := Ideal) (m ((c.tc : Thread nD τ).loc main_arg0)) (m ((c.tc : Thread nD τ).loc main_arg1)) (m ((c.tc : Thread nD τ).loc main_arg2))
      ∧ r.2.mem ((c.tc : Thread nD τ).loc main_v163) = Read.val_main_v163 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ?_) (Value.run (F := Ideal) m ρ)
  obtain ⟨h0, h1, h2, h3, h4, h5, h6, h7, h8, h9, h10, h11, ha⟩ := h c
  exact ⟨h0.trans (Read.val_main_v149_eq (launchContents m c)),
    h1.trans (Read.val_main_v150_eq (launchContents m c)),
    h2.trans (Read.val_main_v151_eq (launchContents m c)),
    h3.trans (Read.val_main_v152_eq (launchContents m c)),
    h4.trans (Read.val_main_v153_eq (launchContents m c)),
    h5.trans (Read.val_main_v154_eq (launchContents m c)),
    h6.trans (Read.val_main_v155_eq (launchContents m c)),
    h7.trans (Read.val_main_v156_eq (launchContents m c)),
    h8.trans (Read.val_main_v158_eq (launchContents m c)),
    h9.trans (Read.val_main_v160_eq (launchContents m c)),
    h10.trans (Read.val_main_v162_eq (launchContents m c)),
    h11.trans (Read.val_main_v163_eq (launchContents m c)), ha⟩

end Cert.ProjRefIdeal.RefValue

namespace Cert.Proof

open Idealize.ShloMosaic Idealize.SL.Sem

/-- The reference is host operations alone: its run keeps the arguments, and it declares no semaphore. -/
theorem proj_ref_frame : Cert.quiescent_ProjRefIdeal (hProjRefIdeal := Cert.ProjRefIdeal.Gen.facts) := by
  intro m g _
  exact (θ_run Cert.ProjRefIdeal.defs _ _).mono
    (fun r h => ⟨fun c => (h c).2.2.2.2.2.2.2.2.2.2.2.2, sem_eq_zero_of_no_sems (by decide) r.2⟩)
    (Cert.ProjRefIdeal.Value.run (F := Ideal) m g)

/-- The constant the idealization names is the floor under the removal key's square sum. -/
theorem proj_preserves : Cert.preserves_Proj_ProjIdeal :=
  IdealRules.named_const.statement Cert.ProjIdeal.κ "tiny" .f32 0x179ABE15#32 ((5316911940649 / 5316911983139663491615228241121378304 : ℝ) : EReal) rfl

/-- The kernel's shifted entry of a token is the reference's, the token split into its sequence and its place. -/
theorem proj_shifted (m : (ℓ : Loc Cert.ProjIdeal.nD Cert.ProjIdeal.τ Cert.ProjIdeal.sig) → Buf (Elt Ideal) ℓ) (c : Dev Cert.ProjIdeal.nD) (i : Fin 32768) :
    Cert.ProjRefIdeal.RefValue.S (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) ⟨i.val / 4096, by omega⟩ ⟨i.val % 4096, by omega⟩ = Cert.ProjIdeal.KernelValue.X m c i := by
  funext e
  unfold Cert.ProjRefIdeal.RefValue.S Cert.ProjIdeal.KernelValue.X
  refine congrFun (congr rfl ?_) _
  by_cases h : i.val % 4096 = 0
  · rw [if_pos h, if_pos h]
  · rw [if_neg h, if_neg h]
    show Cert.ProjRefIdeal.RefValue.P (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) ⟨i.val / 4096, by omega⟩ ⟨i.val % 4096 - 1, by omega⟩ ⟨e.val, by omega⟩ =
      Cert.ProjRefIdeal.RefValue.P (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) ⟨(i.val - 1) / 4096, by omega⟩ ⟨(i.val - 1) % 4096, by omega⟩ ⟨e.val, by omega⟩
    exact congrArg₂ (fun b s => Cert.ProjRefIdeal.RefValue.P (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) b s ⟨e.val, by omega⟩)
      (Fin.ext (show i.val / 4096 = (i.val - 1) / 4096 by omega)) (Fin.ext (show i.val % 4096 - 1 = (i.val - 1) % 4096 by omega))

theorem proj_result0 (m : (ℓ : Loc Cert.ProjIdeal.nD Cert.ProjIdeal.τ Cert.ProjIdeal.sig) → Buf (Elt Ideal) ℓ) (c : Dev Cert.ProjIdeal.nD) :
    Cert.ProjRefIdeal.Read.val_main_v149 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) = (Cert.ProjIdeal.Body.dats m 0 c).arrAt 16 (Cert.ProjIdeal.cfgs 0).N := by
  refine Eq.trans ?_ (Cert.ProjIdeal.KernelValue.final16 m c).symm
  funext y
  idx_vars y
  refine (Cert.ProjRefIdeal.RefValue.out_r (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) y0 y1).trans ?_
  rw [proj_shifted]
  rfl

theorem proj_result1 (m : (ℓ : Loc Cert.ProjIdeal.nD Cert.ProjIdeal.τ Cert.ProjIdeal.sig) → Buf (Elt Ideal) ℓ) (c : Dev Cert.ProjIdeal.nD) :
    Cert.ProjRefIdeal.Read.val_main_v150 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) = (Cert.ProjIdeal.Body.dats m 0 c).arrAt 17 (Cert.ProjIdeal.cfgs 0).N := by
  refine Eq.trans ?_ (Cert.ProjIdeal.KernelValue.final17 m c).symm
  funext y
  idx_vars y
  refine (Cert.ProjRefIdeal.RefValue.out_lw (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) y0 y1).trans ?_
  rw [proj_shifted]
  rfl

theorem proj_result2 (m : (ℓ : Loc Cert.ProjIdeal.nD Cert.ProjIdeal.τ Cert.ProjIdeal.sig) → Buf (Elt Ideal) ℓ) (c : Dev Cert.ProjIdeal.nD) :
    Cert.ProjRefIdeal.Read.val_main_v151 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg11)) = (Cert.ProjIdeal.Body.dats m 0 c).arrAt 18 (Cert.ProjIdeal.cfgs 0).N := by
  refine Eq.trans ?_ (Cert.ProjIdeal.KernelValue.final18 m c).symm
  funext y
  idx_vars y
  refine (Cert.ProjRefIdeal.RefValue.out_k (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg11)) y0 y1).trans ?_
  rw [proj_shifted]
  rfl

theorem proj_result3 (m : (ℓ : Loc Cert.ProjIdeal.nD Cert.ProjIdeal.τ Cert.ProjIdeal.sig) → Buf (Elt Ideal) ℓ) (c : Dev Cert.ProjIdeal.nD) :
    Cert.ProjRefIdeal.Read.val_main_v152 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) = (Cert.ProjIdeal.Body.dats m 0 c).arrAt 19 (Cert.ProjIdeal.cfgs 0).N := by
  refine Eq.trans ?_ (Cert.ProjIdeal.KernelValue.final19 m c).symm
  funext y
  idx_vars y
  refine (Cert.ProjRefIdeal.RefValue.out_v (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) y0 y1).trans ?_
  rw [proj_shifted]
  rfl

theorem proj_result4 (m : (ℓ : Loc Cert.ProjIdeal.nD Cert.ProjIdeal.τ Cert.ProjIdeal.sig) → Buf (Elt Ideal) ℓ) (c : Dev Cert.ProjIdeal.nD) :
    Cert.ProjRefIdeal.Read.val_main_v153 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg10)) = (Cert.ProjIdeal.Body.dats m 0 c).arrAt 20 (Cert.ProjIdeal.cfgs 0).N := by
  refine Eq.trans ?_ (Cert.ProjIdeal.KernelValue.final20 m c).symm
  funext y
  idx_vars y
  refine (Cert.ProjRefIdeal.RefValue.out_kkn (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg10)) y0 y1).trans ?_
  rw [proj_shifted]
  rfl

theorem proj_result5 (m : (ℓ : Loc Cert.ProjIdeal.nD Cert.ProjIdeal.τ Cert.ProjIdeal.sig) → Buf (Elt Ideal) ℓ) (c : Dev Cert.ProjIdeal.nD) :
    Cert.ProjRefIdeal.Read.val_main_v154 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg10)) = (Cert.ProjIdeal.Body.dats m 0 c).arrAt 21 (Cert.ProjIdeal.cfgs 0).N := by
  refine Eq.trans ?_ (Cert.ProjIdeal.KernelValue.final21 m c).symm
  funext y
  idx_vars y
  refine (Cert.ProjRefIdeal.RefValue.out_b (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg10)) y0 y1).trans ?_
  rw [proj_shifted]
  rfl

theorem proj_result6 (m : (ℓ : Loc Cert.ProjIdeal.nD Cert.ProjIdeal.τ Cert.ProjIdeal.sig) → Buf (Elt Ideal) ℓ) (c : Dev Cert.ProjIdeal.nD) :
    Cert.ProjRefIdeal.Read.val_main_v155 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg11)) (m ((c.tc : Thread Cert.ProjIdeal.nD Cert.ProjIdeal.τ).loc Cert.ProjIdeal.main_arg12)) = (Cert.ProjIdeal.Body.dats m 0 c).arrAt 22 (Cert.ProjIdeal.cfgs 0).N := by
  refine Eq.trans ?_ (Cert.ProjIdeal.KernelValue.final22 m c).symm
  funext y
  idx_vars y
  refine (Cert.ProjRefIdeal.RefValue.out_bonus (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg11)) (m ((c.tc : Thread Cert.ProjIdeal.nD Cert.ProjIdeal.τ).loc Cert.ProjIdeal.main_arg12)) y0 y1).trans ?_
  rw [proj_shifted]
  rfl

theorem proj_result7 (m : (ℓ : Loc Cert.ProjIdeal.nD Cert.ProjIdeal.τ Cert.ProjIdeal.sig) → Buf (Elt Ideal) ℓ) (c : Dev Cert.ProjIdeal.nD) :
    Cert.ProjRefIdeal.Read.val_main_v156 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg9)) = (Cert.ProjIdeal.Body.dats m 0 c).arrAt 23 (Cert.ProjIdeal.cfgs 0).N := by
  refine Eq.trans ?_ (Cert.ProjIdeal.KernelValue.final23 m c).symm
  funext y
  idx_vars y
  refine (Cert.ProjRefIdeal.RefValue.out_g (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg4)) (m ((c.tc : Thread Cert.ProjIdeal.nD Cert.ProjIdeal.τ).loc Cert.ProjIdeal.main_arg9)) y0 y1).trans ?_
  rw [proj_shifted]
  rfl

theorem proj_result8 (m : (ℓ : Loc Cert.ProjIdeal.nD Cert.ProjIdeal.τ Cert.ProjIdeal.sig) → Buf (Elt Ideal) ℓ) (c : Dev Cert.ProjIdeal.nD) :
    Cert.ProjRefIdeal.Read.val_main_v158 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg13)) = (Cert.ProjIdeal.Body.dats m 0 c).arrAt 24 (Cert.ProjIdeal.cfgs 0).N := by
  refine Eq.trans ?_ (Cert.ProjIdeal.KernelValue.final24 m c).symm
  funext y
  idx_vars y
  refine (Cert.ProjRefIdeal.RefValue.out_aq (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg13)) y0 y1).trans ?_
  rfl

theorem proj_result9 (m : (ℓ : Loc Cert.ProjIdeal.nD Cert.ProjIdeal.τ Cert.ProjIdeal.sig) → Buf (Elt Ideal) ℓ) (c : Dev Cert.ProjIdeal.nD) :
    Cert.ProjRefIdeal.Read.val_main_v160 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg14)) = (Cert.ProjIdeal.Body.dats m 0 c).arrAt 25 (Cert.ProjIdeal.cfgs 0).N := by
  refine Eq.trans ?_ (Cert.ProjIdeal.KernelValue.final25 m c).symm
  funext y
  idx_vars y
  refine (Cert.ProjRefIdeal.RefValue.out_ak (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg14)) y0 y1).trans ?_
  rfl

theorem proj_result10 (m : (ℓ : Loc Cert.ProjIdeal.nD Cert.ProjIdeal.τ Cert.ProjIdeal.sig) → Buf (Elt Ideal) ℓ) (c : Dev Cert.ProjIdeal.nD) :
    Cert.ProjRefIdeal.Read.val_main_v162 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) = (Cert.ProjIdeal.Body.dats m 0 c).arrAt 26 (Cert.ProjIdeal.cfgs 0).N := by
  refine Eq.trans ?_ (Cert.ProjIdeal.KernelValue.final26 m c).symm
  funext y
  idx_vars y
  refine (Cert.ProjRefIdeal.RefValue.out_av (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) y0 y1).trans ?_
  rfl

theorem proj_result11 (m : (ℓ : Loc Cert.ProjIdeal.nD Cert.ProjIdeal.τ Cert.ProjIdeal.sig) → Buf (Elt Ideal) ℓ) (c : Dev Cert.ProjIdeal.nD) :
    Cert.ProjRefIdeal.Read.val_main_v163 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = (Cert.ProjIdeal.Body.dats m 0 c).arrAt 27 (Cert.ProjIdeal.cfgs 0).N := by
  refine Eq.trans ?_ (Cert.ProjIdeal.KernelValue.final27 m c).symm
  funext y
  idx_vars y
  refine (Cert.ProjRefIdeal.RefValue.out_gates (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) y0 y1).trans ?_
  rfl

set_option maxHeartbeats 4000000 in
/-- Both runs end at the same twelve arrays from arguments that agree. -/
theorem proj_algebraic : Cert.algebraic_ProjIdeal_ProjRefIdeal := by
  pair_intro
  · run_from Cert.ProjIdeal.Body.run_blocks m g
  · refine (θ_run Cert.ProjRefIdeal.defs _ _).mono (fun r h c => ?_) (Cert.ProjRefIdeal.RefValue.run_stages m' g')
    obtain ⟨h0, h1, h2, h3, h4, h5, h6, h7, h8, h9, h10, h11, ha⟩ := h c
    obtain ⟨e0, e1, e2, e3, e4, e5, e6, e7, e8, e9, e10, e11, e12, e13, e14⟩ := hagree c
    rw [e0, e1, e2, e4] at h0
    rw [e0, e1, e2, e4, e5, e6] at h1
    rw [e0, e1, e2, e4, e7, e8, e11] at h2
    rw [e0, e1, e2, e4] at h3
    rw [e0, e1, e2, e4, e10] at h4
    rw [e0, e1, e2, e4, e7, e8, e10] at h5
    rw [e0, e1, e2, e4, e7, e8, e11, e12] at h6
    rw [e0, e1, e2, e4, e9] at h7
    rw [e0, e1, e2, e13] at h8
    rw [e0, e1, e2, e14] at h9
    rw [e0, e1, e2] at h10
    rw [e0, e1, e2, e3] at h11
    exact ⟨h0.trans (proj_result0 m c),
      h1.trans (proj_result1 m c),
      h2.trans (proj_result2 m c),
      h3.trans (proj_result3 m c),
      h4.trans (proj_result4 m c),
      h5.trans (proj_result5 m c),
      h6.trans (proj_result6 m c),
      h7.trans (proj_result7 m c),
      h8.trans (proj_result8 m c),
      h9.trans (proj_result9 m c),
      h10.trans (proj_result10 m c),
      h11.trans (proj_result11 m c), ha⟩

end Cert.Proof

end
-- ==== Proof.AttnMath.lean ====
/- One query of the dilated attention over its 256 candidate keys: the masked soft maximum, its log of the sum of
   exponentials, and the law that lets the division by that sum come after the weighted sum of the values. -/
module

public import Idealize.ShloMosaic.PureOps.Ideal

@[expose] public section

noncomputable section

namespace Cert.AttnMath

open Idealize.ShloMosaic

section Row
variable (ok : Fin 256 → Prop) [DecidablePred ok] (s : Fin 256 → EReal)

/-- The scores, minus infinity where a key is out of reach. -/
def masked (j : Fin 256) : EReal := if ok j then s j else ⊥

/-- The largest of them. -/
def top : EReal := Finset.univ.fold max ⊥ (masked ok s)

/-- The weight of a key before normalising. -/
def weight (j : Fin 256) : EReal := Ideal.exp (masked ok s j - top ok s)

/-- The sum of the weights. -/
def den : EReal := ∑ j, weight ok s j

/-- The attention result of one value column. -/
def out (v : Fin 256 → EReal) : EReal := ∑ j, Ideal.div (weight ok s j) (den ok s) * v j

/-- The log of the sum of exponentials. -/
def lse : EReal := top ok s + Ideal.log (den ok s)

variable {ok s}

theorem top_real (hs : ∀ j, ok j → s j ≠ ⊤ ∧ s j ≠ ⊥) (hok : ∃ j, ok j) : ∃ r : ℝ, top ok s = r := by
  have hlt : top ok s < ⊤ := (Finset.fold_max_lt _).2 ⟨bot_lt_top, fun j _ => by
    unfold masked; split_ifs with h
    · exact lt_of_le_of_ne le_top (hs j h).1
    · exact bot_lt_top⟩
  obtain ⟨j, hj⟩ := hok
  have hle : s j ≤ top ok s := (Finset.le_fold_max _).2 (Or.inr ⟨j, Finset.mem_univ j, by simp [masked, hj]⟩)
  have hb : top ok s ≠ ⊥ := fun h => (hs j hj).2 (le_bot_iff.1 (h ▸ hle))
  exact ⟨(top ok s).toReal, (EReal.coe_toReal hlt.ne hb).symm⟩

theorem weight_real (hs : ∀ j, ok j → s j ≠ ⊤ ∧ s j ≠ ⊥) (hok : ∃ j, ok j) (j : Fin 256) :
    ∃ w : ℝ, weight ok s j = w ∧ 0 ≤ w ∧ (ok j → 0 < w) ∧ (¬ ok j → w = 0) := by
  obtain ⟨r, hr⟩ := top_real hs hok
  by_cases h : ok j
  · lift s j to ℝ using ⟨(hs j h).1, (hs j h).2⟩ with x hx
    refine ⟨Real.exp (x - r), ?_, (Real.exp_pos _).le, fun _ => Real.exp_pos _, fun h' => absurd h h'⟩
    rw [weight, hr, masked, if_pos h, ← hx, ← EReal.coe_sub, Ideal.exp_coe]
  · refine ⟨0, ?_, le_rfl, fun h' => absurd h' h, fun _ => rfl⟩
    rw [weight, hr, masked, if_neg h, EReal.bot_sub, Ideal.exp_bot]; rfl

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sum_mul {ι : Type} (t : Finset ι) (f : ι → EReal) (c : ℝ) (hc : 0 ≤ c) : (∑ i ∈ t, f i) * (c : EReal) = ∑ i ∈ t, f i * c := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

theorem den_real (hs : ∀ j, ok j → s j ≠ ⊤ ∧ s j ≠ ⊥) (hok : ∃ j, ok j) : ∃ d : ℝ, den ok s = d ∧ 0 < d := by
  choose w hw h0 hp _ using weight_real hs hok
  obtain ⟨j, hj⟩ := hok
  refine ⟨∑ j, w j, ?_, Finset.sum_pos' (fun i _ => h0 i) ⟨j, Finset.mem_univ j, hp j hj⟩⟩
  rw [den, coe_sum]
  exact Finset.sum_congr rfl fun i _ => hw i

/-- Dividing the weighted sum of the values is the weighted sum with divided weights; a key out of reach has weight
    zero, so the values there may differ. -/
theorem out_late (hs : ∀ j, ok j → s j ≠ ⊤ ∧ s j ≠ ⊥) (hok : ∃ j, ok j) (v v' : Fin 256 → EReal) (hv : ∀ j, ok j → v j = v' j) :
    Ideal.div (∑ j, weight ok s j * v j) (den ok s) = out ok s v' := by
  obtain ⟨d, hd, hpos⟩ := den_real hs hok
  rw [out, hd, Ideal.div_coe hpos.ne', sum_mul _ _ _ (by positivity)]
  refine Finset.sum_congr rfl fun j _ => ?_
  rw [Ideal.div_coe hpos.ne']
  by_cases h : ok j
  · rw [hv j h, mul_assoc, mul_assoc, mul_comm (v' j)]
  · obtain ⟨w, hw, _, _, hz⟩ := weight_real hs hok j
    rw [hw, hz h]; simp

theorem masked_congr {s s' : Fin 256 → EReal} (h : ∀ j, ok j → s j = s' j) : masked ok s = masked ok s' :=
  funext fun j => by unfold masked; split_ifs with hj; · exact h j hj
                     rfl

theorem weight_congr {s s' : Fin 256 → EReal} (h : ∀ j, ok j → s j = s' j) : weight ok s = weight ok s' := by
  funext j; unfold weight top; rw [masked_congr h]

theorem den_congr {s s' : Fin 256 → EReal} (h : ∀ j, ok j → s j = s' j) : den ok s = den ok s' := by
  unfold den; rw [weight_congr h]

theorem lse_congr {s s' : Fin 256 → EReal} (h : ∀ j, ok j → s j = s' j) : lse ok s = lse ok s' := by
  unfold lse top; rw [den_congr h, masked_congr h]

theorem out_congr {s s' : Fin 256 → EReal} (h : ∀ j, ok j → s j = s' j) (v : Fin 256 → EReal) : out ok s v = out ok s' v := by
  unfold out; rw [den_congr h, weight_congr h]

/-- The values of keys out of reach do not matter. -/
theorem out_value (hs : ∀ j, ok j → s j ≠ ⊤ ∧ s j ≠ ⊥) (hok : ∃ j, ok j) (v v' : Fin 256 → EReal) (hv : ∀ j, ok j → v j = v' j) :
    out ok s v = out ok s v' := by
  rw [← out_late hs hok v v (fun _ _ => rfl), out_late hs hok v v' hv]

/-- A query with the lanes of the other heads set to zero: its product with a key is the head's own. -/
theorem head_sum (h : Fin 4) (f g : Fin 256 → EReal) :
    ∑ l : Fin 256, (if l.val / 64 = h.val then f l else 0) * g l
      = ∑ e : Fin 64, f ⟨h.val * 64 + e.val, by omega⟩ * g ⟨h.val * 64 + e.val, by omega⟩ := by
  simp only [ite_mul, zero_mul]
  rw [← Finset.sum_filter]
  refine Finset.sum_nbij' (fun l => ⟨l.val % 64, Nat.mod_lt _ (by decide)⟩) (fun e => ⟨h.val * 64 + e.val, by omega⟩) ?_ ?_ ?_ ?_ ?_
  · intro l _; exact Finset.mem_univ _
  · intro e _; simp only [Finset.mem_filter, Finset.mem_univ, true_and]; omega
  · intro l hl; simp only [Finset.mem_filter, Finset.mem_univ, true_and] at hl; apply Fin.ext; show h.val * 64 + l.val % 64 = l.val; omega
  · intro e _; apply Fin.ext; show (h.val * 64 + e.val) % 64 = e.val; omega
  · intro l hl; simp only [Finset.mem_filter, Finset.mem_univ, true_and] at hl
    have : (⟨h.val * 64 + l.val % 64, by omega⟩ : Fin 256) = l := Fin.ext (by show h.val * 64 + l.val % 64 = l.val; omega)
    rw [this]

theorem real_sum {ι : Type} (t : Finset ι) (f : ι → EReal) (h : ∀ i ∈ t, ∃ r : ℝ, f i = r) : ∃ r : ℝ, ∑ i ∈ t, f i = r := by
  classical
  induction t using Finset.induction_on with
  | empty => exact ⟨0, by simp⟩
  | insert a t ha ih =>
    obtain ⟨x, hx⟩ := h a (Finset.mem_insert_self a t)
    obtain ⟨y, hy⟩ := ih fun i hi => h i (Finset.mem_insert_of_mem hi)
    exact ⟨x + y, by rw [Finset.sum_insert ha, hx, hy, EReal.coe_add]⟩

end Row

/-! One group of heads at one dilation: positions that agree modulo the dilation `D` form a subsequence, cut into blocks of 128. -/

/-- A key is within reach of query `a` of its block: at most 128 positions back and, in the first block of a
    subsequence, not before its start. -/
def reach (prev : Prop) (a j : ℕ) : Prop := (a ≤ j ∧ j ≤ a + 128) ∧ (prev ∨ 128 ≤ j)

instance (prev : Prop) [Decidable prev] (a : ℕ) (j : ℕ) : Decidable (reach prev a j) := by unfold reach; infer_instance

theorem reach_self (prev : Prop) (a : ℕ) (h : a < 128) : ∃ j : Fin 256, reach prev a j.val :=
  ⟨⟨a + 128, by omega⟩, ⟨by show a ≤ a + 128; omega, by show a + 128 ≤ a + 128; omega⟩, Or.inr (by show 128 ≤ a + 128; omega)⟩

/-- The token at position `n` of subsequence `c` of sequence `b`. -/
def tok (D b n c : ℕ) : Fin 32768 := ⟨(b * 4096 + (n * D + c)) % 32768, Nat.mod_lt _ (by decide)⟩
/-- Lane `l` of group `g`. -/
def col (g l : ℕ) : Fin 768 := ⟨(g * 256 + l) % 768, Nat.mod_lt _ (by decide)⟩

variable (Q K V : Fin 32768 → Fin 768 → EReal)

/-- Query `a` of block `i` times candidate key `j`, in head `h`. -/
def score (D g b c i a h : ℕ) (j : Fin 256) : EReal :=
  ∑ e : Fin 64, Q (tok D b (i * 128 + a) c) (col g (h * 64 + e.val)) * K (tok D b (i * 128 + j.val - 128) c) (col g (h * 64 + e.val))

/-- Lane `l` of the values of the candidate keys. -/
def value (D g b c i l : ℕ) (j : Fin 256) : EReal := V (tok D b (i * 128 + j.val - 128) c) (col g l)

/-- The attention result at one lane. -/
def attnO (D g b c i a l : ℕ) : EReal := out (fun j : Fin 256 => reach (0 < i) a j.val) (score Q K D g b c i a (l / 64)) (value V D g b c i l)

/-- The log of the sum of exponentials of the lane's head. -/
def attnL (D g b c i a l : ℕ) : EReal := lse (fun j : Fin 256 => reach (0 < i) a j.val) (score Q K D g b c i a (l / 64))

theorem score_real (hQ : ∀ t c, ∃ r : ℝ, Q t c = r) (hK : ∀ t c, ∃ r : ℝ, K t c = r) (D g b c i a h : ℕ) (j : Fin 256) :
    score Q K D g b c i a h j ≠ ⊤ ∧ score Q K D g b c i a h j ≠ ⊥ := by
  obtain ⟨r, hr⟩ : ∃ r : ℝ, score Q K D g b c i a h j = r := real_sum _ _ fun e _ => by
    obtain ⟨x, hx⟩ := hQ (tok D b (i * 128 + a) c) (col g (h * 64 + e.val))
    obtain ⟨y, hy⟩ := hK (tok D b (i * 128 + j.val - 128) c) (col g (h * 64 + e.val))
    exact ⟨x * y, by rw [hx, hy, EReal.coe_mul]⟩
  rw [hr]
  exact ⟨EReal.coe_ne_top r, EReal.coe_ne_bot r⟩

end Cert.AttnMath

end
-- ==== Proof.AttnBody.lean ====
/- What the attention kernel stores for one block of 128 queries of one group, read at an entry: its four heads are
   stacked as rows, each with the lanes of the others set to zero. -/
module

public import proofs.«01_k».proof.Proof.Gen.AttnIdeal.Value
public import proofs.«01_k».proof.Proof.AttnMath
public import Idealize.ShloMosaic.Lib.Pointwise
public import Idealize.ShloMosaic.Lib.Pipeline.ValueKit
public import Idealize.ShloMosaic.Lib.Claim

@[expose] public section

set_option maxRecDepth 16384

noncomputable section

namespace Cert.AttnIdeal.KernelValue

open Cert.AttnIdeal Cert.AttnIdeal.Gen Idealize.ShloMosaic Idealize.ShloMosaic.TcCoe Idealize.SL.Sem
open Idealize.ShloMosaic.Pipeline (Dat)

/-- The lane number of every entry of a block. -/
abbrev lane : IVec S128x256 32 := iota .tc S128x256 32 [1] iota_S128x256_d1_w32
abbrev mask0 : IVec S128x256 1 := k0_pay7 lane k0_pay4 k0_pay5 k0_pay6
abbrev mask1 : IVec S128x256 1 := k0_pay8 lane
abbrev mask2 : IVec S128x256 1 := k0_pay11 lane 64#32 (k0_pay9 lane) (k0_pay10 lane) (Scalar.cmpi .sgt 64#32 0#32)
abbrev mask3 : IVec S128x256 1 := k0_pay12 lane

theorem mask0_at (a : Fin 128) (l : Fin 256) : mask0 (ix2 a l) = if l.val / 64 = 0 then 1#1 else 0#1 := by
  revert l
  pointwise [k0_pay7, k0_pay4, k0_pay5, k0_pay6]
  decide +kernel

theorem mask1_at (a : Fin 128) (l : Fin 256) : mask1 (ix2 a l) = if l.val / 64 = 1 then 1#1 else 0#1 := by
  revert l
  pointwise [k0_pay8]
  decide +kernel

theorem mask2_at (a : Fin 128) (l : Fin 256) : mask2 (ix2 a l) = if l.val / 64 = 2 then 1#1 else 0#1 := by
  revert l
  pointwise [k0_pay11, k0_pay9, k0_pay10]
  decide +kernel

theorem mask3_at (a : Fin 128) (l : Fin 256) : mask3 (ix2 a l) = if l.val / 64 = 3 then 1#1 else 0#1 := by
  revert l
  pointwise [k0_pay12]
  decide +kernel

theorem window_at (r : Fin 512) (j : Fin 256) : k0_pay3 (ix2 r j) = if r.val % 128 ≤ j.val ∧ j.val ≤ r.val % 128 + 128 then 1#1 else 0#1 := by
  have hr : ∀ r : Fin 512, (Scalar.select
              (IntOp.andi
                (IntOp.xori
                  (IntOp.cmpi CmpIPredicate.slt
                    (IntOp.remsi ArithUnit.vector (BitVec.ofNat 32 r.val)
                      (Scalar.select (Scalar.cmpi CmpIPredicate.eq 128#32 0#32) 1#32 128#32))
                    0#32)
                  (Scalar.cmpi CmpIPredicate.slt (Scalar.select (Scalar.cmpi CmpIPredicate.eq 128#32 0#32) 1#32 128#32)
                    0#32))
                (IntOp.cmpi CmpIPredicate.ne
                  (IntOp.remsi ArithUnit.vector (BitVec.ofNat 32 r.val)
                    (Scalar.select (Scalar.cmpi CmpIPredicate.eq 128#32 0#32) 1#32 128#32))
                  0#32))
              (IntOp.addi
                (IntOp.remsi ArithUnit.vector (BitVec.ofNat 32 r.val)
                  (Scalar.select (Scalar.cmpi CmpIPredicate.eq 128#32 0#32) 1#32 128#32))
                (Scalar.select (Scalar.cmpi CmpIPredicate.eq 128#32 0#32) 1#32 128#32))
              (IntOp.remsi ArithUnit.vector (BitVec.ofNat 32 r.val)
                (Scalar.select (Scalar.cmpi CmpIPredicate.eq 128#32 0#32) 1#32 128#32))) = BitVec.ofNat 32 (r.val % 128) := by decide +kernel
  pointwise [k0_pay3]
  rw [hr]
  obtain ⟨a, ha⟩ : ∃ a : Fin 128, r.val % 128 = a.val := ⟨⟨r.val % 128, Nat.mod_lt _ (by decide)⟩, rfl⟩
  rw [ha]
  clear ha hr r
  revert a j
  decide +kernel

theorem bits_ok (P Q R : Prop) [Decidable P] [Decidable Q] [Decidable R] :
    IntOp.andi (if P then 1#1 else 0#1) (IntOp.ori (if Q then 1#1 else 0#1) (if R then 1#1 else 0#1)) = if P ∧ (Q ∨ R) then 1#1 else 0#1 := by
  by_cases hP : P <;> by_cases hQ : Q <;> by_cases hR : R <;> simp [hP, hQ, hR, IntOp.andi, IntOp.ori]

theorem late (j : Fin 256) : IntOp.cmpi CmpIPredicate.sge (BitVec.ofNat 32 j.val) 128#32 = if 128 ≤ j.val then 1#1 else 0#1 := by
  revert j; decide +kernel

abbrev key : IVec S512x256 32 := iota .tc S512x256 32 [1] iota_S512x256_d1_w32

abbrev valid0 (n : ℕ) : IVec S512x256 1 := k0_pay13 key k0_pay3 (Scalar.select (Scalar.cmpi .eq 32#32 0#32) 1#32 32#32)
  (Scalar.remsi (BitVec.ofNat 32 n) (Scalar.select (Scalar.cmpi .eq 32#32 0#32) 1#32 32#32))
abbrev valid1 (n : ℕ) : IVec S512x256 1 := k0_pay22 (BitVec.ofNat 32 n) key k0_pay3
abbrev valid2 (n : ℕ) : IVec S512x256 1 := k0_pay33 (BitVec.ofNat 32 n) key k0_pay3

theorem valid0_at (n : Fin 32) (r : Fin 512) (j : Fin 256) :
    valid0 n.val (ix2 r j) = if AttnMath.reach (0 < n.val % 32) (r.val % 128) j.val then 1#1 else 0#1 := by
  pointwise [valid0, k0_pay13]
  refine (congrArg₂ IntOp.andi (window_at r j) (congrArg₂ IntOp.ori (?_ : _ = if 0 < n.val % 32 then 1#1 else 0#1) (late j))).trans (bits_ok _ _ _)
  revert n; decide +kernel

theorem valid1_at (n : Fin 32) (r : Fin 512) (j : Fin 256) :
    valid1 n.val (ix2 r j) = if AttnMath.reach (0 < n.val % 8) (r.val % 128) j.val then 1#1 else 0#1 := by
  pointwise [valid1, k0_pay22]
  refine (congrArg₂ IntOp.andi (window_at r j) (congrArg₂ IntOp.ori (?_ : _ = if 0 < n.val % 8 then 1#1 else 0#1) (late j))).trans (bits_ok _ _ _)
  revert n; decide +kernel

theorem valid2_at (n : Fin 32) (r : Fin 512) (j : Fin 256) :
    valid2 n.val (ix2 r j) = if AttnMath.reach (0 < n.val % 2) (r.val % 128) j.val then 1#1 else 0#1 := by
  pointwise [valid2, k0_pay33]
  refine (congrArg₂ IntOp.andi (window_at r j) (congrArg₂ IntOp.ori (?_ : _ = if 0 < n.val % 2 then 1#1 else 0#1) (late j))).trans (bits_ok _ _ _)
  revert n; decide +kernel

theorem named_mask : Named.named (F := Ideal) κ "mask" (φ := .f32) 0xF149F2CA#32 = (⊥ : EReal) := rfl

theorem neg_inf : Ideal.ofBits .f32 0xFF800000#32 = ⊥ := by simp [Ideal.ofBits, Ideal.ieee]

theorem select_if {α : Type} (P : Prop) [Decidable P] (x y : α) : Scalar.select (if P then 1#1 else 0#1) x y = if P then x else y := by
  split_ifs <;> rfl

section row
variable {V : IVec S512x256 1} {S : FVec Ideal S512x256 .f32} {r : Fin 512} {reach : Fin 256 → Prop} [DecidablePred reach] {s : Fin 256 → EReal}
  (hV : ∀ j, V (ix2 r j) = if reach j then 1#1 else 0#1) (hS : ∀ j, S (ix2 r j) = s j)
include hV hS

theorem masked_at (j : Fin 256) : k0_pay16 (F := Ideal) V S (ix2 r j) = AttnMath.masked reach s j := by
  pointwise [k0_pay16, AttnMath.masked]
  rw [hV, hS, select_if, named_mask]

theorem top_at : k0_pay17 (F := Ideal) V S (ix2 r 0) = AttnMath.top reach s := by
  pointwise [k0_pay17, AttnMath.top]
  rw [neg_inf]
  simp only [masked_at hV hS]

theorem weight_at (j : Fin 256) : k0_pay18 (F := Ideal) V S (ix2 r j) = AttnMath.weight reach s j := by
  pointwise [k0_pay18, AttnMath.weight]
  rw [masked_at hV hS, top_at hV hS]

theorem den_at : k0_pay19 (F := Ideal) V S (ix2 r 0) = AttnMath.den reach s := by
  pointwise [k0_pay19, AttnMath.den]
  simp only [weight_at hV hS]
end row

/-- The row of the stacked heads that holds query `a` of head `h`. -/
abbrev row (h : Fin 4) (a : Fin 128) : Fin 512 := ⟨h.val * 128 + a.val, by omega⟩
/-- The head of a lane. -/
abbrev hd (l : Fin 256) : Fin 4 := ⟨l.val / 64, by omega⟩

theorem o_at (V : IVec S512x256 1) (S : FVec Ideal S512x256 .f32) (v : FVec Ideal S256x256 .bf16) (a : Fin 128) (l : Fin 256) :
   k0_pay20 (F := Ideal) mask0 mask1 mask2 mask3 V v S (ix3 0 a l)
     = Ideal.div (∑ x, k0_pay18 V S (ix2 (row (hd l) a) x) * v (ix2 x l)) (k0_pay19 V S (ix2 (row (hd l) a) 0)) := by
  pointwise [k0_pay20]
  simp only [mask0_at, mask1_at, mask2_at, mask3_at, select_if]
  have hl : l.val / 64 < 4 := by omega
  have h4 : l.val / 64 = 0 ∨ l.val / 64 = 1 ∨ l.val / 64 = 2 ∨ l.val / 64 = 3 := by omega
  rcases h4 with h | h | h | h <;> simp [h, row, hd]

theorem l_at (V : IVec S512x256 1) (S : FVec Ideal S512x256 .f32) (a : Fin 128) (l : Fin 256) :
   k0_pay21 (F := Ideal) mask0 mask1 mask2 mask3 V S (ix3 0 a l)
     = k0_pay17 V S (ix2 (row (hd l) a) 0) + Ideal.log (k0_pay19 V S (ix2 (row (hd l) a) 0)) := by
  pointwise [k0_pay21]
  simp only [mask0_at, mask1_at, mask2_at, mask3_at, select_if]
  have h4 : l.val / 64 = 0 ∨ l.val / 64 = 1 ∨ l.val / 64 = 2 ∨ l.val / 64 = 3 := by omega
  rcases h4 with h | h | h | h <;> simp [h, row, hd]

/-- A previous and a current block, one after the other. -/
def pair (k k' : FVec Ideal S1x128x256 .bf16) (j l : Fin 256) : EReal :=
  if h : j.val < 128 then k (ix3 0 ⟨j.val, h⟩ l) else k' (ix3 0 ⟨j.val - 128, by omega⟩ l)

theorem cat_at (k k' : FVec Ideal S1x128x256 .bf16) (j l : Fin 256) : k0_pay14 (F := Ideal) k k' (ix2 j l) = pair k k' j l := by
  pointwise [k0_pay14, pair]

theorem stack_at (q : FVec Ideal S1x128x256 .bf16) (h : Fin 4) (a : Fin 128) (l : Fin 256) :
    k0_pay23 (F := Ideal) mask0 mask1 mask2 mask3 q (ix2 (row h a) l) = if l.val / 64 = h.val then q (ix3 0 a l) else 0 := by
  fin_cases h <;> pointwise [k0_pay23] <;> simp only [mask0_at, mask1_at, mask2_at, mask3_at, select_if]
  all_goals split_ifs <;> first | rfl | (exfalso; omega) | (refine congrArg q ?_; blk_ext)

theorem score_at (q k k' : FVec Ideal S1x128x256 .bf16) (h : Fin 4) (a : Fin 128) (j : Fin 256) :
    k0_pay15 (F := Ideal) mask0 mask1 mask2 mask3 q k k' (ix2 (row h a) j)
      = ∑ e : Fin 64, q (ix3 0 a ⟨h.val * 64 + e.val, by omega⟩) * pair k k' j ⟨h.val * 64 + e.val, by omega⟩ := by
  have : k0_pay15 (F := Ideal) mask0 mask1 mask2 mask3 q k k' = matmul (F := Ideal) (φ₁ := .bf16) (φ₂ := .bf16) dot_S512x256_S256x256_S512x256_1_1_0_0_n_n none
      (k0_pay23 mask0 mask1 mask2 mask3 q) (k0_pay14 k k') (constant S512x256 .f32 0x00000000#32) := rfl
  rw [this]
  pointwise []
  simp only [stack_at, cat_at]
  exact AttnMath.head_sum h (fun l => q (ix3 0 a l)) (pair k k' j)

theorem lane_lt (l : Fin 256) (e : Fin 64) : l.val / 64 * 64 + e.val < 256 := by omega

section block
variable {V : IVec S512x256 1} {prev : Prop} [Decidable prev] (hV : ∀ r j, V (ix2 r j) = if AttnMath.reach prev (r.val % 128) j.val then 1#1 else 0#1)
  (q k k' v v' : FVec Ideal S1x128x256 .bf16) (a : Fin 128) (l : Fin 256) (s : Fin 256 → EReal)
  (hs : ∀ j : Fin 256, AttnMath.reach prev a.val j.val →
    ∑ e : Fin 64, q (ix3 0 a ⟨l.val / 64 * 64 + e.val, lane_lt l e⟩) * pair k k' j ⟨l.val / 64 * 64 + e.val, lane_lt l e⟩ = s j)
include hV hs

theorem valid_row (j : Fin 256) : V (ix2 (row (hd l) a) j) = if AttnMath.reach prev a.val j.val then 1#1 else 0#1 := by
  rw [hV]
  have : (row (hd l) a).val % 128 = a.val := by show (l.val / 64 * 128 + a.val) % 128 = a.val; omega
  rw [this]

/-- A block's log of the sum of exponentials at an entry. -/
theorem lse_at : k0_pay21 (F := Ideal) mask0 mask1 mask2 mask3 V (k0_pay15 mask0 mask1 mask2 mask3 q k k') (ix3 0 a l)
    = AttnMath.lse (fun j : Fin 256 => AttnMath.reach prev a.val j.val) s := by
  rw [l_at, top_at (valid_row hV q k k' a l s hs) (fun j => score_at q k k' (hd l) a j), den_at (valid_row hV q k k' a l s hs) (fun j => score_at q k k' (hd l) a j)]
  exact AttnMath.lse_congr hs

/-- A block's attention result at an entry. -/
theorem out_at (fin : ∀ j, s j ≠ ⊤ ∧ s j ≠ ⊥) (u : Fin 256 → EReal) (hu : ∀ j : Fin 256, AttnMath.reach prev a.val j.val → pair v v' j l = u j) :
    k0_pay20 (F := Ideal) mask0 mask1 mask2 mask3 V (k0_pay14 v v') (k0_pay15 mask0 mask1 mask2 mask3 q k k') (ix3 0 a l)
    = AttnMath.out (fun j : Fin 256 => AttnMath.reach prev a.val j.val) s u := by
  have hw := weight_at (valid_row hV q k k' a l s hs) (fun j => score_at q k k' (hd l) a j)
  rw [o_at, den_at (valid_row hV q k k' a l s hs) (fun j => score_at q k k' (hd l) a j)]
  simp only [hw, cat_at]
  rw [AttnMath.weight_congr hs, AttnMath.den_congr hs]
  exact AttnMath.out_late (fun j _ => fin j) (AttnMath.reach_self prev a.val a.isLt) _ _ hu
end block

end Cert.AttnIdeal.KernelValue

end
-- ==== Proof.AttnValue.lean ====
/- What the attention kernel leaves in its six result arrays: the closed forms of `Cert.AttnMath`. One grid point works on
   one block of 128 queries of each of the three groups. -/
module

public import proofs.«01_k».proof.Proof.AttnBody

@[expose] public section

set_option maxRecDepth 16384

noncomputable section

namespace Cert.AttnIdeal.KernelValue

open Cert.AttnIdeal Cert.AttnIdeal.Gen Idealize.ShloMosaic Idealize.ShloMosaic.TcCoe Idealize.SL.Sem
open Idealize.ShloMosaic.Pipeline (Dat)

theorem out15_eq (i : grid0.Coords) (x0 x1 x2 x3 x4 x5 x6 x7 x8 x9 x10 x11 x12 x13 x14 : FVec Ideal S1x128x256 .bf16) :
    out0_15 (F := Ideal) i x0 x1 x2 x3 x4 x5 x6 x7 x8 x9 x10 x11 x12 x13 x14 = k0_pay20 (F := Ideal) mask0 mask1 mask2 mask3 (valid0 (i 1).val) (k0_pay14 x3 x4) (k0_pay15 mask0 mask1 mask2 mask3 x0 x1 x2) := by
  unfold_out out0_15
  frame_out
  all_goals rfl

theorem out16_eq (i : grid0.Coords) (x0 x1 x2 x3 x4 x5 x6 x7 x8 x9 x10 x11 x12 x13 x14 : FVec Ideal S1x128x256 .bf16) :
    out0_16 (F := Ideal) i x0 x1 x2 x3 x4 x5 x6 x7 x8 x9 x10 x11 x12 x13 x14 = k0_pay21 (F := Ideal) mask0 mask1 mask2 mask3 (valid0 (i 1).val) (k0_pay15 mask0 mask1 mask2 mask3 x0 x1 x2) := by
  unfold_out out0_16
  frame_out
  all_goals rfl

theorem out17_eq (i : grid0.Coords) (x0 x1 x2 x3 x4 x5 x6 x7 x8 x9 x10 x11 x12 x13 x14 : FVec Ideal S1x128x256 .bf16) :
    out0_17 (F := Ideal) i x0 x1 x2 x3 x4 x5 x6 x7 x8 x9 x10 x11 x12 x13 x14 = k0_pay20 (F := Ideal) mask0 mask1 mask2 mask3 (valid1 (i 1).val) (k0_pay14 x8 x9) (k0_pay15 mask0 mask1 mask2 mask3 x5 x6 x7) := by
  unfold_out out0_17
  frame_out
  all_goals rfl

theorem out18_eq (i : grid0.Coords) (x0 x1 x2 x3 x4 x5 x6 x7 x8 x9 x10 x11 x12 x13 x14 : FVec Ideal S1x128x256 .bf16) :
    out0_18 (F := Ideal) i x0 x1 x2 x3 x4 x5 x6 x7 x8 x9 x10 x11 x12 x13 x14 = k0_pay21 (F := Ideal) mask0 mask1 mask2 mask3 (valid1 (i 1).val) (k0_pay15 mask0 mask1 mask2 mask3 x5 x6 x7) := by
  unfold_out out0_18
  frame_out
  all_goals rfl

theorem out19_eq (i : grid0.Coords) (x0 x1 x2 x3 x4 x5 x6 x7 x8 x9 x10 x11 x12 x13 x14 : FVec Ideal S1x128x256 .bf16) :
    out0_19 (F := Ideal) i x0 x1 x2 x3 x4 x5 x6 x7 x8 x9 x10 x11 x12 x13 x14 = k0_pay20 (F := Ideal) mask0 mask1 mask2 mask3 (valid2 (i 1).val) (k0_pay14 x13 x14) (k0_pay15 mask0 mask1 mask2 mask3 x10 x11 x12) := by
  unfold_out out0_19
  frame_out
  all_goals rfl

theorem out20_eq (i : grid0.Coords) (x0 x1 x2 x3 x4 x5 x6 x7 x8 x9 x10 x11 x12 x13 x14 : FVec Ideal S1x128x256 .bf16) :
    out0_20 (F := Ideal) i x0 x1 x2 x3 x4 x5 x6 x7 x8 x9 x10 x11 x12 x13 x14 = k0_pay21 (F := Ideal) mask0 mask1 mask2 mask3 (valid2 (i 1).val) (k0_pay15 mask0 mask1 mask2 mask3 x10 x11 x12) := by
  unfold_out out0_20
  frame_out
  all_goals rfl

variable (m : (ℓ : Loc nD τ sig) → Buf (Elt Ideal) ℓ)

/-- Where each window's block lies at a grid point. -/
theorem idx : ∀ t : Fin cfg0.N, win0_0.index t = ![t.val / 32, t.val % 32 % 32, t.val % 32 / 32 * 3 + 0]
    ∧ win0_1.index t = ![t.val / 32, (t.val % 32 % 32) - 1, t.val % 32 / 32 * 3 + 0]
    ∧ win0_2.index t = ![t.val / 32, t.val % 32 % 32, t.val % 32 / 32 * 3 + 0]
    ∧ win0_3.index t = ![t.val / 32, (t.val % 32 % 32) - 1, t.val % 32 / 32 * 3 + 0]
    ∧ win0_4.index t = ![t.val / 32, t.val % 32 % 32, t.val % 32 / 32 * 3 + 0]
    ∧ win0_5.index t = ![t.val / 32, t.val % 32 % 8, t.val % 32 / 8 * 3 + 1]
    ∧ win0_6.index t = ![t.val / 32, (t.val % 32 % 8) - 1, t.val % 32 / 8 * 3 + 1]
    ∧ win0_7.index t = ![t.val / 32, t.val % 32 % 8, t.val % 32 / 8 * 3 + 1]
    ∧ win0_8.index t = ![t.val / 32, (t.val % 32 % 8) - 1, t.val % 32 / 8 * 3 + 1]
    ∧ win0_9.index t = ![t.val / 32, t.val % 32 % 8, t.val % 32 / 8 * 3 + 1]
    ∧ win0_10.index t = ![t.val / 32, t.val % 32 % 2, t.val % 32 / 2 * 3 + 2]
    ∧ win0_11.index t = ![t.val / 32, (t.val % 32 % 2) - 1, t.val % 32 / 2 * 3 + 2]
    ∧ win0_12.index t = ![t.val / 32, t.val % 32 % 2, t.val % 32 / 2 * 3 + 2]
    ∧ win0_13.index t = ![t.val / 32, (t.val % 32 % 2) - 1, t.val % 32 / 2 * 3 + 2]
    ∧ win0_14.index t = ![t.val / 32, t.val % 32 % 2, t.val % 32 / 2 * 3 + 2]
    ∧ win0_15.index t = ![t.val / 32, t.val % 32 % 32, t.val % 32 / 32]
    ∧ win0_16.index t = ![t.val / 32, t.val % 32 % 32, t.val % 32 / 32]
    ∧ win0_17.index t = ![t.val / 32, t.val % 32 % 8, t.val % 32 / 8]
    ∧ win0_18.index t = ![t.val / 32, t.val % 32 % 8, t.val % 32 / 8]
    ∧ win0_19.index t = ![t.val / 32, t.val % 32 % 2, t.val % 32 / 2]
    ∧ win0_20.index t = ![t.val / 32, t.val % 32 % 2, t.val % 32 / 2] :=
  (by decide +kernel : ∀ t : Fin grid0.N, _)

theorem coord : ∀ t : Fin cfg0.N, (grid0.coords t 1).val = t.val % 32 := (by decide +kernel : ∀ t : Fin grid0.N, _)

/-- The three argument arrays by token and lane. -/
def query (c : Dev nD) (t : Fin 32768) (l : Fin 768) : EReal := (show FVec Ideal S32768x768 .bf16 from m ((c : Thread nD τ).loc main_arg0)) (ix2 t l)
def keys (c : Dev nD) (t : Fin 32768) (l : Fin 768) : EReal := (show FVec Ideal S32768x768 .bf16 from m ((c : Thread nD τ).loc main_arg1)) (ix2 t l)
def vals (c : Dev nD) (t : Fin 32768) (l : Fin 768) : EReal := (show FVec Ideal S32768x768 .bf16 from m ((c : Thread nD τ).loc main_arg2)) (ix2 t l)

theorem q0_at (c : Dev nD) (t : Fin cfg0.N) (a : Fin 128) (l : Fin 256) :
    (show FVec Ideal S1x128x256 .bf16 from iblk m c 0 t) (ix3 0 a l) = query m c (AttnMath.tok 1 (t.val / 32) ((t.val % 32 % 32) * 128 + a.val) (t.val % 32 / 32)) (AttnMath.col 0 l.val) := by
  have ht : t.val < 256 := lt_of_lt_of_eq t.isLt N_0
  blk_simp [iblk, idx t]
  entry_read
  pointwise [query, AttnMath.tok, AttnMath.col]
  blk_ext [idx t]
  have h0 : t.val % 32 / 32 = 0 := Nat.div_eq_of_lt (Nat.mod_lt _ (by decide))
  rw [h0]
  omega

theorem kp0_at (c : Dev nD) (t : Fin cfg0.N) (a : Fin 128) (l : Fin 256) :
    (show FVec Ideal S1x128x256 .bf16 from iblk m c 1 t) (ix3 0 a l) = keys m c (AttnMath.tok 1 (t.val / 32) (((t.val % 32 % 32) - 1) * 128 + a.val) (t.val % 32 / 32)) (AttnMath.col 0 l.val) := by
  have ht : t.val < 256 := lt_of_lt_of_eq t.isLt N_0
  blk_simp [iblk, idx t]
  entry_read
  pointwise [keys, AttnMath.tok, AttnMath.col]
  blk_ext [idx t]
  have h0 : t.val % 32 / 32 = 0 := Nat.div_eq_of_lt (Nat.mod_lt _ (by decide))
  rw [h0]
  omega

theorem kc0_at (c : Dev nD) (t : Fin cfg0.N) (a : Fin 128) (l : Fin 256) :
    (show FVec Ideal S1x128x256 .bf16 from iblk m c 2 t) (ix3 0 a l) = keys m c (AttnMath.tok 1 (t.val / 32) ((t.val % 32 % 32) * 128 + a.val) (t.val % 32 / 32)) (AttnMath.col 0 l.val) := by
  have ht : t.val < 256 := lt_of_lt_of_eq t.isLt N_0
  blk_simp [iblk, idx t]
  entry_read
  pointwise [keys, AttnMath.tok, AttnMath.col]
  blk_ext [idx t]
  have h0 : t.val % 32 / 32 = 0 := Nat.div_eq_of_lt (Nat.mod_lt _ (by decide))
  rw [h0]
  omega

theorem vp0_at (c : Dev nD) (t : Fin cfg0.N) (a : Fin 128) (l : Fin 256) :
    (show FVec Ideal S1x128x256 .bf16 from iblk m c 3 t) (ix3 0 a l) = vals m c (AttnMath.tok 1 (t.val / 32) (((t.val % 32 % 32) - 1) * 128 + a.val) (t.val % 32 / 32)) (AttnMath.col 0 l.val) := by
  have ht : t.val < 256 := lt_of_lt_of_eq t.isLt N_0
  blk_simp [iblk, idx t]
  entry_read
  pointwise [vals, AttnMath.tok, AttnMath.col]
  blk_ext [idx t]
  have h0 : t.val % 32 / 32 = 0 := Nat.div_eq_of_lt (Nat.mod_lt _ (by decide))
  rw [h0]
  omega

theorem vc0_at (c : Dev nD) (t : Fin cfg0.N) (a : Fin 128) (l : Fin 256) :
    (show FVec Ideal S1x128x256 .bf16 from iblk m c 4 t) (ix3 0 a l) = vals m c (AttnMath.tok 1 (t.val / 32) ((t.val % 32 % 32) * 128 + a.val) (t.val % 32 / 32)) (AttnMath.col 0 l.val) := by
  have ht : t.val < 256 := lt_of_lt_of_eq t.isLt N_0
  blk_simp [iblk, idx t]
  entry_read
  pointwise [vals, AttnMath.tok, AttnMath.col]
  blk_ext [idx t]
  have h0 : t.val % 32 / 32 = 0 := Nat.div_eq_of_lt (Nat.mod_lt _ (by decide))
  rw [h0]
  omega

/-- The candidate keys within reach lie where the subsequence continues backwards. -/
theorem k0_pair (c : Dev nD) (t : Fin cfg0.N) (a : ℕ) (j l : Fin 256) (h : AttnMath.reach (0 < t.val % 32 % 32) a j.val) :
    pair (iblk m c 1 t) (iblk m c 2 t) j l = keys m c (AttnMath.tok 1 (t.val / 32) ((t.val % 32 % 32) * 128 + j.val - 128) (t.val % 32 / 32)) (AttnMath.col 0 l.val) := by
  have h2 := h.2
  unfold pair
  split_ifs with hj
  · refine (kp0_at m c t ⟨j.val, hj⟩ l).trans ?_
    have : ((t.val % 32 % 32) - 1) * 128 + j.val = (t.val % 32 % 32) * 128 + j.val - 128 := by omega
    rw [this]
  · refine (kc0_at m c t ⟨j.val - 128, by omega⟩ l).trans ?_
    have : (t.val % 32 % 32) * 128 + (j.val - 128) = (t.val % 32 % 32) * 128 + j.val - 128 := by omega
    rw [this]

/-- The candidate keys within reach lie where the subsequence continues backwards. -/
theorem v0_pair (c : Dev nD) (t : Fin cfg0.N) (a : ℕ) (j l : Fin 256) (h : AttnMath.reach (0 < t.val % 32 % 32) a j.val) :
    pair (iblk m c 3 t) (iblk m c 4 t) j l = vals m c (AttnMath.tok 1 (t.val / 32) ((t.val % 32 % 32) * 128 + j.val - 128) (t.val % 32 / 32)) (AttnMath.col 0 l.val) := by
  have h2 := h.2
  unfold pair
  split_ifs with hj
  · refine (vp0_at m c t ⟨j.val, hj⟩ l).trans ?_
    have : ((t.val % 32 % 32) - 1) * 128 + j.val = (t.val % 32 % 32) * 128 + j.val - 128 := by omega
    rw [this]
  · refine (vc0_at m c t ⟨j.val - 128, by omega⟩ l).trans ?_
    have : (t.val % 32 % 32) * 128 + (j.val - 128) = (t.val % 32 % 32) * 128 + j.val - 128 := by omega
    rw [this]

/-- Result array 15 as one function of the argument arrays. -/
def result15 (c : Dev nD) : FVec Ideal S8x4096x256 .f32 := fun y => AttnMath.attnO (query m c) (keys m c) (vals m c) 1 0 (show Fin 8 from y 0).val ((show Fin 256 from y 2).val / 256) ((show Fin 4096 from y 1).val / 128) ((show Fin 4096 from y 1).val % 128) ((show Fin 256 from y 2).val % 256)

theorem point15 (c : Dev nD) (hQ : ∀ t l, ∃ r : ℝ, query m c t l = r) (hK : ∀ t l, ∃ r : ℝ, keys m c t l = r) (t : Fin cfg0.N) (y : S1x128x256.Idx) :
    k0_pay20 (F := Ideal) mask0 mask1 mask2 mask3 (valid0 (grid0.coords t 1).val) (k0_pay14 (iblk m c 3 t) (iblk m c 4 t)) (k0_pay15 mask0 mask1 mask2 mask3 (iblk m c 0 t) (iblk m c 1 t) (iblk m c 2 t)) y = result15 m c (((cfg0.win 15).blk t).view.emb y) := by
  idx_vars y
  have ht : t.val < 256 := lt_of_lt_of_eq t.isLt N_0
  have hemb : ((cfg0.win 15).blk t).view.emb (ix3 y0 y1 y2) = (ix3 ⟨t.val / 32, by omega⟩ ⟨(t.val % 32 % 32) * 128 + y1.val, by omega⟩ ⟨(t.val % 32 / 32) * 256 + y2.val, by omega⟩ : S8x4096x256.Idx) := by
    blk_ext [idx t]
  obtain rfl : y0 = 0 := Subsingleton.elim _ _
  rw [hemb, coord t]
  have hV := fun r j => valid0_at ⟨t.val % 32, Nat.mod_lt _ (by decide)⟩ r j
  refine (out_at (hV) _ _ _ _ _ y1 y2 (AttnMath.score (query m c) (keys m c) 1 0 (t.val / 32) (t.val % 32 / 32) (t.val % 32 % 32) y1.val (y2.val / 64)) (fun j hj => by
      simp only [AttnMath.score]
      refine Finset.sum_congr rfl fun e _ => ?_
      exact congrArg₂ (· * ·) (q0_at m c t y1 _) (k0_pair m c t _ j _ hj))
    (fun j => AttnMath.score_real _ _ hQ hK _ _ _ _ _ _ _ j) (AttnMath.value (vals m c) 1 0 (t.val / 32) (t.val % 32 / 32) (t.val % 32 % 32) y2.val) fun j hj => v0_pair m c t _ j y2 hj).trans ?_
  have e1 : ((t.val % 32 % 32) * 128 + y1.val) / 128 = t.val % 32 % 32 := by omega
  have e2 : ((t.val % 32 % 32) * 128 + y1.val) % 128 = y1.val := by omega
  have e3 : ((t.val % 32 / 32) * 256 + y2.val) / 256 = t.val % 32 / 32 := by omega
  have e4 : ((t.val % 32 / 32) * 256 + y2.val) % 256 = y2.val := by omega
  show _ = AttnMath.attnO (query m c) (keys m c) (vals m c) 1 0 (t.val / 32) (((t.val % 32 / 32) * 256 + y2.val) / 256) (((t.val % 32 % 32) * 128 + y1.val) / 128) (((t.val % 32 % 32) * 128 + y1.val) % 128) (((t.val % 32 / 32) * 256 + y2.val) % 256)
  rw [e1, e2, e3, e4]
  rfl

theorem final15 (c : Dev nD) (hQ : ∀ t l, ∃ r : ℝ, query m c t l = r) (hK : ∀ t l, ∃ r : ℝ, keys m c t l = r) : (dats m 0 c).arrAt 15 (cfgs 0).N = result15 m c := by
  refine (dats m 0 c).arrAt_eq_of_covers 15 _ (by decide +kernel) fun t _ y => ?_
  blk_simp
  rw [after0_15, out15_eq]
  exact point15 m c hQ hK t y

/-- Result array 16 as one function of the argument arrays. -/
def result16 (c : Dev nD) : FVec Ideal S8x4096x256 .f32 := fun y => AttnMath.attnL (query m c) (keys m c) 1 0 (show Fin 8 from y 0).val ((show Fin 256 from y 2).val / 256) ((show Fin 4096 from y 1).val / 128) ((show Fin 4096 from y 1).val % 128) ((show Fin 256 from y 2).val % 256)

theorem point16 (c : Dev nD) (t : Fin cfg0.N) (y : S1x128x256.Idx) :
    k0_pay21 (F := Ideal) mask0 mask1 mask2 mask3 (valid0 (grid0.coords t 1).val) (k0_pay15 mask0 mask1 mask2 mask3 (iblk m c 0 t) (iblk m c 1 t) (iblk m c 2 t)) y = result16 m c (((cfg0.win 16).blk t).view.emb y) := by
  idx_vars y
  have ht : t.val < 256 := lt_of_lt_of_eq t.isLt N_0
  have hemb : ((cfg0.win 16).blk t).view.emb (ix3 y0 y1 y2) = (ix3 ⟨t.val / 32, by omega⟩ ⟨(t.val % 32 % 32) * 128 + y1.val, by omega⟩ ⟨(t.val % 32 / 32) * 256 + y2.val, by omega⟩ : S8x4096x256.Idx) := by
    blk_ext [idx t]
  obtain rfl : y0 = 0 := Subsingleton.elim _ _
  rw [hemb, coord t]
  have hV := fun r j => valid0_at ⟨t.val % 32, Nat.mod_lt _ (by decide)⟩ r j
  refine (lse_at (hV) _ _ _ y1 y2 (AttnMath.score (query m c) (keys m c) 1 0 (t.val / 32) (t.val % 32 / 32) (t.val % 32 % 32) y1.val (y2.val / 64)) (fun j hj => by
      simp only [AttnMath.score]
      refine Finset.sum_congr rfl fun e _ => ?_
      exact congrArg₂ (· * ·) (q0_at m c t y1 _) (k0_pair m c t _ j _ hj))).trans ?_
  have e1 : ((t.val % 32 % 32) * 128 + y1.val) / 128 = t.val % 32 % 32 := by omega
  have e2 : ((t.val % 32 % 32) * 128 + y1.val) % 128 = y1.val := by omega
  have e3 : ((t.val % 32 / 32) * 256 + y2.val) / 256 = t.val % 32 / 32 := by omega
  have e4 : ((t.val % 32 / 32) * 256 + y2.val) % 256 = y2.val := by omega
  show _ = AttnMath.attnL (query m c) (keys m c) 1 0 (t.val / 32) (((t.val % 32 / 32) * 256 + y2.val) / 256) (((t.val % 32 % 32) * 128 + y1.val) / 128) (((t.val % 32 % 32) * 128 + y1.val) % 128) (((t.val % 32 / 32) * 256 + y2.val) % 256)
  rw [e1, e2, e3, e4]
  rfl

theorem final16 (c : Dev nD) : (dats m 0 c).arrAt 16 (cfgs 0).N = result16 m c := by
  refine (dats m 0 c).arrAt_eq_of_covers 16 _ (by decide +kernel) fun t _ y => ?_
  blk_simp
  rw [after0_16, out16_eq]
  exact point16 m c t y

theorem q1_at (c : Dev nD) (t : Fin cfg0.N) (a : Fin 128) (l : Fin 256) :
    (show FVec Ideal S1x128x256 .bf16 from iblk m c 5 t) (ix3 0 a l) = query m c (AttnMath.tok 4 (t.val / 32) ((t.val % 32 % 8) * 128 + a.val) (t.val % 32 / 8)) (AttnMath.col 1 l.val) := by
  have ht : t.val < 256 := lt_of_lt_of_eq t.isLt N_0
  blk_simp [iblk, idx t]
  entry_read
  pointwise [query, AttnMath.tok, AttnMath.col]
  blk_ext [idx t]

theorem kp1_at (c : Dev nD) (t : Fin cfg0.N) (a : Fin 128) (l : Fin 256) :
    (show FVec Ideal S1x128x256 .bf16 from iblk m c 6 t) (ix3 0 a l) = keys m c (AttnMath.tok 4 (t.val / 32) (((t.val % 32 % 8) - 1) * 128 + a.val) (t.val % 32 / 8)) (AttnMath.col 1 l.val) := by
  have ht : t.val < 256 := lt_of_lt_of_eq t.isLt N_0
  blk_simp [iblk, idx t]
  entry_read
  pointwise [keys, AttnMath.tok, AttnMath.col]
  blk_ext [idx t]

theorem kc1_at (c : Dev nD) (t : Fin cfg0.N) (a : Fin 128) (l : Fin 256) :
    (show FVec Ideal S1x128x256 .bf16 from iblk m c 7 t) (ix3 0 a l) = keys m c (AttnMath.tok 4 (t.val / 32) ((t.val % 32 % 8) * 128 + a.val) (t.val % 32 / 8)) (AttnMath.col 1 l.val) := by
  have ht : t.val < 256 := lt_of_lt_of_eq t.isLt N_0
  blk_simp [iblk, idx t]
  entry_read
  pointwise [keys, AttnMath.tok, AttnMath.col]
  blk_ext [idx t]

theorem vp1_at (c : Dev nD) (t : Fin cfg0.N) (a : Fin 128) (l : Fin 256) :
    (show FVec Ideal S1x128x256 .bf16 from iblk m c 8 t) (ix3 0 a l) = vals m c (AttnMath.tok 4 (t.val / 32) (((t.val % 32 % 8) - 1) * 128 + a.val) (t.val % 32 / 8)) (AttnMath.col 1 l.val) := by
  have ht : t.val < 256 := lt_of_lt_of_eq t.isLt N_0
  blk_simp [iblk, idx t]
  entry_read
  pointwise [vals, AttnMath.tok, AttnMath.col]
  blk_ext [idx t]

theorem vc1_at (c : Dev nD) (t : Fin cfg0.N) (a : Fin 128) (l : Fin 256) :
    (show FVec Ideal S1x128x256 .bf16 from iblk m c 9 t) (ix3 0 a l) = vals m c (AttnMath.tok 4 (t.val / 32) ((t.val % 32 % 8) * 128 + a.val) (t.val % 32 / 8)) (AttnMath.col 1 l.val) := by
  have ht : t.val < 256 := lt_of_lt_of_eq t.isLt N_0
  blk_simp [iblk, idx t]
  entry_read
  pointwise [vals, AttnMath.tok, AttnMath.col]
  blk_ext [idx t]

/-- The candidate keys within reach lie where the subsequence continues backwards. -/
theorem k1_pair (c : Dev nD) (t : Fin cfg0.N) (a : ℕ) (j l : Fin 256) (h : AttnMath.reach (0 < t.val % 32 % 8) a j.val) :
    pair (iblk m c 6 t) (iblk m c 7 t) j l = keys m c (AttnMath.tok 4 (t.val / 32) ((t.val % 32 % 8) * 128 + j.val - 128) (t.val % 32 / 8)) (AttnMath.col 1 l.val) := by
  have h2 := h.2
  unfold pair
  split_ifs with hj
  · refine (kp1_at m c t ⟨j.val, hj⟩ l).trans ?_
    have : ((t.val % 32 % 8) - 1) * 128 + j.val = (t.val % 32 % 8) * 128 + j.val - 128 := by omega
    rw [this]
  · refine (kc1_at m c t ⟨j.val - 128, by omega⟩ l).trans ?_
    have : (t.val % 32 % 8) * 128 + (j.val - 128) = (t.val % 32 % 8) * 128 + j.val - 128 := by omega
    rw [this]

/-- The candidate keys within reach lie where the subsequence continues backwards. -/
theorem v1_pair (c : Dev nD) (t : Fin cfg0.N) (a : ℕ) (j l : Fin 256) (h : AttnMath.reach (0 < t.val % 32 % 8) a j.val) :
    pair (iblk m c 8 t) (iblk m c 9 t) j l = vals m c (AttnMath.tok 4 (t.val / 32) ((t.val % 32 % 8) * 128 + j.val - 128) (t.val % 32 / 8)) (AttnMath.col 1 l.val) := by
  have h2 := h.2
  unfold pair
  split_ifs with hj
  · refine (vp1_at m c t ⟨j.val, hj⟩ l).trans ?_
    have : ((t.val % 32 % 8) - 1) * 128 + j.val = (t.val % 32 % 8) * 128 + j.val - 128 := by omega
    rw [this]
  · refine (vc1_at m c t ⟨j.val - 128, by omega⟩ l).trans ?_
    have : (t.val % 32 % 8) * 128 + (j.val - 128) = (t.val % 32 % 8) * 128 + j.val - 128 := by omega
    rw [this]

/-- Result array 17 as one function of the argument arrays. -/
def result17 (c : Dev nD) : FVec Ideal S8x1024x1024 .f32 := fun y => AttnMath.attnO (query m c) (keys m c) (vals m c) 4 1 (show Fin 8 from y 0).val ((show Fin 1024 from y 2).val / 256) ((show Fin 1024 from y 1).val / 128) ((show Fin 1024 from y 1).val % 128) ((show Fin 1024 from y 2).val % 256)

theorem point17 (c : Dev nD) (hQ : ∀ t l, ∃ r : ℝ, query m c t l = r) (hK : ∀ t l, ∃ r : ℝ, keys m c t l = r) (t : Fin cfg0.N) (y : S1x128x256.Idx) :
    k0_pay20 (F := Ideal) mask0 mask1 mask2 mask3 (valid1 (grid0.coords t 1).val) (k0_pay14 (iblk m c 8 t) (iblk m c 9 t)) (k0_pay15 mask0 mask1 mask2 mask3 (iblk m c 5 t) (iblk m c 6 t) (iblk m c 7 t)) y = result17 m c (((cfg0.win 17).blk t).view.emb y) := by
  idx_vars y
  have ht : t.val < 256 := lt_of_lt_of_eq t.isLt N_0
  have hemb : ((cfg0.win 17).blk t).view.emb (ix3 y0 y1 y2) = (ix3 ⟨t.val / 32, by omega⟩ ⟨(t.val % 32 % 8) * 128 + y1.val, by omega⟩ ⟨(t.val % 32 / 8) * 256 + y2.val, by omega⟩ : S8x1024x1024.Idx) := by
    blk_ext [idx t]
  obtain rfl : y0 = 0 := Subsingleton.elim _ _
  rw [hemb, coord t]
  have hV := fun r j => valid1_at ⟨t.val % 32, Nat.mod_lt _ (by decide)⟩ r j
  refine (out_at (hV) _ _ _ _ _ y1 y2 (AttnMath.score (query m c) (keys m c) 4 1 (t.val / 32) (t.val % 32 / 8) (t.val % 32 % 8) y1.val (y2.val / 64)) (fun j hj => by
      simp only [AttnMath.score]
      refine Finset.sum_congr rfl fun e _ => ?_
      exact congrArg₂ (· * ·) (q1_at m c t y1 _) (k1_pair m c t _ j _ hj))
    (fun j => AttnMath.score_real _ _ hQ hK _ _ _ _ _ _ _ j) (AttnMath.value (vals m c) 4 1 (t.val / 32) (t.val % 32 / 8) (t.val % 32 % 8) y2.val) fun j hj => v1_pair m c t _ j y2 hj).trans ?_
  have e1 : ((t.val % 32 % 8) * 128 + y1.val) / 128 = t.val % 32 % 8 := by omega
  have e2 : ((t.val % 32 % 8) * 128 + y1.val) % 128 = y1.val := by omega
  have e3 : ((t.val % 32 / 8) * 256 + y2.val) / 256 = t.val % 32 / 8 := by omega
  have e4 : ((t.val % 32 / 8) * 256 + y2.val) % 256 = y2.val := by omega
  show _ = AttnMath.attnO (query m c) (keys m c) (vals m c) 4 1 (t.val / 32) (((t.val % 32 / 8) * 256 + y2.val) / 256) (((t.val % 32 % 8) * 128 + y1.val) / 128) (((t.val % 32 % 8) * 128 + y1.val) % 128) (((t.val % 32 / 8) * 256 + y2.val) % 256)
  rw [e1, e2, e3, e4]
  rfl

theorem final17 (c : Dev nD) (hQ : ∀ t l, ∃ r : ℝ, query m c t l = r) (hK : ∀ t l, ∃ r : ℝ, keys m c t l = r) : (dats m 0 c).arrAt 17 (cfgs 0).N = result17 m c := by
  refine (dats m 0 c).arrAt_eq_of_covers 17 _ (by decide +kernel) fun t _ y => ?_
  blk_simp
  rw [after0_17, out17_eq]
  exact point17 m c hQ hK t y

/-- Result array 18 as one function of the argument arrays. -/
def result18 (c : Dev nD) : FVec Ideal S8x1024x1024 .f32 := fun y => AttnMath.attnL (query m c) (keys m c) 4 1 (show Fin 8 from y 0).val ((show Fin 1024 from y 2).val / 256) ((show Fin 1024 from y 1).val / 128) ((show Fin 1024 from y 1).val % 128) ((show Fin 1024 from y 2).val % 256)

theorem point18 (c : Dev nD) (t : Fin cfg0.N) (y : S1x128x256.Idx) :
    k0_pay21 (F := Ideal) mask0 mask1 mask2 mask3 (valid1 (grid0.coords t 1).val) (k0_pay15 mask0 mask1 mask2 mask3 (iblk m c 5 t) (iblk m c 6 t) (iblk m c 7 t)) y = result18 m c (((cfg0.win 18).blk t).view.emb y) := by
  idx_vars y
  have ht : t.val < 256 := lt_of_lt_of_eq t.isLt N_0
  have hemb : ((cfg0.win 18).blk t).view.emb (ix3 y0 y1 y2) = (ix3 ⟨t.val / 32, by omega⟩ ⟨(t.val % 32 % 8) * 128 + y1.val, by omega⟩ ⟨(t.val % 32 / 8) * 256 + y2.val, by omega⟩ : S8x1024x1024.Idx) := by
    blk_ext [idx t]
  obtain rfl : y0 = 0 := Subsingleton.elim _ _
  rw [hemb, coord t]
  have hV := fun r j => valid1_at ⟨t.val % 32, Nat.mod_lt _ (by decide)⟩ r j
  refine (lse_at (hV) _ _ _ y1 y2 (AttnMath.score (query m c) (keys m c) 4 1 (t.val / 32) (t.val % 32 / 8) (t.val % 32 % 8) y1.val (y2.val / 64)) (fun j hj => by
      simp only [AttnMath.score]
      refine Finset.sum_congr rfl fun e _ => ?_
      exact congrArg₂ (· * ·) (q1_at m c t y1 _) (k1_pair m c t _ j _ hj))).trans ?_
  have e1 : ((t.val % 32 % 8) * 128 + y1.val) / 128 = t.val % 32 % 8 := by omega
  have e2 : ((t.val % 32 % 8) * 128 + y1.val) % 128 = y1.val := by omega
  have e3 : ((t.val % 32 / 8) * 256 + y2.val) / 256 = t.val % 32 / 8 := by omega
  have e4 : ((t.val % 32 / 8) * 256 + y2.val) % 256 = y2.val := by omega
  show _ = AttnMath.attnL (query m c) (keys m c) 4 1 (t.val / 32) (((t.val % 32 / 8) * 256 + y2.val) / 256) (((t.val % 32 % 8) * 128 + y1.val) / 128) (((t.val % 32 % 8) * 128 + y1.val) % 128) (((t.val % 32 / 8) * 256 + y2.val) % 256)
  rw [e1, e2, e3, e4]
  rfl

theorem final18 (c : Dev nD) : (dats m 0 c).arrAt 18 (cfgs 0).N = result18 m c := by
  refine (dats m 0 c).arrAt_eq_of_covers 18 _ (by decide +kernel) fun t _ y => ?_
  blk_simp
  rw [after0_18, out18_eq]
  exact point18 m c t y

theorem q2_at (c : Dev nD) (t : Fin cfg0.N) (a : Fin 128) (l : Fin 256) :
    (show FVec Ideal S1x128x256 .bf16 from iblk m c 10 t) (ix3 0 a l) = query m c (AttnMath.tok 16 (t.val / 32) ((t.val % 32 % 2) * 128 + a.val) (t.val % 32 / 2)) (AttnMath.col 2 l.val) := by
  have ht : t.val < 256 := lt_of_lt_of_eq t.isLt N_0
  blk_simp [iblk, idx t]
  entry_read
  pointwise [query, AttnMath.tok, AttnMath.col]
  blk_ext [idx t]

theorem kp2_at (c : Dev nD) (t : Fin cfg0.N) (a : Fin 128) (l : Fin 256) :
    (show FVec Ideal S1x128x256 .bf16 from iblk m c 11 t) (ix3 0 a l) = keys m c (AttnMath.tok 16 (t.val / 32) (((t.val % 32 % 2) - 1) * 128 + a.val) (t.val % 32 / 2)) (AttnMath.col 2 l.val) := by
  have ht : t.val < 256 := lt_of_lt_of_eq t.isLt N_0
  blk_simp [iblk, idx t]
  entry_read
  pointwise [keys, AttnMath.tok, AttnMath.col]
  blk_ext [idx t]

theorem kc2_at (c : Dev nD) (t : Fin cfg0.N) (a : Fin 128) (l : Fin 256) :
    (show FVec Ideal S1x128x256 .bf16 from iblk m c 12 t) (ix3 0 a l) = keys m c (AttnMath.tok 16 (t.val / 32) ((t.val % 32 % 2) * 128 + a.val) (t.val % 32 / 2)) (AttnMath.col 2 l.val) := by
  have ht : t.val < 256 := lt_of_lt_of_eq t.isLt N_0
  blk_simp [iblk, idx t]
  entry_read
  pointwise [keys, AttnMath.tok, AttnMath.col]
  blk_ext [idx t]

theorem vp2_at (c : Dev nD) (t : Fin cfg0.N) (a : Fin 128) (l : Fin 256) :
    (show FVec Ideal S1x128x256 .bf16 from iblk m c 13 t) (ix3 0 a l) = vals m c (AttnMath.tok 16 (t.val / 32) (((t.val % 32 % 2) - 1) * 128 + a.val) (t.val % 32 / 2)) (AttnMath.col 2 l.val) := by
  have ht : t.val < 256 := lt_of_lt_of_eq t.isLt N_0
  blk_simp [iblk, idx t]
  entry_read
  pointwise [vals, AttnMath.tok, AttnMath.col]
  blk_ext [idx t]

theorem vc2_at (c : Dev nD) (t : Fin cfg0.N) (a : Fin 128) (l : Fin 256) :
    (show FVec Ideal S1x128x256 .bf16 from iblk m c 14 t) (ix3 0 a l) = vals m c (AttnMath.tok 16 (t.val / 32) ((t.val % 32 % 2) * 128 + a.val) (t.val % 32 / 2)) (AttnMath.col 2 l.val) := by
  have ht : t.val < 256 := lt_of_lt_of_eq t.isLt N_0
  blk_simp [iblk, idx t]
  entry_read
  pointwise [vals, AttnMath.tok, AttnMath.col]
  blk_ext [idx t]

/-- The candidate keys within reach lie where the subsequence continues backwards. -/
theorem k2_pair (c : Dev nD) (t : Fin cfg0.N) (a : ℕ) (j l : Fin 256) (h : AttnMath.reach (0 < t.val % 32 % 2) a j.val) :
    pair (iblk m c 11 t) (iblk m c 12 t) j l = keys m c (AttnMath.tok 16 (t.val / 32) ((t.val % 32 % 2) * 128 + j.val - 128) (t.val % 32 / 2)) (AttnMath.col 2 l.val) := by
  have h2 := h.2
  unfold pair
  split_ifs with hj
  · refine (kp2_at m c t ⟨j.val, hj⟩ l).trans ?_
    have : ((t.val % 32 % 2) - 1) * 128 + j.val = (t.val % 32 % 2) * 128 + j.val - 128 := by omega
    rw [this]
  · refine (kc2_at m c t ⟨j.val - 128, by omega⟩ l).trans ?_
    have : (t.val % 32 % 2) * 128 + (j.val - 128) = (t.val % 32 % 2) * 128 + j.val - 128 := by omega
    rw [this]

/-- The candidate keys within reach lie where the subsequence continues backwards. -/
theorem v2_pair (c : Dev nD) (t : Fin cfg0.N) (a : ℕ) (j l : Fin 256) (h : AttnMath.reach (0 < t.val % 32 % 2) a j.val) :
    pair (iblk m c 13 t) (iblk m c 14 t) j l = vals m c (AttnMath.tok 16 (t.val / 32) ((t.val % 32 % 2) * 128 + j.val - 128) (t.val % 32 / 2)) (AttnMath.col 2 l.val) := by
  have h2 := h.2
  unfold pair
  split_ifs with hj
  · refine (vp2_at m c t ⟨j.val, hj⟩ l).trans ?_
    have : ((t.val % 32 % 2) - 1) * 128 + j.val = (t.val % 32 % 2) * 128 + j.val - 128 := by omega
    rw [this]
  · refine (vc2_at m c t ⟨j.val - 128, by omega⟩ l).trans ?_
    have : (t.val % 32 % 2) * 128 + (j.val - 128) = (t.val % 32 % 2) * 128 + j.val - 128 := by omega
    rw [this]

/-- Result array 19 as one function of the argument arrays. -/
def result19 (c : Dev nD) : FVec Ideal S8x256x4096 .f32 := fun y => AttnMath.attnO (query m c) (keys m c) (vals m c) 16 2 (show Fin 8 from y 0).val ((show Fin 4096 from y 2).val / 256) ((show Fin 256 from y 1).val / 128) ((show Fin 256 from y 1).val % 128) ((show Fin 4096 from y 2).val % 256)

theorem point19 (c : Dev nD) (hQ : ∀ t l, ∃ r : ℝ, query m c t l = r) (hK : ∀ t l, ∃ r : ℝ, keys m c t l = r) (t : Fin cfg0.N) (y : S1x128x256.Idx) :
    k0_pay20 (F := Ideal) mask0 mask1 mask2 mask3 (valid2 (grid0.coords t 1).val) (k0_pay14 (iblk m c 13 t) (iblk m c 14 t)) (k0_pay15 mask0 mask1 mask2 mask3 (iblk m c 10 t) (iblk m c 11 t) (iblk m c 12 t)) y = result19 m c (((cfg0.win 19).blk t).view.emb y) := by
  idx_vars y
  have ht : t.val < 256 := lt_of_lt_of_eq t.isLt N_0
  have hemb : ((cfg0.win 19).blk t).view.emb (ix3 y0 y1 y2) = (ix3 ⟨t.val / 32, by omega⟩ ⟨(t.val % 32 % 2) * 128 + y1.val, by omega⟩ ⟨(t.val % 32 / 2) * 256 + y2.val, by omega⟩ : S8x256x4096.Idx) := by
    blk_ext [idx t]
  obtain rfl : y0 = 0 := Subsingleton.elim _ _
  rw [hemb, coord t]
  have hV := fun r j => valid2_at ⟨t.val % 32, Nat.mod_lt _ (by decide)⟩ r j
  refine (out_at (hV) _ _ _ _ _ y1 y2 (AttnMath.score (query m c) (keys m c) 16 2 (t.val / 32) (t.val % 32 / 2) (t.val % 32 % 2) y1.val (y2.val / 64)) (fun j hj => by
      simp only [AttnMath.score]
      refine Finset.sum_congr rfl fun e _ => ?_
      exact congrArg₂ (· * ·) (q2_at m c t y1 _) (k2_pair m c t _ j _ hj))
    (fun j => AttnMath.score_real _ _ hQ hK _ _ _ _ _ _ _ j) (AttnMath.value (vals m c) 16 2 (t.val / 32) (t.val % 32 / 2) (t.val % 32 % 2) y2.val) fun j hj => v2_pair m c t _ j y2 hj).trans ?_
  have e1 : ((t.val % 32 % 2) * 128 + y1.val) / 128 = t.val % 32 % 2 := by omega
  have e2 : ((t.val % 32 % 2) * 128 + y1.val) % 128 = y1.val := by omega
  have e3 : ((t.val % 32 / 2) * 256 + y2.val) / 256 = t.val % 32 / 2 := by omega
  have e4 : ((t.val % 32 / 2) * 256 + y2.val) % 256 = y2.val := by omega
  show _ = AttnMath.attnO (query m c) (keys m c) (vals m c) 16 2 (t.val / 32) (((t.val % 32 / 2) * 256 + y2.val) / 256) (((t.val % 32 % 2) * 128 + y1.val) / 128) (((t.val % 32 % 2) * 128 + y1.val) % 128) (((t.val % 32 / 2) * 256 + y2.val) % 256)
  rw [e1, e2, e3, e4]
  rfl

theorem final19 (c : Dev nD) (hQ : ∀ t l, ∃ r : ℝ, query m c t l = r) (hK : ∀ t l, ∃ r : ℝ, keys m c t l = r) : (dats m 0 c).arrAt 19 (cfgs 0).N = result19 m c := by
  refine (dats m 0 c).arrAt_eq_of_covers 19 _ (by decide +kernel) fun t _ y => ?_
  blk_simp
  rw [after0_19, out19_eq]
  exact point19 m c hQ hK t y

/-- Result array 20 as one function of the argument arrays. -/
def result20 (c : Dev nD) : FVec Ideal S8x256x4096 .f32 := fun y => AttnMath.attnL (query m c) (keys m c) 16 2 (show Fin 8 from y 0).val ((show Fin 4096 from y 2).val / 256) ((show Fin 256 from y 1).val / 128) ((show Fin 256 from y 1).val % 128) ((show Fin 4096 from y 2).val % 256)

theorem point20 (c : Dev nD) (t : Fin cfg0.N) (y : S1x128x256.Idx) :
    k0_pay21 (F := Ideal) mask0 mask1 mask2 mask3 (valid2 (grid0.coords t 1).val) (k0_pay15 mask0 mask1 mask2 mask3 (iblk m c 10 t) (iblk m c 11 t) (iblk m c 12 t)) y = result20 m c (((cfg0.win 20).blk t).view.emb y) := by
  idx_vars y
  have ht : t.val < 256 := lt_of_lt_of_eq t.isLt N_0
  have hemb : ((cfg0.win 20).blk t).view.emb (ix3 y0 y1 y2) = (ix3 ⟨t.val / 32, by omega⟩ ⟨(t.val % 32 % 2) * 128 + y1.val, by omega⟩ ⟨(t.val % 32 / 2) * 256 + y2.val, by omega⟩ : S8x256x4096.Idx) := by
    blk_ext [idx t]
  obtain rfl : y0 = 0 := Subsingleton.elim _ _
  rw [hemb, coord t]
  have hV := fun r j => valid2_at ⟨t.val % 32, Nat.mod_lt _ (by decide)⟩ r j
  refine (lse_at (hV) _ _ _ y1 y2 (AttnMath.score (query m c) (keys m c) 16 2 (t.val / 32) (t.val % 32 / 2) (t.val % 32 % 2) y1.val (y2.val / 64)) (fun j hj => by
      simp only [AttnMath.score]
      refine Finset.sum_congr rfl fun e _ => ?_
      exact congrArg₂ (· * ·) (q2_at m c t y1 _) (k2_pair m c t _ j _ hj))).trans ?_
  have e1 : ((t.val % 32 % 2) * 128 + y1.val) / 128 = t.val % 32 % 2 := by omega
  have e2 : ((t.val % 32 % 2) * 128 + y1.val) % 128 = y1.val := by omega
  have e3 : ((t.val % 32 / 2) * 256 + y2.val) / 256 = t.val % 32 / 2 := by omega
  have e4 : ((t.val % 32 / 2) * 256 + y2.val) % 256 = y2.val := by omega
  show _ = AttnMath.attnL (query m c) (keys m c) 16 2 (t.val / 32) (((t.val % 32 / 2) * 256 + y2.val) / 256) (((t.val % 32 % 2) * 128 + y1.val) / 128) (((t.val % 32 % 2) * 128 + y1.val) % 128) (((t.val % 32 / 2) * 256 + y2.val) % 256)
  rw [e1, e2, e3, e4]
  rfl

theorem final20 (c : Dev nD) : (dats m 0 c).arrAt 20 (cfgs 0).N = result20 m c := by
  refine (dats m 0 c).arrAt_eq_of_covers 20 _ (by decide +kernel) fun t _ y => ?_
  blk_simp
  rw [after0_20, out20_eq]
  exact point20 m c t y

end Cert.AttnIdeal.KernelValue

end
-- ==== Proof.AttnBits.lean ====
/- The bits of the attention reference's mask, in plain words. -/
module

public import proofs.«01_k».proof.Proof.Gen.AttnRefIdeal.Read
public import proofs.«01_k».proof.Proof.AttnMath
public import proofs.«01_k».proof.Proof.Consts
public import Idealize.ShloMosaic.Lib.Pointwise
public import Idealize.ShloMosaic.Lib.Pipeline.ValueKit

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem
open Cert.AttnMath

variable (x0 x1 x2 : FVec Ideal S32768x768 .bf16)

section Rank6
variable {n0 n1 n2 n3 n4 n5 : ℕ}

/-- The entries that drop to a given index, when the last of six axes is dropped. -/
theorem fiber6 (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem max6 (h : (⟨6, ![n0, n1, n2, n3, n4, n5]⟩ : Shape).ReducesTo [5] ⟨5, ![n0, n1, n2, n3, n4]⟩)
    (a : Fin n0) (b : Fin n1) (c : Fin n2) (d : Fin n3) (e : Fin n4) (z : EReal) (v : (⟨6, ![n0, n1, n2, n3, n4, n5]⟩ : Shape).Idx → EReal) :
    Finset.fold max z v (Finset.univ.filter fun i => h.drop i = ix5 a b c d e)
      = (Finset.univ : Finset (Fin n5)).fold max z (fun k => v (ix6 a b c d e k)) :=
  Finset.fold_filter_eq_fold_of_fiber max _ (fun k : Fin n5 => ix6 a b c d e k) (fun _ _ q => congrFun q 5) (fiber6 h a b c d e) z v

theorem sum6 (h : (⟨6, ![n0, n1, n2, n3, n4, n5]⟩ : Shape).ReducesTo [5] ⟨5, ![n0, n1, n2, n3, n4]⟩)
    (a : Fin n0) (b : Fin n1) (c : Fin n2) (d : Fin n3) (e : Fin n4) (z : EReal) (v : (⟨6, ![n0, n1, n2, n3, n4, n5]⟩ : Shape).Idx → EReal) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ q => congrFun q 5) (fiber6 h a b c d e) v)

end Rank6

theorem select_bit (b : BitVec 1) (x y : EReal) : Scalar.select b x y = if b = 1#1 then x else y := rfl
theorem neg_inf : Ideal.ofBits .f32 0xFF800000#32 = ⊥ := by simp [Ideal.ofBits, Ideal.ieee]

theorem near_bits : ∀ (a : Fin 128) (j : Fin 256), IntOp.andi
        (IntOp.cmpi CmpIPredicate.sge (IntOp.subi (IntOp.addi (BitVec.ofNat 32 a.val) 128#32) (BitVec.ofNat 32 j.val)) 0#32)
        (IntOp.cmpi CmpIPredicate.sle (IntOp.subi (IntOp.addi (BitVec.ofNat 32 a.val) 128#32) (BitVec.ofNat 32 j.val)) 128#32)
      = if a.val ≤ j.val ∧ j.val ≤ a.val + 128 then 1#1 else 0#1 := by decide +kernel

theorem prev_bits : ∀ (i : Fin 32) (j : Fin 256), IntOp.cmpi CmpIPredicate.sge
        (IntOp.subi (IntOp.addi (IntOp.muli (BitVec.ofNat 32 i.val) 128#32) (BitVec.ofNat 32 j.val)) 128#32) 0#32
      = if 0 < i.val ∨ 128 ≤ j.val then 1#1 else 0#1 := by decide +kernel

theorem both_bits (p q : Prop) [Decidable p] [Decidable q] [Decidable (p ∧ q)] :
    IntOp.andi (if p then 1#1 else 0#1) (if q then 1#1 else 0#1) = if p ∧ q then 1#1 else 0#1 := by
  by_cases hp : p <;> by_cases hq : q <;> simp [hp, hq] <;> decide

/-- The mask's bits, in plain words: key `j` is within reach of query `a`. -/
theorem reach_bits (i : ℕ) (hi : i < 32) (a : Fin 128) (j : Fin 256) : IntOp.andi (IntOp.andi
        (IntOp.cmpi CmpIPredicate.sge (IntOp.subi (IntOp.addi (BitVec.ofNat 32 a.val) 128#32) (BitVec.ofNat 32 j.val)) 0#32)
        (IntOp.cmpi CmpIPredicate.sle (IntOp.subi (IntOp.addi (BitVec.ofNat 32 a.val) 128#32) (BitVec.ofNat 32 j.val)) 128#32))
      (IntOp.cmpi CmpIPredicate.sge
        (IntOp.subi (IntOp.addi (IntOp.muli (BitVec.ofNat 32 i) 128#32) (BitVec.ofNat 32 j.val)) 128#32) 0#32)
      = if reach (0 < i) a.val j.val then 1#1 else 0#1 := by
  have h := prev_bits ⟨i, hi⟩ j
  dsimp only at h
  rw [near_bits, h, both_bits]
  rfl

/-- Dropping a trailing axis of size one keeps the other coordinates. -/
theorem drop_last {a b c d e : ℕ} (h : (⟨5, ![a, b, c, d, e]⟩ : Shape).numel = (⟨6, ![a, b, c, d, e, 1]⟩ : Shape).numel)
    (x : Fin a) (y : Fin b) (z : Fin c) (u : Fin d) (v : Fin e) :
    Shape.reshapeEquiv h (ix5 x y z u v) = ix6 x y z u v (0 : Fin 1) :=
  Shape.reshapeEquiv_eq_of_rowMajor h (by
    rw [Shape.rowMajor_val_six, Shape.rowMajor_val_five]
    show (((((x.val * b + y.val) * c + z.val) * d + u.val) * e + v.val) * 1 + 0) = (((x.val * b + y.val) * c + z.val) * d + u.val) * e + v.val
    simp only [Nat.mul_one, Nat.add_zero])

end Cert.AttnRefIdeal.RefValue

end
-- ==== Proof.AttnRef0.lean ====
/- The attention reference's results, read at an entry. -/
module

public import proofs.«01_k».proof.Proof.Gen.AttnRefIdeal.Read
public import proofs.«01_k».proof.Proof.AttnMath
public import proofs.«01_k».proof.Proof.AttnBits
public import Idealize.ShloMosaic.Lib.Pointwise
public import Idealize.ShloMosaic.Lib.Pipeline.ValueKit

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem
open Cert.AttnMath

variable (x0 x1 x2 : FVec Ideal S32768x768 .bf16)

/-! ## Group 0 -/

theorem q_at0 (b : Fin 8) (i : Fin 32) (a : Fin 128) (h : Fin 4) (e : Fin 64) :
    val_main_v11 (F := Ideal) x0 (ix6 b 0 i a h e) = x0 (ix2 (tok 1 b (i.val * 128 + a.val) 0) (col 0 (h.val * 64 + e.val))) := by
  pointwise [val_main_v11, val_main_v10, val_main_v9, val_main_v6, val_main_v1, val_main_v0]
  unfold tok col
  blk_ext

theorem k_at0 (b : Fin 8) (i : Fin 32) (j : Fin 256) (h : Fin 4) (e : Fin 64) (hh : 128 ≤ i.val * 128 + j.val) :
    val_main_v18 (F := Ideal) x1 (ix6 b 0 i j h e) = x1 (ix2 (tok 1 b (i.val * 128 + j.val - 128) 0) (col 0 (h.val * 64 + e.val))) := by
  pointwise [val_main_v18, val_main_v17, val_main_v16, val_main_v15, val_main_cst, val_main_v14, val_main_v13, val_main_v12, val_main_v7, val_main_v3, val_main_v2]
  unfold tok col
  split_ifs <;> first | (exfalso; omega) | (refine congrArg x1 ?_; blk_ext)

theorem v_at0 (b : Fin 8) (i : Fin 32) (j : Fin 256) (h : Fin 4) (e : Fin 64) (hh : 128 ≤ i.val * 128 + j.val) :
    val_main_v25 (F := Ideal) x2 (ix6 b 0 i j h e) = x2 (ix2 (tok 1 b (i.val * 128 + j.val - 128) 0) (col 0 (h.val * 64 + e.val))) := by
  pointwise [val_main_v25, val_main_v24, val_main_v23, val_main_v22, val_main_cst_0, val_main_v21, val_main_v20, val_main_v19, val_main_v8, val_main_v5, val_main_v4]
  unfold tok col
  split_ifs <;> first | (exfalso; omega) | (refine congrArg x2 ?_; blk_ext)

theorem ok_at0 (b : Fin 8) (i : Fin 32) (h : Fin 4) (a : Fin 128) (j : Fin 256) :
    val_main_v47 (F := Ideal) (ix6 b 0 i h a j) = if reach (0 < i.val) a.val j.val then 1#1 else 0#1 := by
  pointwise [val_main_v47, val_main_v46, val_main_v45, val_main_v44, val_main_v43, val_main_c_5, val_main_v42, val_main_v41, val_main_c_4, val_main_v40, val_main_v39, val_main_v38, val_main_c_3, val_main_v37, val_main_v36, val_main_v35, val_main_c_2, val_main_v34, val_main_v33, val_main_c_1, val_main_v32, val_main_v31, val_main_v30, val_main_c, val_main_v29, val_main_v28, val_main_v27]
  exact reach_bits i.val (by omega) a j

theorem score_at0 (b : Fin 8) (i : Fin 32) (h : Fin 4) (a : Fin 128) (j : Fin 256) (hh : 128 ≤ i.val * 128 + j.val) :
    val_main_v26 (F := Ideal) x0 x1 (ix6 b 0 i h a j) = (score (fun t l => x0 (ix2 t l)) (fun t l => x1 (ix2 t l)) 1 0 b 0 i a h) j := by
  pointwise [val_main_v26]
  refine Finset.sum_congr rfl fun e _ => ?_
  refine (congrArg₂ (· * ·) (congrArg (val_main_v11 (F := Ideal) x0) (?_ : _ = ix6 b 0 i a h e)) (congrArg (val_main_v18 (F := Ideal) x1) (?_ : _ = ix6 b 0 i j h e))).trans
    (congrArg₂ (· * ·) (q_at0 x0 b i a h e) (k_at0 x1 b i j h e hh))
  · blk_ext
  · blk_ext

theorem masked_at0 (b : Fin 8) (i : Fin 32) (h : Fin 4) (a : Fin 128) (j : Fin 256) :
    val_main_v49 (F := Ideal) x0 x1 (ix6 b 0 i h a j) = masked (fun j : Fin 256 => reach (0 < i.val) a.val j.val) (score (fun t l => x0 (ix2 t l)) (fun t l => x1 (ix2 t l)) 1 0 b 0 i a h) j := by
  have e : val_main_v49 (F := Ideal) x0 x1 (ix6 b 0 i h a j) = (if val_main_v47 (F := Ideal) (ix6 b 0 i h a j) = 1#1 then val_main_v26 (F := Ideal) x0 x1 (ix6 b 0 i h a j) else Ideal.ofBits .f32 0xFF800000#32) := by
    pointwise [val_main_v49, val_main_v48, val_main_cst_6]
    exact select_bit _ _ _
  rw [e, ok_at0]
  unfold masked
  by_cases hr : reach (0 < i.val) a.val j.val
  · rw [if_pos hr, if_pos rfl, if_pos hr]
    exact score_at0 x0 x1 b i h a j (by obtain ⟨_, hp | hp⟩ := hr <;> omega)
  · rw [if_neg hr, if_neg (by decide), if_neg hr]
    exact neg_inf

theorem top_at0 (b : Fin 8) (i : Fin 32) (h : Fin 4) (a : Fin 128) :
    val_main_v50 (F := Ideal) x0 x1 (ix5 b 0 i h a) = top (fun j : Fin 256 => reach (0 < i.val) a.val j.val) (score (fun t l => x0 (ix2 t l)) (fun t l => x1 (ix2 t l)) 1 0 b 0 i a h) := by
  pointwise [val_main_v50, val_main_cst_7]
  refine (max6 _ b 0 i h a _ _).trans ?_
  rw [neg_inf]
  exact congrArg (Finset.fold max ⊥ · Finset.univ) (funext fun j => masked_at0 x0 x1 b i h a j)

theorem weight_at0 (b : Fin 8) (i : Fin 32) (h : Fin 4) (a : Fin 128) (j : Fin 256) :
    val_main_v54 (F := Ideal) x0 x1 (ix6 b 0 i h a j) = weight (fun j : Fin 256 => reach (0 < i.val) a.val j.val) (score (fun t l => x0 (ix2 t l)) (fun t l => x1 (ix2 t l)) 1 0 b 0 i a h) j := by
  pointwise [val_main_v54, val_main_v53, val_main_v52, val_main_v51]
  exact congrArg Ideal.exp (congrArg₂ (· - ·) (masked_at0 x0 x1 b i h a j) (top_at0 x0 x1 b i h a))

theorem den_at0 (b : Fin 8) (i : Fin 32) (h : Fin 4) (a : Fin 128) :
    val_main_v55 (F := Ideal) x0 x1 (ix5 b 0 i h a) = den (fun j : Fin 256 => reach (0 < i.val) a.val j.val) (score (fun t l => x0 (ix2 t l)) (fun t l => x1 (ix2 t l)) 1 0 b 0 i a h) := by
  pointwise [val_main_v55, val_main_cst_8]
  refine (sum6 _ b 0 i h a _ _).trans ((zero_add _).trans ?_)
  exact Finset.sum_congr rfl fun j _ => weight_at0 x0 x1 b i h a j

theorem o_at0 (b : Fin 8) (i : Fin 32) (h : Fin 4) (a : Fin 128) (e : Fin 64) :
    val_main_v59 (F := Ideal) x0 x1 x2 (ix6 b 0 i h e a) = out (fun j : Fin 256 => reach (0 < i.val) a.val j.val) (score (fun t l => x0 (ix2 t l)) (fun t l => x1 (ix2 t l)) 1 0 b 0 i a h) (fun j => val_main_v25 (F := Ideal) x2 (ix6 b 0 i j h e)) := by
  pointwise [val_main_v59, val_main_v58, val_main_v57, val_main_v56]
  refine Finset.sum_congr rfl fun j _ => (mul_comm _ _).trans ?_
  exact congrArg₂ (· * ·) (congrArg₂ Ideal.div (weight_at0 x0 x1 b i h a j) (den_at0 x0 x1 b i h a)) rfl

end Cert.AttnRefIdeal.RefValue

end
-- ==== Proof.AttnOut0.lean ====
/- The attention reference's two results of group 0, as the closed forms of `Cert.AttnMath`. -/
module

public import proofs.«01_k».proof.Proof.Gen.AttnRefIdeal.Read
public import proofs.«01_k».proof.Proof.AttnMath
public import proofs.«01_k».proof.Proof.AttnBits
public import proofs.«01_k».proof.Proof.AttnRef0
public import Idealize.ShloMosaic.Lib.Pointwise
public import Idealize.ShloMosaic.Lib.Pipeline.ValueKit

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem
open Cert.AttnMath

variable (x0 x1 x2 : FVec Ideal S32768x768 .bf16)

theorem flat_at0 (b : Fin 8) (i : Fin 32) (h : Fin 4) (a : Fin 128) : val_main_v63 (F := Ideal) x0 x1 (ix5 b 0 i h a) = val_main_v62 (F := Ideal) x0 x1 (ix6 b 0 i h a 0) := by
  unfold val_main_v63
  exact congrArg (val_main_v62 (F := Ideal) x0 x1) (drop_last _ b 0 i h a)

theorem l_at0 (b : Fin 8) (i : Fin 32) (h : Fin 4) (a : Fin 128) :
    val_main_v62 (F := Ideal) x0 x1 (ix6 b 0 i h a 0) = lse (fun j : Fin 256 => reach (0 < i.val) a.val j.val) (score (fun t l => x0 (ix2 t l)) (fun t l => x1 (ix2 t l)) 1 0 b 0 i a h) := by
  rw [val_main_v62_apply, val_main_v61_apply, val_main_v56_apply, val_main_v51_apply,
    show idx_main_v56 (ix6 b 0 i h a 0) = ix5 b 0 i h a from by funext k; fin_cases k <;> rfl,
    show idx_main_v51 (ix6 b 0 i h a 0) = ix5 b 0 i h a from by funext k; fin_cases k <;> rfl, top_at0, den_at0]
  unfold lse
  rfl

/-- The reference's attention result of group 0. -/
theorem o_value0 (hQ : ∀ t l, ∃ r : ℝ, x0 (ix2 t l) = r) (hK : ∀ t l, ∃ r : ℝ, x1 (ix2 t l) = r)
    (b : Fin 8) (s : Fin 4096) (w : Fin 256) :
    val_main_v71 (F := Ideal) x0 x1 x2 (ix3 b s w) = attnO (fun t l => x0 (ix2 t l)) (fun t l => x1 (ix2 t l)) (fun t l => x2 (ix2 t l)) 1 0 b (w.val / 256) (s.val / 128) (s.val % 128) (w.val % 256) := by
  have e : val_main_v71 (F := Ideal) x0 x1 x2 (ix3 b s w) = val_main_v59 (F := Ideal) x0 x1 x2
      (ix6 b 0 ⟨s.val / 128, by omega⟩ ⟨w.val % 256 / 64, by omega⟩ ⟨w.val % 256 % 64, by omega⟩ ⟨s.val % 128, by omega⟩) := by
    pointwise [val_main_v71, val_main_v67, val_main_v66, val_main_v65, val_main_v60]
    refine congrArg (val_main_v59 (F := Ideal) x0 x1 x2) (?_ : _ = ix6 b 0 ⟨s.val / 128, by omega⟩ ⟨w.val % 256 / 64, by omega⟩ ⟨w.val % 256 % 64, by omega⟩ ⟨s.val % 128, by omega⟩)
    blk_ext
  rw [e, o_at0]
  unfold attnO
  have hw : w.val / 256 = 0 := Nat.div_eq_of_lt w.isLt
  rw [hw]
  refine out_value (fun j _ => score_real _ _ hQ hK _ _ _ _ _ _ _ j) (reach_self _ _ (Nat.mod_lt _ (by decide))) _ _ fun j hj => ?_
  refine (v_at0 x2 b _ j _ _ (by obtain ⟨_, hp | hp⟩ := hj <;> dsimp only at * <;> omega)).trans ?_
  unfold value
  refine congrArg x2 ?_
  unfold tok col
  blk_ext

/-- The reference's log-sum-exp of group 0. -/
theorem l_value0 (b : Fin 8) (s : Fin 4096) (w : Fin 256) :
    val_main_v74 (F := Ideal) x0 x1 (ix3 b s w) = attnL (fun t l => x0 (ix2 t l)) (fun t l => x1 (ix2 t l)) 1 0 b (w.val / 256) (s.val / 128) (s.val % 128) (w.val % 256) := by
  have e : val_main_v74 (F := Ideal) x0 x1 (ix3 b s w) = val_main_v63 (F := Ideal) x0 x1
      (ix5 b 0 ⟨s.val / 128, by omega⟩ ⟨w.val % 256 / 64, by omega⟩ ⟨s.val % 128, by omega⟩) := by
    pointwise [val_main_v74, val_main_v73, val_main_v72, val_main_v70, val_main_v69, val_main_v68, val_main_v64]
    refine congrArg (val_main_v63 (F := Ideal) x0 x1) (?_ : _ = ix5 b 0 ⟨s.val / 128, by omega⟩ ⟨w.val % 256 / 64, by omega⟩ ⟨s.val % 128, by omega⟩)
    blk_ext
  rw [e, flat_at0, l_at0]
  unfold attnL
  have hw : w.val / 256 = 0 := Nat.div_eq_of_lt w.isLt
  rw [hw]
  try rfl

end Cert.AttnRefIdeal.RefValue

end
-- ==== Proof.AttnRef1.lean ====
/- The attention reference's results, read at an entry. -/
module

public import proofs.«01_k».proof.Proof.Gen.AttnRefIdeal.Read
public import proofs.«01_k».proof.Proof.AttnMath
public import proofs.«01_k».proof.Proof.AttnBits
public import Idealize.ShloMosaic.Lib.Pointwise
public import Idealize.ShloMosaic.Lib.Pipeline.ValueKit

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem
open Cert.AttnMath

variable (x0 x1 x2 : FVec Ideal S32768x768 .bf16)

/-! ## Group 1 -/

theorem q_at1 (b : Fin 8) (c : Fin 4) (i : Fin 8) (a : Fin 128) (h : Fin 4) (e : Fin 64) :
    val_main_v80 (F := Ideal) x0 (ix6 b c i a h e) = x0 (ix2 (tok 4 b (i.val * 128 + a.val) c) (col 1 (h.val * 64 + e.val))) := by
  pointwise [val_main_v80, val_main_v79, val_main_v78, val_main_v75, val_main_v1, val_main_v0]
  unfold tok col
  blk_ext

theorem k_at1 (b : Fin 8) (c : Fin 4) (i : Fin 8) (j : Fin 256) (h : Fin 4) (e : Fin 64) (hh : 128 ≤ i.val * 128 + j.val) :
    val_main_v87 (F := Ideal) x1 (ix6 b c i j h e) = x1 (ix2 (tok 4 b (i.val * 128 + j.val - 128) c) (col 1 (h.val * 64 + e.val))) := by
  pointwise [val_main_v87, val_main_v86, val_main_v85, val_main_v84, val_main_cst_9, val_main_v83, val_main_v82, val_main_v81, val_main_v76, val_main_v3, val_main_v2]
  unfold tok col
  split_ifs <;> first | (exfalso; omega) | (refine congrArg x1 ?_; blk_ext)

theorem v_at1 (b : Fin 8) (c : Fin 4) (i : Fin 8) (j : Fin 256) (h : Fin 4) (e : Fin 64) (hh : 128 ≤ i.val * 128 + j.val) :
    val_main_v94 (F := Ideal) x2 (ix6 b c i j h e) = x2 (ix2 (tok 4 b (i.val * 128 + j.val - 128) c) (col 1 (h.val * 64 + e.val))) := by
  pointwise [val_main_v94, val_main_v93, val_main_v92, val_main_v91, val_main_cst_10, val_main_v90, val_main_v89, val_main_v88, val_main_v77, val_main_v5, val_main_v4]
  unfold tok col
  split_ifs <;> first | (exfalso; omega) | (refine congrArg x2 ?_; blk_ext)

theorem ok_at1 (b : Fin 8) (c : Fin 4) (i : Fin 8) (h : Fin 4) (a : Fin 128) (j : Fin 256) :
    val_main_v116 (F := Ideal) (ix6 b c i h a j) = if reach (0 < i.val) a.val j.val then 1#1 else 0#1 := by
  pointwise [val_main_v116, val_main_v115, val_main_v114, val_main_v113, val_main_v112, val_main_c_16, val_main_v111, val_main_v110, val_main_c_15, val_main_v109, val_main_v108, val_main_v107, val_main_c_14, val_main_v106, val_main_v105, val_main_v104, val_main_c_13, val_main_v103, val_main_v102, val_main_c_12, val_main_v101, val_main_v100, val_main_v99, val_main_c_11, val_main_v98, val_main_v97, val_main_v96]
  exact reach_bits i.val (by omega) a j

theorem score_at1 (b : Fin 8) (c : Fin 4) (i : Fin 8) (h : Fin 4) (a : Fin 128) (j : Fin 256) (hh : 128 ≤ i.val * 128 + j.val) :
    val_main_v95 (F := Ideal) x0 x1 (ix6 b c i h a j) = (score (fun t l => x0 (ix2 t l)) (fun t l => x1 (ix2 t l)) 4 1 b c i a h) j := by
  pointwise [val_main_v95]
  refine Finset.sum_congr rfl fun e _ => ?_
  refine (congrArg₂ (· * ·) (congrArg (val_main_v80 (F := Ideal) x0) (?_ : _ = ix6 b c i a h e)) (congrArg (val_main_v87 (F := Ideal) x1) (?_ : _ = ix6 b c i j h e))).trans
    (congrArg₂ (· * ·) (q_at1 x0 b c i a h e) (k_at1 x1 b c i j h e hh))
  · blk_ext
  · blk_ext

theorem masked_at1 (b : Fin 8) (c : Fin 4) (i : Fin 8) (h : Fin 4) (a : Fin 128) (j : Fin 256) :
    val_main_v118 (F := Ideal) x0 x1 (ix6 b c i h a j) = masked (fun j : Fin 256 => reach (0 < i.val) a.val j.val) (score (fun t l => x0 (ix2 t l)) (fun t l => x1 (ix2 t l)) 4 1 b c i a h) j := by
  have e : val_main_v118 (F := Ideal) x0 x1 (ix6 b c i h a j) = (if val_main_v116 (F := Ideal) (ix6 b c i h a j) = 1#1 then val_main_v95 (F := Ideal) x0 x1 (ix6 b c i h a j) else Ideal.ofBits .f32 0xFF800000#32) := by
    pointwise [val_main_v118, val_main_v117, val_main_cst_17]
    exact select_bit _ _ _
  rw [e, ok_at1]
  unfold masked
  by_cases hr : reach (0 < i.val) a.val j.val
  · rw [if_pos hr, if_pos rfl, if_pos hr]
    exact score_at1 x0 x1 b c i h a j (by obtain ⟨_, hp | hp⟩ := hr <;> omega)
  · rw [if_neg hr, if_neg (by decide), if_neg hr]
    exact neg_inf

theorem top_at1 (b : Fin 8) (c : Fin 4) (i : Fin 8) (h : Fin 4) (a : Fin 128) :
    val_main_v119 (F := Ideal) x0 x1 (ix5 b c i h a) = top (fun j : Fin 256 => reach (0 < i.val) a.val j.val) (score (fun t l => x0 (ix2 t l)) (fun t l => x1 (ix2 t l)) 4 1 b c i a h) := by
  pointwise [val_main_v119, val_main_cst_18]
  refine (max6 _ b c i h a _ _).trans ?_
  rw [neg_inf]
  exact congrArg (Finset.fold max ⊥ · Finset.univ) (funext fun j => masked_at1 x0 x1 b c i h a j)

theorem weight_at1 (b : Fin 8) (c : Fin 4) (i : Fin 8) (h : Fin 4) (a : Fin 128) (j : Fin 256) :
    val_main_v123 (F := Ideal) x0 x1 (ix6 b c i h a j) = weight (fun j : Fin 256 => reach (0 < i.val) a.val j.val) (score (fun t l => x0 (ix2 t l)) (fun t l => x1 (ix2 t l)) 4 1 b c i a h) j := by
  pointwise [val_main_v123, val_main_v122, val_main_v121, val_main_v120]
  exact congrArg Ideal.exp (congrArg₂ (· - ·) (masked_at1 x0 x1 b c i h a j) (top_at1 x0 x1 b c i h a))

theorem den_at1 (b : Fin 8) (c : Fin 4) (i : Fin 8) (h : Fin 4) (a : Fin 128) :
    val_main_v124 (F := Ideal) x0 x1 (ix5 b c i h a) = den (fun j : Fin 256 => reach (0 < i.val) a.val j.val) (score (fun t l => x0 (ix2 t l)) (fun t l => x1 (ix2 t l)) 4 1 b c i a h) := by
  pointwise [val_main_v124, val_main_cst_19]
  refine (sum6 _ b c i h a _ _).trans ((zero_add _).trans ?_)
  exact Finset.sum_congr rfl fun j _ => weight_at1 x0 x1 b c i h a j

theorem o_at1 (b : Fin 8) (c : Fin 4) (i : Fin 8) (h : Fin 4) (a : Fin 128) (e : Fin 64) :
    val_main_v128 (F := Ideal) x0 x1 x2 (ix6 b c i h e a) = out (fun j : Fin 256 => reach (0 < i.val) a.val j.val) (score (fun t l => x0 (ix2 t l)) (fun t l => x1 (ix2 t l)) 4 1 b c i a h) (fun j => val_main_v94 (F := Ideal) x2 (ix6 b c i j h e)) := by
  pointwise [val_main_v128, val_main_v127, val_main_v126, val_main_v125]
  refine Finset.sum_congr rfl fun j _ => (mul_comm _ _).trans ?_
  exact congrArg₂ (· * ·) (congrArg₂ Ideal.div (weight_at1 x0 x1 b c i h a j) (den_at1 x0 x1 b c i h a)) rfl

end Cert.AttnRefIdeal.RefValue

end
-- ==== Proof.AttnOut1.lean ====
/- The attention reference's two results of group 1, as the closed forms of `Cert.AttnMath`. -/
module

public import proofs.«01_k».proof.Proof.Gen.AttnRefIdeal.Read
public import proofs.«01_k».proof.Proof.AttnMath
public import proofs.«01_k».proof.Proof.AttnBits
public import proofs.«01_k».proof.Proof.AttnRef1
public import Idealize.ShloMosaic.Lib.Pointwise
public import Idealize.ShloMosaic.Lib.Pipeline.ValueKit

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem
open Cert.AttnMath

variable (x0 x1 x2 : FVec Ideal S32768x768 .bf16)

theorem flat_at1 (b : Fin 8) (c : Fin 4) (i : Fin 8) (h : Fin 4) (a : Fin 128) : val_main_v132 (F := Ideal) x0 x1 (ix5 b c i h a) = val_main_v131 (F := Ideal) x0 x1 (ix6 b c i h a 0) := by
  unfold val_main_v132
  exact congrArg (val_main_v131 (F := Ideal) x0 x1) (drop_last _ b c i h a)

theorem l_at1 (b : Fin 8) (c : Fin 4) (i : Fin 8) (h : Fin 4) (a : Fin 128) :
    val_main_v131 (F := Ideal) x0 x1 (ix6 b c i h a 0) = lse (fun j : Fin 256 => reach (0 < i.val) a.val j.val) (score (fun t l => x0 (ix2 t l)) (fun t l => x1 (ix2 t l)) 4 1 b c i a h) := by
  rw [val_main_v131_apply, val_main_v130_apply, val_main_v125_apply, val_main_v120_apply,
    show idx_main_v125 (ix6 b c i h a 0) = ix5 b c i h a from by funext k; fin_cases k <;> rfl,
    show idx_main_v120 (ix6 b c i h a 0) = ix5 b c i h a from by funext k; fin_cases k <;> rfl, top_at1, den_at1]
  unfold lse
  rfl

/-- The reference's attention result of group 1. -/
theorem o_value1 (hQ : ∀ t l, ∃ r : ℝ, x0 (ix2 t l) = r) (hK : ∀ t l, ∃ r : ℝ, x1 (ix2 t l) = r)
    (b : Fin 8) (s : Fin 1024) (w : Fin 1024) :
    val_main_v140 (F := Ideal) x0 x1 x2 (ix3 b s w) = attnO (fun t l => x0 (ix2 t l)) (fun t l => x1 (ix2 t l)) (fun t l => x2 (ix2 t l)) 4 1 b (w.val / 256) (s.val / 128) (s.val % 128) (w.val % 256) := by
  have e : val_main_v140 (F := Ideal) x0 x1 x2 (ix3 b s w) = val_main_v128 (F := Ideal) x0 x1 x2
      (ix6 b ⟨w.val / 256, by omega⟩ ⟨s.val / 128, by omega⟩ ⟨w.val % 256 / 64, by omega⟩ ⟨w.val % 256 % 64, by omega⟩ ⟨s.val % 128, by omega⟩) := by
    pointwise [val_main_v140, val_main_v136, val_main_v135, val_main_v134, val_main_v129]
    refine congrArg (val_main_v128 (F := Ideal) x0 x1 x2) (?_ : _ = ix6 b ⟨w.val / 256, by omega⟩ ⟨s.val / 128, by omega⟩ ⟨w.val % 256 / 64, by omega⟩ ⟨w.val % 256 % 64, by omega⟩ ⟨s.val % 128, by omega⟩)
    blk_ext
  rw [e, o_at1]
  unfold attnO
  refine out_value (fun j _ => score_real _ _ hQ hK _ _ _ _ _ _ _ j) (reach_self _ _ (Nat.mod_lt _ (by decide))) _ _ fun j hj => ?_
  refine (v_at1 x2 b _ _ j _ _ (by obtain ⟨_, hp | hp⟩ := hj <;> dsimp only at * <;> omega)).trans ?_
  unfold value
  refine congrArg x2 ?_
  unfold tok col
  blk_ext

/-- The reference's log-sum-exp of group 1. -/
theorem l_value1 (b : Fin 8) (s : Fin 1024) (w : Fin 1024) :
    val_main_v143 (F := Ideal) x0 x1 (ix3 b s w) = attnL (fun t l => x0 (ix2 t l)) (fun t l => x1 (ix2 t l)) 4 1 b (w.val / 256) (s.val / 128) (s.val % 128) (w.val % 256) := by
  have e : val_main_v143 (F := Ideal) x0 x1 (ix3 b s w) = val_main_v132 (F := Ideal) x0 x1
      (ix5 b ⟨w.val / 256, by omega⟩ ⟨s.val / 128, by omega⟩ ⟨w.val % 256 / 64, by omega⟩ ⟨s.val % 128, by omega⟩) := by
    pointwise [val_main_v143, val_main_v142, val_main_v141, val_main_v139, val_main_v138, val_main_v137, val_main_v133]
    refine congrArg (val_main_v132 (F := Ideal) x0 x1) (?_ : _ = ix5 b ⟨w.val / 256, by omega⟩ ⟨s.val / 128, by omega⟩ ⟨w.val % 256 / 64, by omega⟩ ⟨s.val % 128, by omega⟩)
    blk_ext
  rw [e, flat_at1, l_at1]
  unfold attnL
  try rfl

end Cert.AttnRefIdeal.RefValue

end
-- ==== Proof.AttnRef2.lean ====
/- The attention reference's results, read at an entry. -/
module

public import proofs.«01_k».proof.Proof.Gen.AttnRefIdeal.Read
public import proofs.«01_k».proof.Proof.AttnMath
public import proofs.«01_k».proof.Proof.AttnBits
public import Idealize.ShloMosaic.Lib.Pointwise
public import Idealize.ShloMosaic.Lib.Pipeline.ValueKit

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem
open Cert.AttnMath

variable (x0 x1 x2 : FVec Ideal S32768x768 .bf16)

/-! ## Group 2 -/

theorem q_at2 (b : Fin 8) (c : Fin 16) (i : Fin 2) (a : Fin 128) (h : Fin 4) (e : Fin 64) :
    val_main_v149 (F := Ideal) x0 (ix6 b c i a h e) = x0 (ix2 (tok 16 b (i.val * 128 + a.val) c) (col 2 (h.val * 64 + e.val))) := by
  pointwise [val_main_v149, val_main_v148, val_main_v147, val_main_v144, val_main_v1, val_main_v0]
  unfold tok col
  blk_ext

theorem k_at2 (b : Fin 8) (c : Fin 16) (i : Fin 2) (j : Fin 256) (h : Fin 4) (e : Fin 64) (hh : 128 ≤ i.val * 128 + j.val) :
    val_main_v156 (F := Ideal) x1 (ix6 b c i j h e) = x1 (ix2 (tok 16 b (i.val * 128 + j.val - 128) c) (col 2 (h.val * 64 + e.val))) := by
  pointwise [val_main_v156, val_main_v155, val_main_v154, val_main_v153, val_main_cst_20, val_main_v152, val_main_v151, val_main_v150, val_main_v145, val_main_v3, val_main_v2]
  unfold tok col
  split_ifs <;> first | (exfalso; omega) | (refine congrArg x1 ?_; blk_ext)

theorem v_at2 (b : Fin 8) (c : Fin 16) (i : Fin 2) (j : Fin 256) (h : Fin 4) (e : Fin 64) (hh : 128 ≤ i.val * 128 + j.val) :
    val_main_v163 (F := Ideal) x2 (ix6 b c i j h e) = x2 (ix2 (tok 16 b (i.val * 128 + j.val - 128) c) (col 2 (h.val * 64 + e.val))) := by
  pointwise [val_main_v163, val_main_v162, val_main_v161, val_main_v160, val_main_cst_21, val_main_v159, val_main_v158, val_main_v157, val_main_v146, val_main_v5, val_main_v4]
  unfold tok col
  split_ifs <;> first | (exfalso; omega) | (refine congrArg x2 ?_; blk_ext)

theorem ok_at2 (b : Fin 8) (c : Fin 16) (i : Fin 2) (h : Fin 4) (a : Fin 128) (j : Fin 256) :
    val_main_v185 (F := Ideal) (ix6 b c i h a j) = if reach (0 < i.val) a.val j.val then 1#1 else 0#1 := by
  pointwise [val_main_v185, val_main_v184, val_main_v183, val_main_v182, val_main_v181, val_main_c_27, val_main_v180, val_main_v179, val_main_c_26, val_main_v178, val_main_v177, val_main_v176, val_main_c_25, val_main_v175, val_main_v174, val_main_v173, val_main_c_24, val_main_v172, val_main_v171, val_main_c_23, val_main_v170, val_main_v169, val_main_v168, val_main_c_22, val_main_v167, val_main_v166, val_main_v165]
  exact reach_bits i.val (by omega) a j

theorem score_at2 (b : Fin 8) (c : Fin 16) (i : Fin 2) (h : Fin 4) (a : Fin 128) (j : Fin 256) (hh : 128 ≤ i.val * 128 + j.val) :
    val_main_v164 (F := Ideal) x0 x1 (ix6 b c i h a j) = (score (fun t l => x0 (ix2 t l)) (fun t l => x1 (ix2 t l)) 16 2 b c i a h) j := by
  pointwise [val_main_v164]
  refine Finset.sum_congr rfl fun e _ => ?_
  refine (congrArg₂ (· * ·) (congrArg (val_main_v149 (F := Ideal) x0) (?_ : _ = ix6 b c i a h e)) (congrArg (val_main_v156 (F := Ideal) x1) (?_ : _ = ix6 b c i j h e))).trans
    (congrArg₂ (· * ·) (q_at2 x0 b c i a h e) (k_at2 x1 b c i j h e hh))
  · blk_ext
  · blk_ext

theorem masked_at2 (b : Fin 8) (c : Fin 16) (i : Fin 2) (h : Fin 4) (a : Fin 128) (j : Fin 256) :
    val_main_v187 (F := Ideal) x0 x1 (ix6 b c i h a j) = masked (fun j : Fin 256 => reach (0 < i.val) a.val j.val) (score (fun t l => x0 (ix2 t l)) (fun t l => x1 (ix2 t l)) 16 2 b c i a h) j := by
  have e : val_main_v187 (F := Ideal) x0 x1 (ix6 b c i h a j) = (if val_main_v185 (F := Ideal) (ix6 b c i h a j) = 1#1 then val_main_v164 (F := Ideal) x0 x1 (ix6 b c i h a j) else Ideal.ofBits .f32 0xFF800000#32) := by
    pointwise [val_main_v187, val_main_v186, val_main_cst_28]
    exact select_bit _ _ _
  rw [e, ok_at2]
  unfold masked
  by_cases hr : reach (0 < i.val) a.val j.val
  · rw [if_pos hr, if_pos rfl, if_pos hr]
    exact score_at2 x0 x1 b c i h a j (by obtain ⟨_, hp | hp⟩ := hr <;> omega)
  · rw [if_neg hr, if_neg (by decide), if_neg hr]
    exact neg_inf

theorem top_at2 (b : Fin 8) (c : Fin 16) (i : Fin 2) (h : Fin 4) (a : Fin 128) :
    val_main_v188 (F := Ideal) x0 x1 (ix5 b c i h a) = top (fun j : Fin 256 => reach (0 < i.val) a.val j.val) (score (fun t l => x0 (ix2 t l)) (fun t l => x1 (ix2 t l)) 16 2 b c i a h) := by
  pointwise [val_main_v188, val_main_cst_29]
  refine (max6 _ b c i h a _ _).trans ?_
  rw [neg_inf]
  exact congrArg (Finset.fold max ⊥ · Finset.univ) (funext fun j => masked_at2 x0 x1 b c i h a j)

theorem weight_at2 (b : Fin 8) (c : Fin 16) (i : Fin 2) (h : Fin 4) (a : Fin 128) (j : Fin 256) :
    val_main_v192 (F := Ideal) x0 x1 (ix6 b c i h a j) = weight (fun j : Fin 256 => reach (0 < i.val) a.val j.val) (score (fun t l => x0 (ix2 t l)) (fun t l => x1 (ix2 t l)) 16 2 b c i a h) j := by
  pointwise [val_main_v192, val_main_v191, val_main_v190, val_main_v189]
  exact congrArg Ideal.exp (congrArg₂ (· - ·) (masked_at2 x0 x1 b c i h a j) (top_at2 x0 x1 b c i h a))

theorem den_at2 (b : Fin 8) (c : Fin 16) (i : Fin 2) (h : Fin 4) (a : Fin 128) :
    val_main_v193 (F := Ideal) x0 x1 (ix5 b c i h a) = den (fun j : Fin 256 => reach (0 < i.val) a.val j.val) (score (fun t l => x0 (ix2 t l)) (fun t l => x1 (ix2 t l)) 16 2 b c i a h) := by
  pointwise [val_main_v193, val_main_cst_30]
  refine (sum6 _ b c i h a _ _).trans ((zero_add _).trans ?_)
  exact Finset.sum_congr rfl fun j _ => weight_at2 x0 x1 b c i h a j

theorem o_at2 (b : Fin 8) (c : Fin 16) (i : Fin 2) (h : Fin 4) (a : Fin 128) (e : Fin 64) :
    val_main_v197 (F := Ideal) x0 x1 x2 (ix6 b c i h e a) = out (fun j : Fin 256 => reach (0 < i.val) a.val j.val) (score (fun t l => x0 (ix2 t l)) (fun t l => x1 (ix2 t l)) 16 2 b c i a h) (fun j => val_main_v163 (F := Ideal) x2 (ix6 b c i j h e)) := by
  pointwise [val_main_v197, val_main_v196, val_main_v195, val_main_v194]
  refine Finset.sum_congr rfl fun j _ => (mul_comm _ _).trans ?_
  exact congrArg₂ (· * ·) (congrArg₂ Ideal.div (weight_at2 x0 x1 b c i h a j) (den_at2 x0 x1 b c i h a)) rfl

end Cert.AttnRefIdeal.RefValue

end
-- ==== Proof.AttnOut2.lean ====
/- The attention reference's two results of group 2, as the closed forms of `Cert.AttnMath`. -/
module

public import proofs.«01_k».proof.Proof.Gen.AttnRefIdeal.Read
public import proofs.«01_k».proof.Proof.AttnMath
public import proofs.«01_k».proof.Proof.AttnBits
public import proofs.«01_k».proof.Proof.AttnRef2
public import Idealize.ShloMosaic.Lib.Pointwise
public import Idealize.ShloMosaic.Lib.Pipeline.ValueKit

@[expose] public section

set_option maxRecDepth 16384

noncomputable section

namespace Cert.AttnRefIdeal.RefValue

open Cert.AttnRefIdeal Cert.AttnRefIdeal.Gen Cert.AttnRefIdeal.Read Idealize.ShloMosaic Idealize.ShloMosaic.TcCoe Idealize.SL.Sem
open Cert.AttnMath

variable (x0 x1 x2 : FVec Ideal S32768x768 .bf16)

theorem flat_at2 (b : Fin 8) (c : Fin 16) (i : Fin 2) (h : Fin 4) (a : Fin 128) : val_main_v201 (F := Ideal) x0 x1 (ix5 b c i h a) = val_main_v200 (F := Ideal) x0 x1 (ix6 b c i h a 0) := by
  unfold val_main_v201
  exact congrArg (val_main_v200 (F := Ideal) x0 x1) (drop_last _ b c i h a)

theorem l_at2 (b : Fin 8) (c : Fin 16) (i : Fin 2) (h : Fin 4) (a : Fin 128) :
    val_main_v200 (F := Ideal) x0 x1 (ix6 b c i h a 0) = lse (fun j : Fin 256 => reach (0 < i.val) a.val j.val) (score (fun t l => x0 (ix2 t l)) (fun t l => x1 (ix2 t l)) 16 2 b c i a h) := by
  rw [val_main_v200_apply, val_main_v199_apply, val_main_v194_apply, val_main_v189_apply,
    show idx_main_v194 (ix6 b c i h a 0) = ix5 b c i h a from by funext k; fin_cases k <;> rfl,
    show idx_main_v189 (ix6 b c i h a 0) = ix5 b c i h a from by funext k; fin_cases k <;> rfl, top_at2, den_at2]
  unfold lse
  rfl

/-- The reference's attention result of group 2. -/
theorem o_value2 (hQ : ∀ t l, ∃ r : ℝ, x0 (ix2 t l) = r) (hK : ∀ t l, ∃ r : ℝ, x1 (ix2 t l) = r)
    (b : Fin 8) (s : Fin 256) (w : Fin 4096) :
    val_main_v209 (F := Ideal) x0 x1 x2 (ix3 b s w) = attnO (fun t l => x0 (ix2 t l)) (fun t l => x1 (ix2 t l)) (fun t l => x2 (ix2 t l)) 16 2 b (w.val / 256) (s.val / 128) (s.val % 128) (w.val % 256) := by
  have e : val_main_v209 (F := Ideal) x0 x1 x2 (ix3 b s w) = val_main_v197 (F := Ideal) x0 x1 x2
      (ix6 b ⟨w.val / 256, by omega⟩ ⟨s.val / 128, by omega⟩ ⟨w.val % 256 / 64, by omega⟩ ⟨w.val % 256 % 64, by omega⟩ ⟨s.val % 128, by omega⟩) := by
    pointwise [val_main_v209, val_main_v205, val_main_v204, val_main_v203, val_main_v198]
    refine congrArg (val_main_v197 (F := Ideal) x0 x1 x2) (?_ : _ = ix6 b ⟨w.val / 256, by omega⟩ ⟨s.val / 128, by omega⟩ ⟨w.val % 256 / 64, by omega⟩ ⟨w.val % 256 % 64, by omega⟩ ⟨s.val % 128, by omega⟩)
    blk_ext
  rw [e, o_at2]
  unfold attnO
  refine out_value (fun j _ => score_real _ _ hQ hK _ _ _ _ _ _ _ j) (reach_self _ _ (Nat.mod_lt _ (by decide))) _ _ fun j hj => ?_
  refine (v_at2 x2 b _ _ j _ _ (by obtain ⟨_, hp | hp⟩ := hj <;> dsimp only at * <;> omega)).trans ?_
  unfold value
  refine congrArg x2 ?_
  unfold tok col
  blk_ext

/-- The reference's log-sum-exp of group 2. -/
theorem l_value2 (b : Fin 8) (s : Fin 256) (w : Fin 4096) :
    val_main_v212 (F := Ideal) x0 x1 (ix3 b s w) = attnL (fun t l => x0 (ix2 t l)) (fun t l => x1 (ix2 t l)) 16 2 b (w.val / 256) (s.val / 128) (s.val % 128) (w.val % 256) := by
  have e : val_main_v212 (F := Ideal) x0 x1 (ix3 b s w) = val_main_v201 (F := Ideal) x0 x1
      (ix5 b ⟨w.val / 256, by omega⟩ ⟨s.val / 128, by omega⟩ ⟨w.val % 256 / 64, by omega⟩ ⟨s.val % 128, by omega⟩) := by
    pointwise [val_main_v212, val_main_v211, val_main_v210, val_main_v208, val_main_v207, val_main_v206, val_main_v202]
    refine congrArg (val_main_v201 (F := Ideal) x0 x1) (?_ : _ = ix5 b ⟨w.val / 256, by omega⟩ ⟨s.val / 128, by omega⟩ ⟨w.val % 256 / 64, by omega⟩ ⟨s.val % 128, by omega⟩)
    blk_ext
  rw [e, flat_at2, l_at2]
  unfold attnL
  try rfl

end Cert.AttnRefIdeal.RefValue

end
-- ==== Proof.PreFacts.lean ====
/- What the two preconditions say: the arrays they name hold real numbers. -/
module

public import proofs.«01_k».proof.Proof.Gen.Pre_finite_qk
public import proofs.«01_k».proof.Proof.Gen.Pre_finite_lse
public import Idealize.ShloMosaic.Lib.ReduceAll
public import Idealize.ShloMosaic.Lib.Pointwise

@[expose] public section

set_option maxRecDepth 16384

noncomputable section

namespace Cert.PreFacts

open Idealize.ShloMosaic Idealize.SL.Sem

theorem inf_top : Ideal.ofBits .f32 0x7F800000#32 = ⊤ := by simp [Ideal.ofBits, Ideal.ieee]

/-- A number whose absolute value is below infinity is real. -/
theorem real_of_bit (x : EReal) (h : BitVec.ofBool (decide (FloatOps.absf (F := Ideal) (φ := .f32) x < Ideal.ofBits .f32 0x7F800000#32)) = 1#1) :
    ∃ r : ℝ, x = r := by
  have k : max x (-x) < ⊤ := by
    have e : ∀ b : Bool, BitVec.ofBool b = 1#1 → b = true := by decide
    have q := of_decide_eq_true (e _ h)
    rw [inf_top] at q
    exact q
  induction x using EReal.rec with
  | bot => exfalso; revert k; simp
  | coe r => exact ⟨r, rfl⟩
  | top => exfalso; revert k; simp

theorem and_one (a b : BitVec 1) (h : IntOp.andi a b = 1#1) : a = 1#1 ∧ b = 1#1 := by
  revert a b; decide

instance : Subsingleton (Cert.Pre_finite_qk.S_).Idx := ⟨fun a b => funext fun i => i.elim0⟩
instance : Subsingleton (Cert.Pre_finite_lse.S_).Idx := ⟨fun a b => funext fun i => i.elim0⟩

/-- Queries and keys are real. -/
theorem qk_real (x0 x1 x2 : FVec Ideal Cert.Pre_finite_qk.S32768x768 .bf16)
    (h : Cert.Pre_finite_qk.fn (F := Ideal) x0 x1 x2 = fun _ => 1#1) :
    (∀ i, ∃ r : ℝ, x0 i = r) ∧ ∀ i, ∃ r : ℝ, x1 i = r := by
  have e := congrFun h (fun a => a.elim0)
  dsimp only [Cert.Pre_finite_qk.fn, andi] at e
  obtain ⟨e0, e1⟩ := and_one _ _ e
  constructor
  · intro i
    have k := Host.reduce_andi_all _ _ _ _ _ e0 i
    pointwise at k
    exact real_of_bit _ k
  · intro i
    have k := Host.reduce_andi_all _ _ _ _ _ e1 i
    pointwise at k
    exact real_of_bit _ k

/-- The three log-sum-exp arrays are real. -/
theorem lse_real (x0 x1 x2 x3 : FVec Ideal Cert.Pre_finite_lse.S32768x1024 .f32) (x4 : FVec Ideal Cert.Pre_finite_lse.S32768x2048 .f32)
    (x5 x6 x7 x8 x9 x10 : FVec Ideal Cert.Pre_finite_lse.S32768x256 .f32) (x11 x12 : FVec Ideal Cert.Pre_finite_lse.S1x1024 .f32)
    (x13 : FVec Ideal Cert.Pre_finite_lse.S1x1024x1024 .f32) (x14 : FVec Ideal Cert.Pre_finite_lse.S1x768x1024 .f32) (x15 : FVec Ideal Cert.Pre_finite_lse.S1x1024x1024 .f32)
    (h : Cert.Pre_finite_lse.fn (F := Ideal) x0 x1 x2 x3 x4 x5 x6 x7 x8 x9 x10 x11 x12 x13 x14 x15 = fun _ => 1#1) :
    (∀ i, ∃ r : ℝ, x6 i = r) ∧ (∀ i, ∃ r : ℝ, x8 i = r) ∧ ∀ i, ∃ r : ℝ, x10 i = r := by
  have e := congrFun h (fun a => a.elim0)
  dsimp only [Cert.Pre_finite_lse.fn, andi] at e
  obtain ⟨e01, e2⟩ := and_one _ _ e
  obtain ⟨e0, e1⟩ := and_one _ _ e01
  refine ⟨?_, ?_, ?_⟩
  · intro i
    have k := Host.reduce_andi_all _ _ _ _ _ e0 i
    pointwise at k
    exact real_of_bit _ k
  · intro i
    have k := Host.reduce_andi_all _ _ _ _ _ e1 i
    pointwise at k
    exact real_of_bit _ k
  · intro i
    have k := Host.reduce_andi_all _ _ _ _ _ e2 i
    pointwise at k
    exact real_of_bit _ k

end Cert.PreFacts

end
-- ==== Proof.AttnClaim.lean ====
/- The attention call's value claim: from equal arguments with real queries and keys the idealized kernel and the
   reference end with equal results, and the frames under that precondition. -/
module

public import proofs.«01_k».proof.Defs
public import proofs.«01_k».proof.Proof.AttnValue
public import proofs.«01_k».proof.Proof.AttnOut0
public import proofs.«01_k».proof.Proof.AttnOut1
public import proofs.«01_k».proof.Proof.AttnOut2
public import proofs.«01_k».proof.Proof.PreFacts
public import Idealize.ShloMosaic.Lib.Claim

@[expose] public section

set_option maxRecDepth 16384

noncomputable section

namespace Cert.AttnRefIdeal.RefValue

open Cert.AttnRefIdeal Cert.AttnRefIdeal.Gen Idealize.ShloMosaic Idealize.ShloMosaic.TcCoe Idealize.SL.Sem Idealize.ShloMosaic.StableHlo

/-- The reference's run, its six results as the named stages. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71) = Read.val_main_v71 (F := Ideal) (m ((c.tc : Thread nD τ).loc main_arg0)) (m ((c.tc : Thread nD τ).loc main_arg1)) (m ((c.tc : Thread nD τ).loc main_arg2))
      ∧ r.2.mem ((c.tc : Thread nD τ).loc main_v74) = Read.val_main_v74 (F := Ideal) (m ((c.tc : Thread nD τ).loc main_arg0)) (m ((c.tc : Thread nD τ).loc main_arg1))
      ∧ r.2.mem ((c.tc : Thread nD τ).loc main_v140) = Read.val_main_v140 (F := Ideal) (m ((c.tc : Thread nD τ).loc main_arg0)) (m ((c.tc : Thread nD τ).loc main_arg1)) (m ((c.tc : Thread nD τ).loc main_arg2))
      ∧ r.2.mem ((c.tc : Thread nD τ).loc main_v143) = Read.val_main_v143 (F := Ideal) (m ((c.tc : Thread nD τ).loc main_arg0)) (m ((c.tc : Thread nD τ).loc main_arg1))
      ∧ r.2.mem ((c.tc : Thread nD τ).loc main_v209) = Read.val_main_v209 (F := Ideal) (m ((c.tc : Thread nD τ).loc main_arg0)) (m ((c.tc : Thread nD τ).loc main_arg1)) (m ((c.tc : Thread nD τ).loc main_arg2))
      ∧ r.2.mem ((c.tc : Thread nD τ).loc main_v212) = Read.val_main_v212 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h0, h1, h2, h3, h4, h5, ha⟩ := h c
  exact ⟨h0.trans (Read.val_main_v71_eq (launchContents m c)), h1.trans (Read.val_main_v74_eq (launchContents m c)),
    h2.trans (Read.val_main_v140_eq (launchContents m c)), h3.trans (Read.val_main_v143_eq (launchContents m c)),
    h4.trans (Read.val_main_v209_eq (launchContents m c)), h5.trans (Read.val_main_v212_eq (launchContents m c)), ha⟩

end Cert.AttnRefIdeal.RefValue

namespace Cert.Proof

open Idealize.ShloMosaic Idealize.SL.Sem

/-- The reference is host operations alone: its run keeps the arguments, and it declares no semaphore. -/
theorem attn_ref_frame : Cert.quiescent_AttnRefIdeal (hAttnRefIdeal := Cert.AttnRefIdeal.Gen.facts) := by
  intro m g _
  exact (θ_run Cert.AttnRefIdeal.defs _ _).mono
    (fun r h => ⟨fun c => (h c).2.2.2.2.2.2, sem_eq_zero_of_no_sems (by decide) r.2⟩)
    (Cert.AttnRefIdeal.Value.run (F := Ideal) m g)

theorem attn_ref_frame_pre : Cert.quiescent_AttnRefIdeal_pre_finite_qk (hAttnRefIdeal := Cert.AttnRefIdeal.Gen.facts) (hPre_finite_qk := Cert.Pre_finite_qk.Gen.facts) :=
  fun m g _ => attn_ref_frame m g trivial

/-- The constants the idealization names are the one score of a key that may not be attended. -/
theorem attn_preserves : Cert.preserves_Attn_AttnIdeal :=
  IdealRules.named_const.statement Cert.AttnIdeal.κ "mask" .f32 0xF149F2CA#32 ⊥ rfl

theorem attn_result0 (m : (ℓ : Loc Cert.AttnIdeal.nD Cert.AttnIdeal.τ Cert.AttnIdeal.sig) → Buf (Elt Ideal) ℓ) (c : Dev Cert.AttnIdeal.nD) (hQ : ∀ t l, ∃ r : ℝ, Cert.AttnIdeal.KernelValue.query m c t l = r) (hK : ∀ t l, ∃ r : ℝ, Cert.AttnIdeal.KernelValue.keys m c t l = r) :
    Cert.AttnRefIdeal.Read.val_main_v71 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) = (Cert.AttnIdeal.Gen.dats m 0 c).arrAt 15 (Cert.AttnIdeal.cfgs 0).N := by
  refine Eq.trans ?_ (Cert.AttnIdeal.KernelValue.final15 m c hQ hK).symm
  funext y
  idx_vars y
  exact Cert.AttnRefIdeal.RefValue.o_value0 _ _ _ hQ hK y0 y1 y2

theorem attn_result1 (m : (ℓ : Loc Cert.AttnIdeal.nD Cert.AttnIdeal.τ Cert.AttnIdeal.sig) → Buf (Elt Ideal) ℓ) (c : Dev Cert.AttnIdeal.nD) :
    Cert.AttnRefIdeal.Read.val_main_v74 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) = (Cert.AttnIdeal.Gen.dats m 0 c).arrAt 16 (Cert.AttnIdeal.cfgs 0).N := by
  refine Eq.trans ?_ (Cert.AttnIdeal.KernelValue.final16 m c).symm
  funext y
  idx_vars y
  exact Cert.AttnRefIdeal.RefValue.l_value0 _ _ y0 y1 y2

theorem attn_result2 (m : (ℓ : Loc Cert.AttnIdeal.nD Cert.AttnIdeal.τ Cert.AttnIdeal.sig) → Buf (Elt Ideal) ℓ) (c : Dev Cert.AttnIdeal.nD) (hQ : ∀ t l, ∃ r : ℝ, Cert.AttnIdeal.KernelValue.query m c t l = r) (hK : ∀ t l, ∃ r : ℝ, Cert.AttnIdeal.KernelValue.keys m c t l = r) :
    Cert.AttnRefIdeal.Read.val_main_v140 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) = (Cert.AttnIdeal.Gen.dats m 0 c).arrAt 17 (Cert.AttnIdeal.cfgs 0).N := by
  refine Eq.trans ?_ (Cert.AttnIdeal.KernelValue.final17 m c hQ hK).symm
  funext y
  idx_vars y
  exact Cert.AttnRefIdeal.RefValue.o_value1 _ _ _ hQ hK y0 y1 y2

theorem attn_result3 (m : (ℓ : Loc Cert.AttnIdeal.nD Cert.AttnIdeal.τ Cert.AttnIdeal.sig) → Buf (Elt Ideal) ℓ) (c : Dev Cert.AttnIdeal.nD) :
    Cert.AttnRefIdeal.Read.val_main_v143 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) = (Cert.AttnIdeal.Gen.dats m 0 c).arrAt 18 (Cert.AttnIdeal.cfgs 0).N := by
  refine Eq.trans ?_ (Cert.AttnIdeal.KernelValue.final18 m c).symm
  funext y
  idx_vars y
  exact Cert.AttnRefIdeal.RefValue.l_value1 _ _ y0 y1 y2

theorem attn_result4 (m : (ℓ : Loc Cert.AttnIdeal.nD Cert.AttnIdeal.τ Cert.AttnIdeal.sig) → Buf (Elt Ideal) ℓ) (c : Dev Cert.AttnIdeal.nD) (hQ : ∀ t l, ∃ r : ℝ, Cert.AttnIdeal.KernelValue.query m c t l = r) (hK : ∀ t l, ∃ r : ℝ, Cert.AttnIdeal.KernelValue.keys m c t l = r) :
    Cert.AttnRefIdeal.Read.val_main_v209 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) = (Cert.AttnIdeal.Gen.dats m 0 c).arrAt 19 (Cert.AttnIdeal.cfgs 0).N := by
  refine Eq.trans ?_ (Cert.AttnIdeal.KernelValue.final19 m c hQ hK).symm
  funext y
  idx_vars y
  exact Cert.AttnRefIdeal.RefValue.o_value2 _ _ _ hQ hK y0 y1 y2

theorem attn_result5 (m : (ℓ : Loc Cert.AttnIdeal.nD Cert.AttnIdeal.τ Cert.AttnIdeal.sig) → Buf (Elt Ideal) ℓ) (c : Dev Cert.AttnIdeal.nD) :
    Cert.AttnRefIdeal.Read.val_main_v212 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) = (Cert.AttnIdeal.Gen.dats m 0 c).arrAt 20 (Cert.AttnIdeal.cfgs 0).N := by
  refine Eq.trans ?_ (Cert.AttnIdeal.KernelValue.final20 m c).symm
  funext y
  idx_vars y
  exact Cert.AttnRefIdeal.RefValue.l_value2 _ _ y0 y1 y2

/-- Both runs end at the same six arrays from arguments that agree. -/
theorem attn_algebraic : Cert.algebraic_AttnIdeal_AttnRefIdeal_pre_finite_qk (hPre_finite_qk := Cert.Pre_finite_qk.Gen.facts) := by
  pair_intro
  · run_from Cert.AttnIdeal.Value.run_blocks m g
  · refine (θ_run Cert.AttnRefIdeal.defs _ _).mono (fun r h c => ?_) (Cert.AttnRefIdeal.RefValue.run_stages m' g')
    obtain ⟨h0, h1, h2, h3, h4, h5, ha⟩ := h c
    obtain ⟨e0, e1, e2⟩ := hagree c
    have hQK := Cert.PreFacts.qk_real _ _ _ (hpre c)
    rw [e0, e1, e2] at h0 h2 h4
    rw [e0, e1] at h1 h3 h5
    have hQ : ∀ t l, ∃ r : ℝ, Cert.AttnIdeal.KernelValue.query m c t l = r := fun t l => hQK.1 (ix2 t l)
    have hK : ∀ t l, ∃ r : ℝ, Cert.AttnIdeal.KernelValue.keys m c t l = r := fun t l => hQK.2 (ix2 t l)
    exact ⟨h0.trans (attn_result0 m c hQ hK), h1.trans (attn_result1 m c), h2.trans (attn_result2 m c hQ hK),
      h3.trans (attn_result3 m c), h4.trans (attn_result4 m c hQ hK), h5.trans (attn_result5 m c), ha⟩

end Cert.Proof

end
-- ==== Proof.MergeMath.lean ====
/- The merge of the two branches for one token, in closed form over the extended reals: the normed and gated output of
   the recurrence, the groups' outputs under their softmax weights, and the two projections added to the token. -/
module

public import proofs.«01_k».proof.Proof.ProjMath

@[expose] public section

noncomputable section

namespace Cert.MergeMath

open Idealize.ShloMosaic

/-- One lane less the mean of its head's 64 lanes. -/
def dev (w : Fin 1024 → EReal) (c : Fin 1024) : EReal :=
  w c - ProjMath.head w ⟨16, rfl⟩ c * Ideal.ofBits .f32 0x3C800000#32

/-- The lane after its head's norm. -/
def normed (w : Fin 1024 → EReal) (c : Fin 1024) : EReal :=
  dev w c * Ideal.rsqrt (ProjMath.head (fun e => dev w e * dev w e) ⟨16, rfl⟩ c * Ideal.ofBits .f32 0x3C800000#32
    + Ideal.ofBits .f32 0x3A27C5AC#32)

/-- The recurrent branch: the norm's weight and shift, the bonus, the gate. -/
def left (w lw lb bonus g : Fin 1024 → EReal) (c : Fin 1024) : EReal :=
  (normed w c * lw c + lb c + bonus c) * g c

/-- The greatest of a lane's three log-sum-exps. -/
def top (l0 l1 l2 : EReal) : EReal := max (max l0 l1) l2

/-- The sum of the three exponentials. -/
def den (l0 l1 l2 : EReal) : EReal :=
  Ideal.exp (l0 - top l0 l1 l2) + Ideal.exp (l1 - top l0 l1 l2) + Ideal.exp (l2 - top l0 l1 l2)

/-- One group's lane under its weight, `l` being the group's own log-sum-exp. -/
def weighed (o l l0 l1 l2 : EReal) : EReal :=
  o * Ideal.div (Ideal.exp (l - top l0 l1 l2)) (den l0 l1 l2)

/-- The attention branch projected: the three groups' 256 lanes against their rows of the weights. -/
def right (o0 o1 o2 l0 l1 l2 : Fin 256 → EReal) (W : Fin 768 → Fin 1024 → EReal) (c : Fin 1024) : EReal :=
  ((∑ j : Fin 256, weighed (o0 j) (l0 j) (l0 j) (l1 j) (l2 j) * W ⟨j.val, by omega⟩ c)
    + ∑ j : Fin 256, weighed (o1 j) (l1 j) (l0 j) (l1 j) (l2 j) * W ⟨256 + j.val, by omega⟩ c)
    + ∑ j : Fin 256, weighed (o2 j) (l2 j) (l0 j) (l1 j) (l2 j) * W ⟨512 + j.val, by omega⟩ c

/-- The token's new entry. -/
def merged (x w bonus g : Fin 1024 → EReal) (gates : Fin 2048 → EReal) (o0 l0 o1 l1 o2 l2 : Fin 256 → EReal)
    (lw lb : Fin 1024 → EReal) (A : Fin 1024 → Fin 1024 → EReal) (W : Fin 768 → Fin 1024 → EReal)
    (O : Fin 1024 → Fin 1024 → EReal) (c : Fin 1024) : EReal :=
  x c + ∑ k : Fin 1024, (gates ⟨k.val, by omega⟩ * (∑ j : Fin 1024, left w lw lb bonus g j * A j k)
    + gates ⟨1024 + k.val, by omega⟩ * right o0 o1 o2 l0 l1 l2 W k) * O k c

theorem one_bits : Ideal.ofBits .f32 0x3F800000#32 = 1 := by
  simp [Ideal.ofBits, Ideal.ieee, -EReal.coe_mul]
  norm_num

/-- Of three reals the sum of the exponentials is not zero. -/
theorem den_ne (a b c : ℝ) : den (a : EReal) b c ≠ 0 := by
  have e : top (a : EReal) b c = ((max (max a b) c : ℝ) : EReal) := by
    unfold top; norm_cast
  unfold den
  rw [e, ← EReal.coe_sub, ← EReal.coe_sub, ← EReal.coe_sub]
  have q : ∀ r : ℝ, Ideal.exp (r : EReal) = (Real.exp r : EReal) := fun _ => rfl
  rw [q, q, q, ← EReal.coe_add, ← EReal.coe_add]
  have h : (0 : ℝ) < Real.exp (a - max (max a b) c) + Real.exp (b - max (max a b) c) + Real.exp (c - max (max a b) c) := by positivity
  exact_mod_cast h.ne'

/-- Off zero, the product with the reciprocal is the quotient. -/
theorem recip {s : EReal} (hs : s ≠ 0) (e : EReal) : e * Ideal.div (Ideal.ofBits .f32 0x3F800000#32) s = Ideal.div e s := by
  rw [one_bits, Ideal.div, Ideal.div, if_neg hs, if_neg hs, one_mul]

/-- A sum over the 768 lanes is the sum over the three groups' 256. -/
theorem sum_groups (F : Fin 768 → EReal) :
    ∑ k, F k = ((∑ j : Fin 256, F ⟨j.val, by omega⟩) + ∑ j : Fin 256, F ⟨256 + j.val, by omega⟩) + ∑ j : Fin 256, F ⟨512 + j.val, by omega⟩ := by
  rw [Fin.sum_univ_add (a := 512) (b := 256), Fin.sum_univ_add (a := 256) (b := 256)]
  rfl

/-- The greatest of three, taken from the bottom. -/
theorem fold_top (f : Fin 3 → EReal) : (Finset.univ : Finset (Fin 3)).fold max ⊥ f = top (f 0) (f 1) (f 2) := by
  have e : (Finset.univ : Finset (Fin 3)) = {0, 1, 2} := by decide
  rw [e]
  simp [top, Finset.fold_insert, max_assoc]

end Cert.MergeMath

end
-- ==== Proof.MergePay.lean ====
/- The merge kernel's values, read at an entry: the closed forms of `Cert.MergeMath`. -/
module

public import proofs.«01_k».proof.Proof.Gen.MergeIdeal.Value
public import proofs.«01_k».proof.Proof.MergeMath
public import proofs.«01_k».proof.Proof.ProjPay
public import Idealize.ShloMosaic.Lib.Pointwise
public import Idealize.ShloMosaic.Lib.Pipeline.ValueKit

@[expose] public section

set_option maxRecDepth 16384

noncomputable section

namespace Cert.MergeIdeal.Pay

open Cert.MergeIdeal Cert.MergeIdeal.Gen Idealize.ShloMosaic Idealize.ShloMosaic.TcCoe Idealize.SL.Sem

/-- The sums over the heads' lanes, as the kernel computes them: four quarters, each against the mask. -/
def SUMS (v0 : FVec Ideal S256x256 .bf16) (v2 : FVec Ideal S256x1024 .f32) : FVec Ideal S256x1024 .f32 :=
  have v1 : FVec Ideal S256x256 .bf16 := shapeCast S256x256 v0 shapeCasts_S256x256_S256x256
  have v3 : FVec Ideal S256x256 .f32 := extractStridedSlice S256x256 ![0, 0] v2 slices_S256x1024_o0_0_S256x256
  have v4 : FVec Ideal S256x256 .bf16 := truncf .bf16 v3 bitsLt_bf16_f32
  have cst : FVec Ideal S256x256 .f32 := constant S256x256 .f32 0x00000000#32
  have v5 : FVec Ideal S256x256 .f32 := matmul dot_S256x256_S256x256_S256x256_1_0_0_1_n_n none v4 v1 cst
  have v6 : FVec Ideal S256x256 .f32 := extractStridedSlice S256x256 ![0, 256] v2 slices_S256x1024_o0_256_S256x256
  have v7 : FVec Ideal S256x256 .bf16 := truncf .bf16 v6 bitsLt_bf16_f32
  have cst_3 : FVec Ideal S256x256 .f32 := constant S256x256 .f32 0x00000000#32
  have v8 : FVec Ideal S256x256 .f32 := matmul dot_S256x256_S256x256_S256x256_1_0_0_1_n_n none v7 v1 cst_3
  have v9 : FVec Ideal S256x256 .f32 := extractStridedSlice S256x256 ![0, 512] v2 slices_S256x1024_o0_512_S256x256
  have v10 : FVec Ideal S256x256 .bf16 := truncf .bf16 v9 bitsLt_bf16_f32
  have cst_4 : FVec Ideal S256x256 .f32 := constant S256x256 .f32 0x00000000#32
  have v11 : FVec Ideal S256x256 .f32 := matmul dot_S256x256_S256x256_S256x256_1_0_0_1_n_n none v10 v1 cst_4
  have v12 : FVec Ideal S256x256 .f32 := extractStridedSlice S256x256 ![0, 768] v2 slices_S256x1024_o0_768_S256x256
  have v13 : FVec Ideal S256x256 .bf16 := truncf .bf16 v12 bitsLt_bf16_f32
  have cst_5 : FVec Ideal S256x256 .f32 := constant S256x256 .f32 0x00000000#32
  have v14 : FVec Ideal S256x256 .f32 := matmul dot_S256x256_S256x256_S256x256_1_0_0_1_n_n none v13 v1 cst_5
  have v15 : FVec Ideal S256x1024 .f32 := concatenate S256x1024 1 [⟨S256x256, v5⟩, ⟨S256x256, v8⟩, ⟨S256x256, v11⟩, ⟨S256x256, v14⟩] concatenates_S256x256_S256x256_S256x256_S256x256_S256x1024_d1
  v15

/-- The deviation from the head's mean, as the kernel computes it. -/
def DEV (v0 : FVec Ideal S256x256 .bf16) (v2 : FVec Ideal S256x1024 .f32) : FVec Ideal S256x1024 .f32 :=
  subf v2 (mulf (SUMS v0 v2) (broadcast S256x1024 (Scalar.ofBits (F := Ideal) .f32 0x3C800000#32)))

theorem pay_eq (E : FVec Ideal S256x256 .bf16) (w : FVec Ideal S256x1024 .f32) :
    k0_pay2 (F := Ideal) E w = mulf (DEV E w) (rsqrt (addf (mulf (SUMS E (mulf (DEV E w) (DEV E w))) (broadcast S256x1024 (Scalar.ofBits (F := Ideal) .f32 0x3C800000#32))) (broadcast S256x1024 (Scalar.ofBits (F := Ideal) .f32 0x3A27C5AC#32)))) := by
  unfold k0_pay2 SUMS
  rfl

theorem sums_at (E : FVec Ideal S256x256 .bf16) (hE : Cert.ProjIdeal.Pay.IsMask E) (w : FVec Ideal S256x1024 .f32) (a : Fin 256) (c : Fin 1024) :
    SUMS E w (ix2 a c) = ProjMath.head (fun e => w (ix2 a e)) ⟨16, rfl⟩ c := by
  pointwise [SUMS]
  exact Cert.ProjIdeal.Pay.quarters E hE (fun e => w (ix2 a e)) c

theorem dev_at (E : FVec Ideal S256x256 .bf16) (hE : Cert.ProjIdeal.Pay.IsMask E) (w : FVec Ideal S256x1024 .f32) (a : Fin 256) (c : Fin 1024) :
    DEV E w (ix2 a c) = MergeMath.dev (fun e => w (ix2 a e)) c := by
  pointwise [DEV, MergeMath.dev]
  rw [sums_at E hE]

theorem norm_at (E : FVec Ideal S256x256 .bf16) (hE : Cert.ProjIdeal.Pay.IsMask E) (w : FVec Ideal S256x1024 .f32) (a : Fin 256) (c : Fin 1024) :
    k0_pay2 (F := Ideal) E w (ix2 a c) = MergeMath.normed (fun e => w (ix2 a e)) c := by
  rw [pay_eq]
  have h := sums_at E hE (mulf (DEV E w) (DEV E w)) a c
  rw [show (fun e => mulf (DEV E w) (DEV E w) (ix2 a e)) = fun e => MergeMath.dev (fun e => w (ix2 a e)) e * MergeMath.dev (fun e => w (ix2 a e)) e from
    funext fun e => by rw [← dev_at E hE w a e]; rfl] at h
  pointwise [MergeMath.normed]
  rw [h, dev_at E hE]

theorem left_at (v38 v41 : FVec Ideal S256x1024 .f32) (lb : FVec Ideal S1x1024 .f32) (bonus g : FVec Ideal S256x1024 .f32) (A : FVec Ideal S1024x1024 .bf16) (a : Fin 256) (c : Fin 1024) :
    k0_pay4 (F := Ideal) v38 v41 lb bonus g A (ix2 a c) = ∑ j : Fin 1024, (v38 (ix2 a j) * v41 (ix2 a j) + lb (ix2 0 j) + bonus (ix2 a j)) * g (ix2 a j) * A (ix2 j c) := by
  pointwise [k0_pay4]

theorem lw_at (lw : FVec Ideal S1x1024 .f32) (a : Fin 256) (c : Fin 1024) : k0_pay3 (F := Ideal) lw (ix2 a c) = lw (ix2 0 c) := by
  pointwise [k0_pay3]

variable (l0 l1 l2 : FVec Ideal S256x256 .f32)

theorem top_at (a j : Fin 256) : k0_pay5 (F := Ideal) l0 l1 l2 (ix2 a j) = MergeMath.top (l0 (ix2 a j)) (l1 (ix2 a j)) (l2 (ix2 a j)) := by
  pointwise [k0_pay5, MergeMath.top]

theorem e0_at (a j : Fin 256) : k0_pay6 (F := Ideal) l0 l1 l2 (ix2 a j) = Ideal.exp (l0 (ix2 a j) - MergeMath.top (l0 (ix2 a j)) (l1 (ix2 a j)) (l2 (ix2 a j))) := by
  pointwise [k0_pay6]
  rw [top_at]

theorem e1_at (a j : Fin 256) : k0_pay7 (F := Ideal) l0 l1 l2 (ix2 a j) = Ideal.exp (l1 (ix2 a j) - MergeMath.top (l0 (ix2 a j)) (l1 (ix2 a j)) (l2 (ix2 a j))) := by
  pointwise [k0_pay7]
  rw [top_at]

theorem e2_at (a j : Fin 256) : k0_pay8 (F := Ideal) l0 l1 l2 (ix2 a j) = Ideal.exp (l2 (ix2 a j) - MergeMath.top (l0 (ix2 a j)) (l1 (ix2 a j)) (l2 (ix2 a j))) := by
  pointwise [k0_pay8]
  rw [top_at]

theorem inv_at (a j : Fin 256) : k0_pay9 (F := Ideal) l0 l1 l2 (ix2 a j) = Ideal.div (Ideal.ofBits .f32 0x3F800000#32) (MergeMath.den (l0 (ix2 a j)) (l1 (ix2 a j)) (l2 (ix2 a j))) := by
  pointwise [k0_pay9, MergeMath.den]
  rw [e0_at, e1_at, e2_at]

/-- The sum of a lane's three exponentials is nowhere zero. -/
def Reals : Prop := ∀ a j : Fin 256, MergeMath.den (l0 (ix2 a j)) (l1 (ix2 a j)) (l2 (ix2 a j)) ≠ 0

theorem part0_at (h : Reals l0 l1 l2) (o : FVec Ideal S256x256 .f32) (W : FVec Ideal S256x1024 .bf16) (a : Fin 256) (c : Fin 1024) :
    k0_pay10 (F := Ideal) l0 l1 l2 o W (ix2 a c) = ∑ j : Fin 256, MergeMath.weighed (o (ix2 a j)) (l0 (ix2 a j)) (l0 (ix2 a j)) (l1 (ix2 a j)) (l2 (ix2 a j)) * W (ix2 j c) := by
  pointwise [k0_pay10]
  refine Finset.sum_congr rfl fun j _ => ?_
  rw [e0_at, inv_at, MergeMath.recip (h a j)]
  rfl

theorem w1_at (h : Reals l0 l1 l2) (a j : Fin 256) : k0_pay11 (F := Ideal) l0 l1 l2 (ix2 a j) = Ideal.div (Ideal.exp (l1 (ix2 a j) - MergeMath.top (l0 (ix2 a j)) (l1 (ix2 a j)) (l2 (ix2 a j)))) (MergeMath.den (l0 (ix2 a j)) (l1 (ix2 a j)) (l2 (ix2 a j))) := by
  pointwise [k0_pay11]
  rw [e1_at, inv_at, MergeMath.recip (h a j)]

theorem out_at (h : Reals l0 l1 l2) (P : FVec Ideal S256x1024 .f32) (p0 : FVec Ideal S256x1024 .f32) (o1 o2 : FVec Ideal S256x256 .f32) (W1 W2 : FVec Ideal S256x1024 .bf16)
    (gates : FVec Ideal S256x2048 .f32) (x : FVec Ideal S256x1024 .f32) (O : FVec Ideal S1024x1024 .bf16) (a : Fin 256) (c : Fin 1024) :
    k0_pay1 (F := Ideal) P (k0_pay8 (F := Ideal) l0 l1 l2) (k0_pay9 (F := Ideal) l0 l1 l2) p0 o1 (k0_pay11 (F := Ideal) l0 l1 l2) W1 o2 W2 gates x O (ix2 a c)
      = x (ix2 a c) + ∑ k : Fin 1024, (gates (ix2 a ⟨k.val, by omega⟩) * P (ix2 a k) + gates (ix2 a ⟨1024 + k.val, by omega⟩) *
          ((p0 (ix2 a k) + ∑ j : Fin 256, MergeMath.weighed (o1 (ix2 a j)) (l1 (ix2 a j)) (l0 (ix2 a j)) (l1 (ix2 a j)) (l2 (ix2 a j)) * W1 (ix2 j k))
            + ∑ j : Fin 256, MergeMath.weighed (o2 (ix2 a j)) (l2 (ix2 a j)) (l0 (ix2 a j)) (l1 (ix2 a j)) (l2 (ix2 a j)) * W2 (ix2 j k))) * O (ix2 k c) := by
  pointwise [k0_pay1]
  refine congrArg₂ (· + ·) rfl (Finset.sum_congr rfl fun k _ => congrArg₂ (· * ·) (congrArg₂ (· + ·) rfl (congrArg₂ (· * ·) rfl (congrArg₂ (· + ·) (congrArg₂ (· + ·) rfl (Finset.sum_congr rfl fun j _ => ?_)) (Finset.sum_congr rfl fun j _ => ?_)))) rfl)
  · rw [w1_at l0 l1 l2 h]
    rfl
  · rw [e2_at, inv_at, MergeMath.recip (h a j)]
    rfl

end Cert.MergeIdeal.Pay

end
-- ==== Proof.MergeEntry.lean ====
/- What the merge kernel's windows hold at a grid point, read off the argument arrays: the rows of the tokens, the norm's
   weight and shift, the three weight matrices, and the head mask. -/
module

public import proofs.«01_k».proof.Proof.MergePay
public import Idealize.ShloMosaic.Lib.Pointwise
public import Idealize.ShloMosaic.Lib.Pipeline.ValueKit
public import Idealize.ShloMosaic.Lib.Claim

@[expose] public section

set_option maxRecDepth 16384

noncomputable section

namespace Cert.MergeIdeal.Entry

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![t.val, 0] :=
  (by decide +kernel : ∀ t : Fin grid0.N, _)

/-- The 32-bit quotient by 64 as the host computes it, for a lane number. -/
theorem quot_bits : ∀ k : Fin 256,
    Scalar.select (IntOp.andi
        (IntOp.cmpi CmpIPredicate.ne (if BitVec.ofNat 32 k.val = 0 then 0 else if (BitVec.ofNat 32 k.val).msb = true then -1 else 1 : BitVec 32)
          (if (64#32 : BitVec 32) = 0 then 0 else if (64#32).msb = true then -1 else 1 : BitVec 32))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  decide +kernel

theorem head_bits : ∀ a b : Fin 4, IntOp.cmpi .eq (BitVec.ofNat 32 a.val) (BitVec.ofNat 32 b.val) = if a.val = b.val then 1#1 else 0#1 := by
  decide +kernel

set_option maxHeartbeats 8000000 in
theorem x_at (c : Dev nD) (t : Fin cfg0.N) (r : Fin 256) (k : Fin 1024) (i : Fin 32768) (hi : i.val = t.val * 256 + r.val) :
    (show FVec Ideal S256x1024 .f32 from iblk m c 0 t) (ix2 r k) = (show FVec Ideal S32768x1024 .f32 from m ((c : Thread nD τ).loc main_arg0)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem w_at (c : Dev nD) (t : Fin cfg0.N) (r : Fin 256) (k : Fin 1024) (i : Fin 32768) (hi : i.val = t.val * 256 + r.val) :
    (show FVec Ideal S256x1024 .f32 from iblk m c 1 t) (ix2 r k) = (show FVec Ideal S32768x1024 .f32 from m ((c : Thread nD τ).loc main_arg1)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem bonus_at (c : Dev nD) (t : Fin cfg0.N) (r : Fin 256) (k : Fin 1024) (i : Fin 32768) (hi : i.val = t.val * 256 + r.val) :
    (show FVec Ideal S256x1024 .f32 from iblk m c 2 t) (ix2 r k) = (show FVec Ideal S32768x1024 .f32 from m ((c : Thread nD τ).loc main_arg2)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem g_at (c : Dev nD) (t : Fin cfg0.N) (r : Fin 256) (k : Fin 1024) (i : Fin 32768) (hi : i.val = t.val * 256 + r.val) :
    (show FVec Ideal S256x1024 .f32 from iblk m c 3 t) (ix2 r k) = (show FVec Ideal S32768x1024 .f32 from m ((c : Thread nD τ).loc main_arg3)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem gates_at (c : Dev nD) (t : Fin cfg0.N) (r : Fin 256) (k : Fin 2048) (i : Fin 32768) (hi : i.val = t.val * 256 + r.val) :
    (show FVec Ideal S256x2048 .f32 from iblk m c 4 t) (ix2 r k) = (show FVec Ideal S32768x2048 .f32 from m ((c : Thread nD τ).loc main_arg4)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem o0_at (c : Dev nD) (t : Fin cfg0.N) (r : Fin 256) (k : Fin 256) (i : Fin 32768) (hi : i.val = t.val * 256 + r.val) :
    (show FVec Ideal S256x256 .f32 from iblk m c 5 t) (ix2 r k) = (show FVec Ideal S32768x256 .f32 from m ((c : Thread nD τ).loc main_arg5)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem l0_at (c : Dev nD) (t : Fin cfg0.N) (r : Fin 256) (k : Fin 256) (i : Fin 32768) (hi : i.val = t.val * 256 + r.val) :
    (show FVec Ideal S256x256 .f32 from iblk m c 6 t) (ix2 r k) = (show FVec Ideal S32768x256 .f32 from m ((c : Thread nD τ).loc main_arg6)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem o1_at (c : Dev nD) (t : Fin cfg0.N) (r : Fin 256) (k : Fin 256) (i : Fin 32768) (hi : i.val = t.val * 256 + r.val) :
    (show FVec Ideal S256x256 .f32 from iblk m c 7 t) (ix2 r k) = (show FVec Ideal S32768x256 .f32 from m ((c : Thread nD τ).loc main_arg7)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem l1_at (c : Dev nD) (t : Fin cfg0.N) (r : Fin 256) (k : Fin 256) (i : Fin 32768) (hi : i.val = t.val * 256 + r.val) :
    (show FVec Ideal S256x256 .f32 from iblk m c 8 t) (ix2 r k) = (show FVec Ideal S32768x256 .f32 from m ((c : Thread nD τ).loc main_arg8)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem o2_at (c : Dev nD) (t : Fin cfg0.N) (r : Fin 256) (k : Fin 256) (i : Fin 32768) (hi : i.val = t.val * 256 + r.val) :
    (show FVec Ideal S256x256 .f32 from iblk m c 9 t) (ix2 r k) = (show FVec Ideal S32768x256 .f32 from m ((c : Thread nD τ).loc main_arg9)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
theorem l2_at (c : Dev nD) (t : Fin cfg0.N) (r : Fin 256) (k : Fin 256) (i : Fin 32768) (hi : i.val = t.val * 256 + r.val) :
    (show FVec Ideal S256x256 .f32 from iblk m c 10 t) (ix2 r k) = (show FVec Ideal S32768x256 .f32 from m ((c : Thread nD τ).loc main_arg10)) (ix2 i k) := by
  blk_simp [iblk, idx t]
  simp only [V, hostOps0, hostOps0_1, hostOps0_2, List.flatten_cons, List.flatten_nil, List.append_nil, List.cons_append, List.nil_append]
  entry_read
  pointwise
  blk_ext [idx t]

set_option maxHeartbeats 8000000 in
set_option maxRecDepth 200000 in
/-- The norm's weight. -/
theorem lw_at (c : Dev nD) (t : Fin cfg0.N) (e : Fin 1024) :
    (show FVec Ideal S1x1024 .f32 from iblk m c 11 t) (ix2 0 e) = (show FVec Ideal S1x1024 .f32 from m ((c : Thread nD τ).loc main_arg11)) (ix2 0 e) := by
  blk_simp [iblk, idx t]
  rw [show (win0_11.blk t).view.emb (ix2 0 e) = (ix2 0 e) from by blk_ext [idx t]]
  simp only [V, hostOps0, hostOps0_1, hostOps0_2, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl

set_option maxHeartbeats 8000000 in
set_option maxRecDepth 200000 in
/-- The norm's shift. -/
theorem lb_at (c : Dev nD) (t : Fin cfg0.N) (e : Fin 1024) :
    (show FVec Ideal S1x1024 .f32 from iblk m c 12 t) (ix2 0 e) = (show FVec Ideal S1x1024 .f32 from m ((c : Thread nD τ).loc main_arg12)) (ix2 0 e) := by
  blk_simp [iblk, idx t]
  rw [show (win0_12.blk t).view.emb (ix2 0 e) = (ix2 0 e) from by blk_ext [idx t]]
  simp only [V, hostOps0, hostOps0_1, hostOps0_2, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl

set_option maxHeartbeats 8000000 in
set_option maxRecDepth 200000 in
/-- The recurrent branch's weights. -/
theorem A_at (c : Dev nD) (t : Fin cfg0.N) (k : Fin 1024) (e : Fin 1024) :
    (show FVec Ideal S1024x1024 .bf16 from iblk m c 14 t) (ix2 k e) = (show FVec Ideal S1x1024x1024 .f32 from m ((c : Thread nD τ).loc main_arg13)) (ix3 0 k e) := by
  blk_simp [iblk, idx t]
  rw [show (win0_14.blk t).view.emb (ix2 k e) = (ix2 k e) from by blk_ext [idx t]]
  simp only [V, hostOps0, hostOps0_1, hostOps0_2, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl

set_option maxHeartbeats 8000000 in
set_option maxRecDepth 200000 in
/-- The attention branch's weights. -/
theorem W_at (c : Dev nD) (t : Fin cfg0.N) (k : Fin 768) (e : Fin 1024) :
    (show FVec Ideal S768x1024 .bf16 from iblk m c 15 t) (ix2 k e) = (show FVec Ideal S1x768x1024 .f32 from m ((c : Thread nD τ).loc main_arg14)) (ix3 0 k e) := by
  blk_simp [iblk, idx t]
  rw [show (win0_15.blk t).view.emb (ix2 k e) = (ix2 k e) from by blk_ext [idx t]]
  simp only [V, hostOps0, hostOps0_1, hostOps0_2, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl

set_option maxHeartbeats 8000000 in
set_option maxRecDepth 200000 in
/-- The output weights. -/
theorem O_at (c : Dev nD) (t : Fin cfg0.N) (k : Fin 1024) (e : Fin 1024) :
    (show FVec Ideal S1024x1024 .bf16 from iblk m c 16 t) (ix2 k e) = (show FVec Ideal S1x1024x1024 .f32 from m ((c : Thread nD τ).loc main_arg15)) (ix3 0 k e) := by
  blk_simp [iblk, idx t]
  rw [show (win0_16.blk t).view.emb (ix2 k e) = (ix2 k e) from by blk_ext [idx t]]
  simp only [V, hostOps0, hostOps0_1, hostOps0_2, List.flatten_cons, List.flatten_nil, List.append_nil, List.cons_append, List.nil_append]
  entry_read
  try simp only [StableHlo.TRef.toBuf, StableHlo.TRef.ofBuf, StableHlo.TRef.of, cast_eq, eqRec_eq_cast]
  pointwise
  try rfl

set_option maxHeartbeats 8000000 in
/-- The head mask. -/
theorem ones_at (c : Dev nD) (t : Fin cfg0.N) : Cert.ProjIdeal.Pay.IsMask (iblk m c 13 t) := by
  intro k l
  blk_simp [iblk, idx t]
  rw [show (win0_13.blk t).view.emb (ix2 k l) = (ix2 k l) from by blk_ext [idx t]]
  simp only [V, hostOps0, hostOps0_1, hostOps0_2, List.flatten_cons, List.flatten_nil, List.append_nil, List.cons_append, List.nil_append]
  entry_read
  try simp only [StableHlo.TRef.toBuf, StableHlo.TRef.ofBuf, StableHlo.TRef.of, cast_eq, eqRec_eq_cast]
  pointwise
  refine (congrArg (FloatOps.uitofp (F := Ideal) .bf16) ((congrArg₂ (IntOp.cmpi .eq) (quot_bits k) (quot_bits l)).trans (head_bits ⟨k.val / 64, by omega⟩ ⟨l.val / 64, by omega⟩))).trans ?_
  dsimp only
  by_cases h : k.val / 64 = l.val / 64
  · rw [if_pos h, if_pos h]
    show (((1#1 : BitVec 1).toNat : ℝ) : EReal) = 1
    simp
  · rw [if_neg h, if_neg h]
    show (((0#1 : BitVec 1).toNat : ℝ) : EReal) = 0
    simp

end Cert.MergeIdeal.Entry

end
-- ==== Proof.MergeValue.lean ====
/- What the merge kernel leaves in its result array, read at an entry: the closed form of `Cert.MergeMath`. One grid point
   works on 256 tokens. -/
module

public import proofs.«01_k».proof.Proof.MergeEntry

@[expose] public section

set_option maxRecDepth 16384

noncomputable section

namespace Cert.MergeIdeal.KernelValue

open Cert.MergeIdeal Cert.MergeIdeal.Gen Idealize.ShloMosaic Idealize.ShloMosaic.TcCoe Idealize.SL.Sem
open Idealize.ShloMosaic.Pipeline (Dat)

/-- What the body stores. -/
def stored (x0 : FVec Ideal S256x1024 .f32) (x1 : FVec Ideal S256x1024 .f32) (x2 : FVec Ideal S256x1024 .f32) (x3 : FVec Ideal S256x1024 .f32) (x4 : FVec Ideal S256x2048 .f32) (x5 : FVec Ideal S256x256 .f32) (x6 : FVec Ideal S256x256 .f32) (x7 : FVec Ideal S256x256 .f32) (x8 : FVec Ideal S256x256 .f32) (x9 : FVec Ideal S256x256 .f32) (x10 : FVec Ideal S256x256 .f32) (x11 : FVec Ideal S1x1024 .f32) (x12 : FVec Ideal S1x1024 .f32) (x13 : FVec Ideal S256x256 .bf16) (x14 : FVec Ideal S1024x1024 .bf16) (x15 : FVec Ideal S768x1024 .bf16) (x16 : FVec Ideal S1024x1024 .bf16) : FVec Ideal S256x1024 .f32 :=
  k0_pay1 (F := Ideal) (k0_pay4 (F := Ideal) (k0_pay2 (F := Ideal) x13 x1) (k0_pay3 (F := Ideal) x11) x12 x2 x3 x14) (k0_pay8 (F := Ideal) x6 x8 x10) (k0_pay9 (F := Ideal) x6 x8 x10)
    (k0_pay10 (F := Ideal) x6 x8 x10 x5 (View.ld (Val := Elt Ideal) (e' := .bf16) x15 r0_4)) x7 (k0_pay11 (F := Ideal) x6 x8 x10) (View.ld (Val := Elt Ideal) (e' := .bf16) x15 r0_5)
    x9 (View.ld (Val := Elt Ideal) (e' := .bf16) x15 r0_6) x4 x0 x16

theorem out_eq (x0 : FVec Ideal S256x1024 .f32) (x1 : FVec Ideal S256x1024 .f32) (x2 : FVec Ideal S256x1024 .f32) (x3 : FVec Ideal S256x1024 .f32) (x4 : FVec Ideal S256x2048 .f32) (x5 : FVec Ideal S256x256 .f32) (x6 : FVec Ideal S256x256 .f32) (x7 : FVec Ideal S256x256 .f32) (x8 : FVec Ideal S256x256 .f32) (x9 : FVec Ideal S256x256 .f32) (x10 : FVec Ideal S256x256 .f32) (x11 : FVec Ideal S1x1024 .f32) (x12 : FVec Ideal S1x1024 .f32) (x13 : FVec Ideal S256x256 .bf16) (x14 : FVec Ideal S1024x1024 .bf16) (x15 : FVec Ideal S768x1024 .bf16) (x16 : FVec Ideal S1024x1024 .bf16) :
    out0_17 (F := Ideal) x0 x1 x2 x3 x4 x5 x6 x7 x8 x9 x10 x11 x12 x13 x14 x15 x16 = stored x0 x1 x2 x3 x4 x5 x6 x7 x8 x9 x10 x11 x12 x13 x14 x15 x16 := by
  unfold out0_17
  frame_out
  rfl

theorem rows0 (x15 : FVec Ideal S768x1024 .bf16) (j : Fin 256) (k : Fin 1024) :
    (View.ld (Val := Elt Ideal) (e' := .bf16) x15 r0_4 : FVec Ideal S256x1024 .bf16) (ix2 j k) = x15 (ix2 ⟨j.val, by omega⟩ k) := by
  pointwise

theorem rows1 (x15 : FVec Ideal S768x1024 .bf16) (j : Fin 256) (k : Fin 1024) :
    (View.ld (Val := Elt Ideal) (e' := .bf16) x15 r0_5 : FVec Ideal S256x1024 .bf16) (ix2 j k) = x15 (ix2 ⟨256 + j.val, by omega⟩ k) := by
  pointwise

theorem rows2 (x15 : FVec Ideal S768x1024 .bf16) (j : Fin 256) (k : Fin 1024) :
    (View.ld (Val := Elt Ideal) (e' := .bf16) x15 r0_6 : FVec Ideal S256x1024 .bf16) (ix2 j k) = x15 (ix2 ⟨512 + j.val, by omega⟩ k) := by
  pointwise

/-- The body's result at an entry: the closed form of the block's row. -/
theorem stored_at (x0 : FVec Ideal S256x1024 .f32) (x1 : FVec Ideal S256x1024 .f32) (x2 : FVec Ideal S256x1024 .f32) (x3 : FVec Ideal S256x1024 .f32) (x4 : FVec Ideal S256x2048 .f32) (x5 : FVec Ideal S256x256 .f32) (x6 : FVec Ideal S256x256 .f32) (x7 : FVec Ideal S256x256 .f32) (x8 : FVec Ideal S256x256 .f32) (x9 : FVec Ideal S256x256 .f32) (x10 : FVec Ideal S256x256 .f32) (x11 : FVec Ideal S1x1024 .f32) (x12 : FVec Ideal S1x1024 .f32) (x13 : FVec Ideal S256x256 .bf16) (x14 : FVec Ideal S1024x1024 .bf16) (x15 : FVec Ideal S768x1024 .bf16) (x16 : FVec Ideal S1024x1024 .bf16) (hE : Cert.ProjIdeal.Pay.IsMask x13) (hl : Pay.Reals x6 x8 x10) (r : Fin 256) (c : Fin 1024) :
    stored x0 x1 x2 x3 x4 x5 x6 x7 x8 x9 x10 x11 x12 x13 x14 x15 x16 (ix2 r c)
      = MergeMath.merged (fun e => x0 (ix2 r e)) (fun e => x1 (ix2 r e)) (fun e => x2 (ix2 r e)) (fun e => x3 (ix2 r e)) (fun e => x4 (ix2 r e))
        (fun j => x5 (ix2 r j)) (fun j => x6 (ix2 r j)) (fun j => x7 (ix2 r j)) (fun j => x8 (ix2 r j)) (fun j => x9 (ix2 r j)) (fun j => x10 (ix2 r j))
        (fun e => x11 (ix2 0 e)) (fun e => x12 (ix2 0 e)) (fun k e => x14 (ix2 k e)) (fun k e => x15 (ix2 k e)) (fun k e => x16 (ix2 k e)) c := by
  unfold stored
  refine (Pay.out_at x6 x8 x10 hl _ _ x7 x9 _ _ x4 x0 x16 r c).trans ?_
  unfold MergeMath.merged
  refine congrArg (x0 (ix2 r c) + ·) (Finset.sum_congr rfl fun k _ => congrArg (· * x16 (ix2 k c)) (congrArg₂ (· + ·) (congrArg (x4 (ix2 r ⟨k.val, by omega⟩) * ·) ?_) (congrArg (x4 (ix2 r ⟨1024 + k.val, by omega⟩) * ·) ?_)))
  · rw [Pay.left_at]
    refine Finset.sum_congr rfl fun j _ => congrArg (· * x14 (ix2 j k)) ?_
    rw [Pay.norm_at x13 hE, Pay.lw_at]
    rfl
  · rw [Pay.part0_at x6 x8 x10 hl]
    unfold MergeMath.right
    refine congrArg₂ (· + ·) (congrArg₂ (· + ·) ?_ ?_) ?_ <;> refine Finset.sum_congr rfl fun j _ => congrArg₂ (· * ·) rfl ?_
    · exact rows0 x15 j k
    · exact rows1 x15 j k
    · exact rows2 x15 j k

variable (m : (ℓ : Loc nD τ sig) → Buf (Elt Ideal) ℓ)

/-- The result array as one function of the argument arrays. -/
def result (x0 : FVec Ideal S32768x1024 .f32) (x1 : FVec Ideal S32768x1024 .f32) (x2 : FVec Ideal S32768x1024 .f32) (x3 : FVec Ideal S32768x1024 .f32) (x4 : FVec Ideal S32768x2048 .f32) (x5 : FVec Ideal S32768x256 .f32) (x6 : FVec Ideal S32768x256 .f32) (x7 : FVec Ideal S32768x256 .f32) (x8 : FVec Ideal S32768x256 .f32) (x9 : FVec Ideal S32768x256 .f32) (x10 : FVec Ideal S32768x256 .f32) (x11 : FVec Ideal S1x1024 .f32) (x12 : FVec Ideal S1x1024 .f32) (x13 : FVec Ideal S1x1024x1024 .f32) (x14 : FVec Ideal S1x768x1024 .f32) (x15 : FVec Ideal S1x1024x1024 .f32) : FVec Ideal S32768x1024 .f32 :=
  fun i => MergeMath.merged (fun e => x0 (ix2 (i 0) e)) (fun e => x1 (ix2 (i 0) e)) (fun e => x2 (ix2 (i 0) e)) (fun e => x3 (ix2 (i 0) e)) (fun e => x4 (ix2 (i 0) e))
        (fun j => x5 (ix2 (i 0) j)) (fun j => x6 (ix2 (i 0) j)) (fun j => x7 (ix2 (i 0) j)) (fun j => x8 (ix2 (i 0) j)) (fun j => x9 (ix2 (i 0) j)) (fun j => x10 (ix2 (i 0) j))
        (fun e => x11 (ix2 0 e)) (fun e => x12 (ix2 0 e)) (fun k e => x13 (ix3 0 k e)) (fun k e => x14 (ix3 0 k e)) (fun k e => x15 (ix3 0 k e)) (i 1)

/-- The three log-sum-exp arrays hold real numbers. -/
def Finite (c : Dev nD) : Prop :=
  (∀ i, ∃ r : ℝ, (show FVec Ideal S32768x256 .f32 from m ((c : Thread nD τ).loc main_arg6)) i = r)
    ∧ (∀ i, ∃ r : ℝ, (show FVec Ideal S32768x256 .f32 from m ((c : Thread nD τ).loc main_arg8)) i = r)
    ∧ ∀ i, ∃ r : ℝ, (show FVec Ideal S32768x256 .f32 from m ((c : Thread nD τ).loc main_arg10)) i = r

theorem reals (c : Dev nD) (h : Finite m c) (t : Fin cfg0.N) : Pay.Reals (iblk m c 6 t) (iblk m c 8 t) (iblk m c 10 t) := by
  intro a j
  have ht : t.val < 128 := lt_of_lt_of_eq t.isLt N_0
  have hb : t.val * 256 + a.val < 32768 := by omega
  obtain ⟨r0, e0⟩ := h.1 (ix2 ⟨t.val * 256 + a.val, hb⟩ j)
  obtain ⟨r1, e1⟩ := h.2.1 (ix2 ⟨t.val * 256 + a.val, hb⟩ j)
  obtain ⟨r2, e2⟩ := h.2.2 (ix2 ⟨t.val * 256 + a.val, hb⟩ j)
  have f0 := (Entry.l0_at m c t a j ⟨t.val * 256 + a.val, hb⟩ rfl).trans e0
  have f1 := (Entry.l1_at m c t a j ⟨t.val * 256 + a.val, hb⟩ rfl).trans e1
  have f2 := (Entry.l2_at m c t a j ⟨t.val * 256 + a.val, hb⟩ rfl).trans e2
  exact fun q => MergeMath.den_ne r0 r1 r2 ((congr (congr (congrArg MergeMath.den f0) f1) f2).symm.trans q)

theorem point (c : Dev nD) (h : Finite m c) (t : Fin cfg0.N) (y : S256x1024.Idx) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (((cfg0.win 17).blk t).view.emb y) := by
  idx_vars y
  have ht : t.val < 128 := lt_of_lt_of_eq t.isLt N_0
  have hb : t.val * 256 + y0.val < 32768 := by omega
  have hemb : ((cfg0.win 17).blk t).view.emb (ix2 y0 y1) = (ix2 ⟨t.val * 256 + y0.val, hb⟩ y1 : S32768x1024.Idx) := by
    blk_ext [Entry.idx t]
  rw [hemb]
  refine (stored_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (Entry.ones_at m c t) (reals m c h t) y0 y1).trans ?_
  exact congrFun (congr (congr (congr (congr (congr (congr (congr (congr (congr (congr (congr (congr (congr (congr (congr (congrArg MergeMath.merged (funext fun k => Entry.x_at m c t y0 k ⟨t.val * 256 + y0.val, hb⟩ rfl))
    (funext fun k => Entry.w_at m c t y0 k ⟨t.val * 256 + y0.val, hb⟩ rfl))
    (funext fun k => Entry.bonus_at m c t y0 k ⟨t.val * 256 + y0.val, hb⟩ rfl))
    (funext fun k => Entry.g_at m c t y0 k ⟨t.val * 256 + y0.val, hb⟩ rfl))
    (funext fun k => Entry.gates_at m c t y0 k ⟨t.val * 256 + y0.val, hb⟩ rfl))
    (funext fun k => Entry.o0_at m c t y0 k ⟨t.val * 256 + y0.val, hb⟩ rfl))
    (funext fun k => Entry.l0_at m c t y0 k ⟨t.val * 256 + y0.val, hb⟩ rfl))
    (funext fun k => Entry.o1_at m c t y0 k ⟨t.val * 256 + y0.val, hb⟩ rfl))
    (funext fun k => Entry.l1_at m c t y0 k ⟨t.val * 256 + y0.val, hb⟩ rfl))
    (funext fun k => Entry.o2_at m c t y0 k ⟨t.val * 256 + y0.val, hb⟩ rfl))
    (funext fun k => Entry.l2_at m c t y0 k ⟨t.val * 256 + y0.val, hb⟩ rfl))
    (funext fun e => Entry.lw_at m c t e))
    (funext fun e => Entry.lb_at m c t e))
    (funext fun k => funext fun e => Entry.A_at m c t k e))
    (funext fun k => funext fun e => Entry.W_at m c t k e))
    (funext fun k => funext fun e => Entry.O_at m c t k e)) y1

theorem final (c : Dev nD) (h : Finite m c) : (dats m 0 c).arrAt 17 (cfgs 0).N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 17 _ (by decide +kernel) fun t _ y => ?_
  blk_simp
  rw [after0_17, out_eq]
  exact point m c h t y

end Cert.MergeIdeal.KernelValue

end
-- ==== Proof.MergeRefValue.lean ====
/- The merge reference's result, read at an entry: the closed form of `Cert.MergeMath`. -/
module

public import proofs.«01_k».proof.Proof.Gen.MergeRefIdeal.Read
public import proofs.«01_k».proof.Proof.MergeMath
public import Idealize.ShloMosaic.Lib.Pointwise

@[expose] public section

set_option maxRecDepth 16384

noncomputable section

namespace Cert.MergeRefIdeal.RefValue

open Cert.MergeRefIdeal Cert.MergeRefIdeal.Gen Cert.MergeRefIdeal.Read Idealize.ShloMosaic Idealize.ShloMosaic.TcCoe Idealize.SL.Sem

variable (x0 x1 x2 x3 : FVec Ideal S32768x1024 .f32) (x4 : FVec Ideal S32768x2048 .f32) (x5 x6 x7 x8 x9 x10 : FVec Ideal S32768x256 .f32) (x11 x12 : FVec Ideal S1x1024 .f32) (x13 : FVec Ideal S1x1024x1024 .f32) (x14 : FVec Ideal S1x768x1024 .f32) (x15 : FVec Ideal S1x1024x1024 .f32)

theorem dev_at (t : Fin 32768) (h : Fin 16) (e : Fin 64) :
    val_main_v6 (F := Ideal) x1 (ix3 t h e) = MergeMath.dev (fun c => x1 (ix2 t c)) ⟨h.val * 64 + e.val, by omega⟩ := by
  pointwise [val_main_v6, val_main_v5, val_main_v4, val_main_v3, val_main_v2, val_main_v1, val_main_v0, val_main_cst, val_main_cst_0, MergeMath.dev]
  rw [ProjMath.div_64, ProjMath.head_at _ _ h.val e.val e.isLt]

theorem dev2_at (t : Fin 32768) (h : Fin 16) (e : Fin 64) :
    val_main_v13 (F := Ideal) x1 (ix3 t h e) = MergeMath.dev (fun c => x1 (ix2 t c)) ⟨h.val * 64 + e.val, by omega⟩ := by
  rw [← dev_at]
  pointwise [val_main_v13, val_main_v12, val_main_v6, val_main_v5]

theorem norm_at (t : Fin 32768) (h : Fin 16) (e : Fin 64) :
    val_main_v18 (F := Ideal) x1 (ix3 t h e) = MergeMath.normed (fun c => x1 (ix2 t c)) ⟨h.val * 64 + e.val, by omega⟩ := by
  pointwise [val_main_v18, val_main_v17, val_main_v16, val_main_v15, val_main_v14, val_main_v11, val_main_v10, val_main_v9, val_main_v8, val_main_v7, val_main_cst_1, val_main_cst_2, val_main_cst_3, MergeMath.normed]
  rw [ProjMath.div_64, ProjMath.head_at _ _ h.val e.val e.isLt, dev2_at]
  simp only [dev_at]

theorem left_at (t : Fin 32768) (c : Fin 1024) :
    val_main_v29 (F := Ideal) x1 x2 x3 x11 x12 (ix2 t c) = MergeMath.left (fun c => x1 (ix2 t c)) (fun c => x11 (ix2 0 c)) (fun c => x12 (ix2 0 c)) (fun c => x2 (ix2 t c)) (fun c => x3 (ix2 t c)) c := by
  pointwise [val_main_v29, val_main_v28, val_main_v27, val_main_v26, val_main_v25, val_main_v24, val_main_v23, val_main_v22, val_main_v21, val_main_v20, val_main_v19, MergeMath.left]
  rw [norm_at]
  rw [show (⟨c.val / 64 * 64 + c.val % 64, by omega⟩ : Fin 1024) = c from Fin.ext (by show c.val / 64 * 64 + c.val % 64 = c.val; omega)]

theorem stack_at (t : Fin 32768) (j : Fin 256) :
    val_main_v37 (F := Ideal) x6 x8 x10 (ix3 t 0 j) = x6 (ix2 t j) ∧ val_main_v37 (F := Ideal) x6 x8 x10 (ix3 t 1 j) = x8 (ix2 t j) ∧ val_main_v37 (F := Ideal) x6 x8 x10 (ix3 t 2 j) = x10 (ix2 t j) := by
  refine ⟨?_, ?_, ?_⟩
  · pointwise [val_main_v37, val_main_v34, val_main_v35, val_main_v36]
  · pointwise [val_main_v37, val_main_v34, val_main_v35, val_main_v36]
  · pointwise [val_main_v37, val_main_v34, val_main_v35, val_main_v36]

theorem neg_inf : Ideal.ofBits FTy.f32 0xFF800000#32 = (⊥ : EReal) := by simp [Ideal.ofBits, Ideal.ieee]

theorem top_at (t : Fin 32768) (j : Fin 256) :
    val_main_v38 (F := Ideal) x6 x8 x10 (ix2 t j) = MergeMath.top (x6 (ix2 t j)) (x8 (ix2 t j)) (x10 (ix2 t j)) := by
  pointwise [val_main_v38, val_main_cst_4]
  rw [neg_inf, MergeMath.fold_top]
  rw [(stack_at x6 x8 x10 t j).1, (stack_at x6 x8 x10 t j).2.1, (stack_at x6 x8 x10 t j).2.2]

theorem peak_at (t : Fin 32768) (j : Fin 256) :
    val_main_v40 (F := Ideal) x6 x8 x10 (ix2 t j) = MergeMath.top (x6 (ix2 t j)) (x8 (ix2 t j)) (x10 (ix2 t j)) := by
  have e : val_main_v39 (F := Ideal) (ix2 t j) = ⊥ := by
    rw [val_main_v39_apply, val_main_cst_5]
    exact neg_inf
  rw [val_main_v40_apply, e, top_at]
  exact max_eq_right bot_le

theorem spread_at (t : Fin 32768) (k : Fin 3) (j : Fin 256) :
    val_main_v42 (F := Ideal) x6 x8 x10 (ix3 t k j) = MergeMath.top (x6 (ix2 t j)) (x8 (ix2 t j)) (x10 (ix2 t j)) := by
  rw [← peak_at]
  pointwise [val_main_v42, val_main_v41]

theorem exp_at (t : Fin 32768) (k : Fin 3) (j : Fin 256) :
    val_main_v44 (F := Ideal) x6 x8 x10 (ix3 t k j) = Ideal.exp (val_main_v37 (F := Ideal) x6 x8 x10 (ix3 t k j) - MergeMath.top (x6 (ix2 t j)) (x8 (ix2 t j)) (x10 (ix2 t j))) := by
  rw [← spread_at x6 x8 x10 t k j]
  pointwise [val_main_v44, val_main_v43]

theorem den_at (t : Fin 32768) (j : Fin 256) :
    val_main_v45 (F := Ideal) x6 x8 x10 (ix2 t j) = MergeMath.den (x6 (ix2 t j)) (x8 (ix2 t j)) (x10 (ix2 t j)) := by
  pointwise [val_main_v45, val_main_cst_6, MergeMath.den]
  rw [Fin.sum_univ_three, exp_at, exp_at, exp_at]
  rw [(stack_at x6 x8 x10 t j).1, (stack_at x6 x8 x10 t j).2.1, (stack_at x6 x8 x10 t j).2.2]

theorem stack_o (t : Fin 32768) (j : Fin 256) :
    val_main_v33 (F := Ideal) x5 x7 x9 (ix3 t 0 j) = x5 (ix2 t j) ∧ val_main_v33 (F := Ideal) x5 x7 x9 (ix3 t 1 j) = x7 (ix2 t j) ∧ val_main_v33 (F := Ideal) x5 x7 x9 (ix3 t 2 j) = x9 (ix2 t j) := by
  refine ⟨?_, ?_, ?_⟩
  · pointwise [val_main_v33, val_main_v30, val_main_v31, val_main_v32]
  · pointwise [val_main_v33, val_main_v30, val_main_v31, val_main_v32]
  · pointwise [val_main_v33, val_main_v30, val_main_v31, val_main_v32]

theorem part_at (t : Fin 32768) (k : Fin 3) (j : Fin 256) :
    val_main_v49 (F := Ideal) x5 x6 x7 x8 x9 x10 (ix3 t k j) = MergeMath.weighed (val_main_v33 (F := Ideal) x5 x7 x9 (ix3 t k j)) (val_main_v37 (F := Ideal) x6 x8 x10 (ix3 t k j)) (x6 (ix2 t j)) (x8 (ix2 t j)) (x10 (ix2 t j)) := by
  unfold MergeMath.weighed
  rw [← exp_at, ← den_at]
  pointwise [val_main_v49, val_main_v48, val_main_v47, val_main_v46]

theorem flat_at (t : Fin 32768) (q : Fin 768) :
    val_main_v50 (F := Ideal) x5 x6 x7 x8 x9 x10 (ix2 t q) = val_main_v49 (F := Ideal) x5 x6 x7 x8 x9 x10 (ix3 t ⟨q.val / 256, by omega⟩ ⟨q.val % 256, by omega⟩) := by
  pointwise [val_main_v50]

theorem group_at (t : Fin 32768) (q : Fin 768) (k : Fin 3) (j : Fin 256) (h : q.val = k.val * 256 + j.val) :
    val_main_v50 (F := Ideal) x5 x6 x7 x8 x9 x10 (ix2 t q) = val_main_v49 (F := Ideal) x5 x6 x7 x8 x9 x10 (ix3 t k j) := by
  rw [flat_at]
  rw [show (⟨q.val / 256, by omega⟩ : Fin 3) = k from Fin.ext (by show q.val / 256 = k.val; omega), show (⟨q.val % 256, by omega⟩ : Fin 256) = j from Fin.ext (by show q.val % 256 = j.val; omega)]

theorem right_at (t : Fin 32768) (c : Fin 1024) :
    val_main_v57 (F := Ideal) x5 x6 x7 x8 x9 x10 x14 (ix2 t c) = MergeMath.right (fun j => x5 (ix2 t j)) (fun j => x7 (ix2 t j)) (fun j => x9 (ix2 t j)) (fun j => x6 (ix2 t j)) (fun j => x8 (ix2 t j)) (fun j => x10 (ix2 t j)) (fun k c => x14 (ix3 0 k c)) c := by
  have g0 : ∀ j : Fin 256, val_main_v50 (F := Ideal) x5 x6 x7 x8 x9 x10 (ix2 t ⟨j.val, by omega⟩) = MergeMath.weighed (x5 (ix2 t j)) (x6 (ix2 t j)) (x6 (ix2 t j)) (x8 (ix2 t j)) (x10 (ix2 t j)) := fun j => by
    rw [group_at x5 x6 x7 x8 x9 x10 t ⟨j.val, by omega⟩ 0 j (by show j.val = 0 * 256 + j.val; omega), part_at, (stack_o x5 x7 x9 t j).1, (stack_at x6 x8 x10 t j).1]
  have g1 : ∀ j : Fin 256, val_main_v50 (F := Ideal) x5 x6 x7 x8 x9 x10 (ix2 t ⟨256 + j.val, by omega⟩) = MergeMath.weighed (x7 (ix2 t j)) (x8 (ix2 t j)) (x6 (ix2 t j)) (x8 (ix2 t j)) (x10 (ix2 t j)) := fun j => by
    rw [group_at x5 x6 x7 x8 x9 x10 t ⟨256 + j.val, by omega⟩ 1 j (by show 256 + j.val = 1 * 256 + j.val; omega), part_at, (stack_o x5 x7 x9 t j).2.1, (stack_at x6 x8 x10 t j).2.1]
  have g2 : ∀ j : Fin 256, val_main_v50 (F := Ideal) x5 x6 x7 x8 x9 x10 (ix2 t ⟨512 + j.val, by omega⟩) = MergeMath.weighed (x9 (ix2 t j)) (x10 (ix2 t j)) (x6 (ix2 t j)) (x8 (ix2 t j)) (x10 (ix2 t j)) := fun j => by
    rw [group_at x5 x6 x7 x8 x9 x10 t ⟨512 + j.val, by omega⟩ 2 j (by show 512 + j.val = 2 * 256 + j.val; omega), part_at, (stack_o x5 x7 x9 t j).2.2, (stack_at x6 x8 x10 t j).2.2]
  pointwise [val_main_v57, val_main_v56]
  rw [MergeMath.sum_groups]
  unfold MergeMath.right
  refine congrArg₂ (· + ·) (congrArg₂ (· + ·) ?_ ?_) ?_
  · exact Finset.sum_congr rfl fun j _ => congrArg (· * _) (g0 j)
  · exact Finset.sum_congr rfl fun j _ => congrArg (· * _) (g1 j)
  · exact Finset.sum_congr rfl fun j _ => congrArg (· * _) (g2 j)

theorem result_at (t : Fin 32768) (c : Fin 1024) :
    val_main_v62 (F := Ideal) x0 x1 x2 x3 x4 x5 x6 x7 x8 x9 x10 x11 x12 x13 x14 x15 (ix2 t c)
      = MergeMath.merged (fun c => x0 (ix2 t c)) (fun c => x1 (ix2 t c)) (fun c => x2 (ix2 t c)) (fun c => x3 (ix2 t c)) (fun c => x4 (ix2 t c))
        (fun j => x5 (ix2 t j)) (fun j => x6 (ix2 t j)) (fun j => x7 (ix2 t j)) (fun j => x8 (ix2 t j)) (fun j => x9 (ix2 t j)) (fun j => x10 (ix2 t j))
        (fun c => x11 (ix2 0 c)) (fun c => x12 (ix2 0 c)) (fun k c => x13 (ix3 0 k c)) (fun k c => x14 (ix3 0 k c)) (fun k c => x15 (ix3 0 k c)) c := by
  pointwise [val_main_v62, val_main_v61, val_main_v60, val_main_v59, val_main_v58, val_main_v55, val_main_v54, val_main_v53, val_main_v52, val_main_v51]
  simp only [left_at, right_at]
  rfl

end Cert.MergeRefIdeal.RefValue

end
-- ==== Proof.MergeClaim.lean ====
/- The merge call's value claim: from equal arguments with real log-sum-exps the idealized kernel and the reference end with
   equal results, and the frames under that precondition. -/
module

public import proofs.«01_k».proof.Defs
public import proofs.«01_k».proof.Proof.MergeValue
public import proofs.«01_k».proof.Proof.MergeRefValue
public import proofs.«01_k».proof.Proof.Gen.MergeRefIdeal.Run
public import proofs.«01_k».proof.Proof.PreFacts
public import Idealize.ShloMosaic.Lib.Claim

@[expose] public section

set_option maxRecDepth 16384

noncomputable section

namespace Cert.MergeRefIdeal.RefValue

open Cert.MergeRefIdeal Cert.MergeRefIdeal.Gen Idealize.ShloMosaic Idealize.ShloMosaic.TcCoe Idealize.SL.Sem Idealize.ShloMosaic.StableHlo

/-- The reference's run, its result as the named stage. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62) = Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ?_) (Value.run (F := Ideal) m ρ)
  obtain ⟨h0, ha⟩ := h c
  exact ⟨h0.trans (Read.val_main_v62_eq (F := Ideal) m c), ha⟩

end Cert.MergeRefIdeal.RefValue

namespace Cert.Proof

open Idealize.ShloMosaic Idealize.SL.Sem

/-- The reference is host operations alone: its run keeps the arguments, and it declares no semaphore. -/
theorem merge_ref_frame : Cert.quiescent_MergeRefIdeal (hMergeRefIdeal := Cert.MergeRefIdeal.Gen.facts) := by
  intro m g _
  exact (θ_run Cert.MergeRefIdeal.defs _ _).mono
    (fun r h => ⟨fun c => (h c).2, sem_eq_zero_of_no_sems (by decide) r.2⟩)
    (Cert.MergeRefIdeal.Value.run (F := Ideal) m g)

theorem merge_ref_frame_pre : Cert.quiescent_MergeRefIdeal_pre_finite_lse (hMergeRefIdeal := Cert.MergeRefIdeal.Gen.facts) (hPre_finite_lse := Cert.Pre_finite_lse.Gen.facts) :=
  fun m g _ => merge_ref_frame m g trivial

theorem merge_result (m : (ℓ : Loc Cert.MergeIdeal.nD Cert.MergeIdeal.τ Cert.MergeIdeal.sig) → Buf (Elt Ideal) ℓ) (c : Dev Cert.MergeIdeal.nD) (h : Cert.MergeIdeal.KernelValue.Finite m c) :
    Cert.MergeRefIdeal.Read.val_main_v62 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) = (Cert.MergeIdeal.Gen.dats m 0 c).arrAt 17 (Cert.MergeIdeal.cfgs 0).N := by
  refine Eq.trans ?_ (Cert.MergeIdeal.KernelValue.final m c h).symm
  funext y
  idx_vars y
  exact Cert.MergeRefIdeal.RefValue.result_at _ _ _ _ _ _ _ _ _ _ _ _ _ _ _ _ y0 y1

/-- Both runs end at the same array from arguments that agree. -/
theorem merge_algebraic : Cert.algebraic_MergeIdeal_MergeRefIdeal_pre_finite_lse (hPre_finite_lse := Cert.Pre_finite_lse.Gen.facts) := by
  pair_intro
  · run_from Cert.MergeIdeal.Value.run_blocks m g
  · refine (θ_run Cert.MergeRefIdeal.defs _ _).mono (fun r h c => ?_) (Cert.MergeRefIdeal.RefValue.run_stages m' g')
    obtain ⟨h0, ha⟩ := h c
    obtain ⟨e0, e1, e2, e3, e4, e5, e6, e7, e8, e9, e10, e11, e12, e13, e14, e15⟩ := hagree c
    rw [e0, e1, e2, e3, e4, e5, e6, e7, e8, e9, e10, e11, e12, e13, e14, e15] at h0
    exact ⟨h0.trans (merge_result m c (Cert.PreFacts.lse_real _ _ _ _ _ _ _ _ _ _ _ _ _ _ _ _ (hpre c))), ha⟩

end Cert.Proof

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame.Runs
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame.Runs
public import proofs.«01_k».proof.Proof.Gen.ProjRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_finite_qk
public import proofs.«01_k».proof.Proof.Gen.Pre_finite_lse
public import proofs.«01_k».proof.Proof.Gen.FfnIdeal.Value
public import proofs.«01_k».proof.Proof.Gen.FfnRefIdeal.Run
public import proofs.«01_k».proof.Proof.Gen.ProjRefIdeal.Run
public import proofs.«01_k».proof.Proof.Gen.ProjRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.FfnClaim
public import proofs.«01_k».proof.Proof.ProjBitsFrame
public import proofs.«01_k».proof.Proof.ProjFrame
public import proofs.«01_k».proof.Proof.ProjClaim
public import proofs.«01_k».proof.Proof.AttnClaim
public import proofs.«01_k».proof.Proof.MergeClaim
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Proj.Gen.facts, Cert.ProjIdeal.Gen.facts, Cert.ProjRefIdeal.Gen.facts,
  Cert.Attn.Gen.facts, Cert.AttnIdeal.Gen.facts, Cert.AttnRefIdeal.Gen.facts,
  Cert.Merge.Gen.facts, Cert.MergeIdeal.Gen.facts, Cert.MergeRefIdeal.Gen.facts, Cert.Pre_finite_qk.Gen.facts, Cert.Pre_finite_lse.Gen.facts,
  fun m ρ _ => Cert.Ffn.Gen.frame m ρ, fun m ρ _ => Cert.FfnIdeal.Gen.frame m ρ, ffn_ref_frame,
  fun m ρ _ => Cert.Proj.Body.frame m ρ, fun m ρ _ => Cert.ProjIdeal.Body.frame m ρ, proj_ref_frame,
  fun m ρ _ => Cert.Attn.Gen.frame m ρ, fun m ρ _ => Cert.AttnIdeal.Gen.frame m ρ,
  fun m ρ _ => Cert.AttnIdeal.Gen.frame m ρ, attn_ref_frame, attn_ref_frame_pre,
  fun m ρ _ => Cert.Merge.Gen.frame m ρ, fun m ρ _ => Cert.MergeIdeal.Gen.frame m ρ,
  fun m ρ _ => Cert.MergeIdeal.Gen.frame m ρ, merge_ref_frame, merge_ref_frame_pre,
  trivial, ffn_algebraic, proj_preserves, proj_algebraic, attn_preserves, attn_algebraic, trivial, merge_algebraic⟩

end Cert.Proof

end
